-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands [hPre_operands : Cert.Pre_operands.Facts] (m : (ℓ : Loc Cert.KernelIdeal.nD Cert.KernelIdeal.τ Cert.KernelIdeal.sig) → Buf (Elt Ideal) ℓ) : Prop :=
  ∀ c : Dev Cert.KernelIdeal.nD,
    (Cert.Pre_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands [hPre_operands : Cert.Pre_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_operands [hKernelIdeal : Cert.KernelIdeal.Facts] [hPre_operands : Cert.Pre_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_operands [hReferenceIdeal : Cert.ReferenceIdeal.Facts] [hPre_operands : Cert.Pre_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_operands [hKernelIdeal : Cert.KernelIdeal.Facts] [hReferenceIdeal : Cert.ReferenceIdeal.Facts] [hPre_operands : Cert.Pre_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14_2)) (v1 : (c : Dev Cert.Kernel3Ideal.nD) → Buf (Elt Ideal) ((c.tc : Thread Cert.Kernel3Ideal.nD Cert.Kernel3Ideal.τ).loc Cert.Kernel3Ideal.main_v14_3)) (v2 : (c : Dev Cert.Kernel3Ideal.nD) → Buf (Elt Ideal) ((c.tc : Thread Cert.Kernel3Ideal.nD Cert.Kernel3Ideal.τ).loc Cert.Kernel3Ideal.main_v14_4)) (v3 : (c : Dev Cert.Kernel3Ideal.nD) → Buf (Elt Ideal) ((c.tc : Thread Cert.Kernel3Ideal.nD Cert.Kernel3Ideal.τ).loc Cert.Kernel3Ideal.main_v14_5)) (v4 : (c : Dev Cert.Kernel3Ideal.nD) → Buf (Elt Ideal) ((c.tc : Thread Cert.Kernel3Ideal.nD Cert.Kernel3Ideal.τ).loc Cert.Kernel3Ideal.main_v14_6)) (v5 : (c : Dev Cert.Kernel3Ideal.nD) → Buf (Elt Ideal) ((c.tc : Thread Cert.Kernel3Ideal.nD Cert.Kernel3Ideal.τ).loc Cert.Kernel3Ideal.main_v14_7)) (v6 : (c : Dev Cert.Kernel3Ideal.nD) → Buf (Elt Ideal) ((c.tc : Thread Cert.Kernel3Ideal.nD Cert.Kernel3Ideal.τ).loc Cert.Kernel3Ideal.main_v14_8)) (v7 : (c : Dev Cert.Kernel3Ideal.nD) → Buf (Elt Ideal) ((c.tc : Thread Cert.Kernel3Ideal.nD Cert.Kernel3Ideal.τ).loc Cert.Kernel3Ideal.main_v14_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_2) = v0 c
          ∧ r.2.mem ((c.tc : Thread Cert.Kernel3Ideal.nD Cert.Kernel3Ideal.τ).loc Cert.Kernel3Ideal.main_v14_3) = v1 c
          ∧ r.2.mem ((c.tc : Thread Cert.Kernel3Ideal.nD Cert.Kernel3Ideal.τ).loc Cert.Kernel3Ideal.main_v14_4) = v2 c
          ∧ r.2.mem ((c.tc : Thread Cert.Kernel3Ideal.nD Cert.Kernel3Ideal.τ).loc Cert.Kernel3Ideal.main_v14_5) = v3 c
          ∧ r.2.mem ((c.tc : Thread Cert.Kernel3Ideal.nD Cert.Kernel3Ideal.τ).loc Cert.Kernel3Ideal.main_v14_6) = v4 c
          ∧ r.2.mem ((c.tc : Thread Cert.Kernel3Ideal.nD Cert.Kernel3Ideal.τ).loc Cert.Kernel3Ideal.main_v14_7) = v5 c
          ∧ r.2.mem ((c.tc : Thread Cert.Kernel3Ideal.nD Cert.Kernel3Ideal.τ).loc Cert.Kernel3Ideal.main_v14_8) = v6 c
          ∧ r.2.mem ((c.tc : Thread Cert.Kernel3Ideal.nD Cert.Kernel3Ideal.τ).loc Cert.Kernel3Ideal.main_v14_9) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v20) = v3 c
          ∧ r.2.mem ((c.tc : Thread Cert.Reference3Ideal.nD Cert.Reference3Ideal.τ).loc Cert.Reference3Ideal.main_v35) = v4 c
          ∧ r.2.mem ((c.tc : Thread Cert.Reference3Ideal.nD Cert.Reference3Ideal.τ).loc Cert.Reference3Ideal.main_v22) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_v26) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_operands : Cert.Pre_operands.Facts),
    quiescent_Kernel (hKernel := hKernel)
    ∧ quiescent_KernelIdeal (hKernelIdeal := hKernelIdeal)
    ∧ quiescent_KernelIdeal_pre_operands (hKernelIdeal := hKernelIdeal) (hPre_operands := hPre_operands)
    ∧ quiescent_ReferenceIdeal (hReferenceIdeal := hReferenceIdeal)
    ∧ quiescent_ReferenceIdeal_pre_operands (hReferenceIdeal := hReferenceIdeal) (hPre_operands := hPre_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_operands (hKernelIdeal := hKernelIdeal) (hReferenceIdeal := hReferenceIdeal) (hPre_operands := hPre_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_operands.lean ====
abbrev S8x128x16384 : Shape := ⟨3, ![8, 128, 16384]⟩
abbrev S8x16384x128 : Shape := ⟨3, ![8, 16384, 128]⟩
abbrev S8x80x16384 : Shape := ⟨3, ![8, 80, 16384]⟩
abbrev S_ : Shape := ⟨0, ![]⟩
abbrev S8x1x16384 : Shape := ⟨3, ![8, 1, 16384]⟩
abbrev S8x16384 : Shape := ⟨2, ![8, 16384]⟩

class Facts : Prop where
  bitsLt_bf16_f32 : FTy.bits .bf16 < FTy.bits .f32
  bcast_S_S8x128x16384 : S_.BroadcastsInDim S8x128x16384 (![] : Fin 0 → Fin S8x128x16384.rank)
  reducesTo_S8x128x16384_S_d0_1_2 : S8x128x16384.ReducesTo [0, 1, 2] S_
  h_S_ : 0 < S_.numel
  bcast_S_S8x16384x128 : S_.BroadcastsInDim S8x16384x128 (![] : Fin 0 → Fin S8x16384x128.rank)
  reducesTo_S8x16384x128_S_d0_1_2 : S8x16384x128.ReducesTo [0, 1, 2] S_
  slices_S8x80x16384_S8x1x16384_0_64_0 : S8x80x16384.Slices ![0, 64, 0] S8x1x16384
  shapeCasts_S8x1x16384_S8x16384 : S8x1x16384.ShapeCasts S8x16384
  bcast_S_S8x16384 : S_.BroadcastsInDim S8x16384 (![] : Fin 0 → Fin S8x16384.rank)
  reducesTo_S8x16384_S_d0_1 : S8x16384.ReducesTo [0, 1] S_

variable [Facts]

def fn {F : FTy → Type} [FloatOps F] (main_arg0 : FVec F S8x128x16384 .bf16) (main_arg1 : FVec F S8x16384x128 .bf16) (main_arg2 : FVec F S8x80x16384 .bf16) : IVec S_ 1 :=
  let main_v0 : FVec F S8x128x16384 .f32 := (extf .f32 · bitsLt_bf16_f32) main_arg0
  let main_v1 : FVec F S8x128x16384 .f32 := Host.absf main_v0
  let main_cst : FVec F S_ .f32 := constant S_ .f32 0x7F800000#32
  let main_v2 : FVec F S8x128x16384 .f32 := broadcastInDim S8x128x16384 ![] bcast_S_S8x128x16384 main_cst
  let main_v3 : IVec S8x128x16384 1 := cmpf .olt main_v1 main_v2
  let main_c : IVec S_ 1 := constantI S_ 1 1#1
  let main_v4 : IVec S_ 1 := (fun x v => Host.reduce IntOp.andi x v reducesTo_S8x128x16384_S_d0_1_2 h_S_) main_v3 main_c
  let main_v5 : FVec F S8x16384x128 .f32 := (extf .f32 · bitsLt_bf16_f32) main_arg1
  let main_v6 : FVec F S8x16384x128 .f32 := Host.absf main_v5
  let main_cst_0 : FVec F S_ .f32 := constant S_ .f32 0x7F800000#32
  let main_v7 : FVec F S8x16384x128 .f32 := broadcastInDim S8x16384x128 ![] bcast_S_S8x16384x128 main_cst_0
  let main_v8 : IVec S8x16384x128 1 := cmpf .olt main_v6 main_v7
  let main_c_1 : IVec S_ 1 := constantI S_ 1 1#1
  let main_v9 : IVec S_ 1 := (fun x v => Host.reduce IntOp.andi x v reducesTo_S8x16384x128_S_d0_1_2 h_S_) main_v8 main_c_1
  let main_v10 : IVec S_ 1 := andi main_v4 main_v9
  let main_v11 : FVec F S8x80x16384 .f32 := (extf .f32 · bitsLt_bf16_f32) main_arg2
  let main_v12 : FVec F S8x1x16384 .f32 := (extractStridedSlice S8x1x16384 ![0, 64, 0] · slices_S8x80x16384_S8x1x16384_0_64_0) main_v11
  let main_v13 : FVec F S8x16384 .f32 := shapeCast S8x16384 main_v12 shapeCasts_S8x1x16384_S8x16384
  let main_cst_2 : FVec F S_ .f32 := constant S_ .f32 0x3F800000#32
  let main_v14 : FVec F S8x16384 .f32 := broadcastInDim S8x16384 ![] bcast_S_S8x16384 main_cst_2
  let main_v15 : IVec S8x16384 1 := cmpf .oeq main_v13 main_v14
  let main_c_3 : IVec S_ 1 := constantI S_ 1 1#1
  let main_v16 : IVec S_ 1 := (fun x v => Host.reduce IntOp.andi x v reducesTo_S8x16384_S_d0_1 h_S_) main_v15 main_c_3
  let main_v17 : IVec S_ 1 := andi main_v10 main_v16
  main_v17
-- ==== Kernel.lean ====
abbrev S8x128x16384 : Shape := ⟨3, ![8, 128, 16384]⟩
abbrev S8x16384x128 : Shape := ⟨3, ![8, 16384, 128]⟩
abbrev S8x80x16384 : Shape := ⟨3, ![8, 80, 16384]⟩
abbrev S16384x512 : Shape := ⟨2, ![16384, 512]⟩
abbrev S2x128x1024 : Shape := ⟨3, ![2, 128, 1024]⟩
abbrev S2x1024x128 : Shape := ⟨3, ![2, 1024, 128]⟩
abbrev S2x80x1024 : Shape := ⟨3, ![2, 80, 1024]⟩
abbrev S1024x128 : Shape := ⟨2, ![1024, 128]⟩
abbrev S2x1x1024 : Shape := ⟨3, ![2, 1, 1024]⟩
abbrev S8x1024x256 : Shape := ⟨3, ![8, 1024, 256]⟩
abbrev S2x16384x128 : Shape := ⟨3, ![2, 16384, 128]⟩
abbrev S2x80x16384 : Shape := ⟨3, ![2, 80, 16384]⟩
abbrev S1x1024x128 : Shape := ⟨3, ![1, 1024, 128]⟩
abbrev S1x128x256 : Shape := ⟨3, ![1, 128, 256]⟩
abbrev S128x256 : Shape := ⟨2, ![128, 256]⟩
abbrev S1024x256 : Shape := ⟨2, ![1024, 256]⟩
abbrev S1x1024x256 : Shape := ⟨3, ![1, 1024, 256]⟩
abbrev S1x80x1024 : Shape := ⟨3, ![1, 80, 1024]⟩
abbrev S80x1024 : Shape := ⟨2, ![80, 1024]⟩
abbrev S1x1x256 : Shape := ⟨3, ![1, 1, 256]⟩
abbrev S1x256 : Shape := ⟨2, ![1, 256]⟩
abbrev S512x256 : Shape := ⟨2, ![512, 256]⟩
abbrev S256x256 : Shape := ⟨2, ![256, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S256 : Shape := ⟨1, ![256]⟩
abbrev S80x256 : Shape := ⟨2, ![80, 256]⟩
abbrev S1x80x256 : Shape := ⟨3, ![1, 80, 256]⟩
abbrev S1x80x512 : Shape := ⟨3, ![1, 80, 512]⟩
abbrev S80x512 : Shape := ⟨2, ![80, 512]⟩
abbrev S768x256 : Shape := ⟨2, ![768, 256]⟩
abbrev S1x80x768 : Shape := ⟨3, ![1, 80, 768]⟩
abbrev S80x768 : Shape := ⟨2, ![80, 768]⟩
abbrev S384x256 : Shape := ⟨2, ![384, 256]⟩
abbrev S192x256 : Shape := ⟨2, ![192, 256]⟩
abbrev S96x256 : Shape := ⟨2, ![96, 256]⟩
abbrev S48x256 : Shape := ⟨2, ![48, 256]⟩
abbrev S24x256 : Shape := ⟨2, ![24, 256]⟩
abbrev S1x256x128 : Shape := ⟨3, ![1, 256, 128]⟩
abbrev S256x128 : Shape := ⟨2, ![256, 128]⟩
abbrev S1x256x256 : Shape := ⟨3, ![1, 256, 256]⟩
abbrev S1x512x128 : Shape := ⟨3, ![1, 512, 128]⟩
abbrev S512x128 : Shape := ⟨2, ![512, 128]⟩
abbrev S1x512x256 : Shape := ⟨3, ![1, 512, 256]⟩
abbrev S1x768x128 : Shape := ⟨3, ![1, 768, 128]⟩
abbrev S768x128 : Shape := ⟨2, ![768, 128]⟩
abbrev S1x768x256 : Shape := ⟨3, ![1, 768, 256]⟩
abbrev S1x64x1024 : Shape := ⟨3, ![1, 64, 1024]⟩
abbrev S64x1024 : Shape := ⟨2, ![64, 1024]⟩
abbrev S1x1x1024 : Shape := ⟨3, ![1, 1, 1024]⟩
abbrev S1x1024 : Shape := ⟨2, ![1, 1024]⟩
abbrev S128x1024 : Shape := ⟨2, ![128, 1024]⟩

abbrev nBuf : Space → Nat
  | .hbm => 4
  | .vmem => 17
  | .smem => 0
  | _ => 0

abbrev bufTy : (tb : Table) → Fin (tcTables nBuf tb) → BufTy
  | .hbm, ⟨0, _⟩ => ⟨S8x128x16384, .bf16⟩
  | .hbm, ⟨1, _⟩ => ⟨S8x16384x128, .bf16⟩
  | .hbm, ⟨2, _⟩ => ⟨S8x80x16384, .bf16⟩
  | .hbm, ⟨3, _⟩ => ⟨S16384x512, .f32⟩
  | .local _ .vmem, ⟨0, _⟩ => ⟨S2x128x1024, .bf16⟩
  | .local _ .vmem, ⟨1, _⟩ => ⟨S2x128x1024, .bf16⟩
  | .local _ .vmem, ⟨2, _⟩ => ⟨S2x128x1024, .bf16⟩
  | .local _ .vmem, ⟨3, _⟩ => ⟨S2x128x1024, .bf16⟩
  | .local _ .vmem, ⟨4, _⟩ => ⟨S2x1024x128, .bf16⟩
  | .local _ .vmem, ⟨5, _⟩ => ⟨S2x1024x128, .bf16⟩
  | .local _ .vmem, ⟨6, _⟩ => ⟨S2x80x1024, .bf16⟩
  | .local _ .vmem, ⟨7, _⟩ => ⟨S2x80x1024, .bf16⟩
  | .local _ .vmem, ⟨8, _⟩ => ⟨S1024x128, .f32⟩
  | .local _ .vmem, ⟨9, _⟩ => ⟨S1024x128, .f32⟩
  | .local _ .vmem, ⟨10, _⟩ => ⟨S2x1x1024, .f32⟩
  | .local _ .vmem, ⟨11, _⟩ => ⟨S2x80x1024, .f32⟩
  | .local _ .vmem, ⟨12, _⟩ => ⟨S8x1024x256, .f32⟩
  | .local _ .vmem, ⟨13, _⟩ => ⟨S8x1024x256, .f32⟩
  | .local _ .vmem, ⟨14, _⟩ => ⟨S8x1024x256, .f32⟩
  | .local _ .vmem, ⟨15, _⟩ => ⟨S2x16384x128, .bf16⟩
  | .local _ .vmem, ⟨16, _⟩ => ⟨S2x80x16384, .bf16⟩
  | _, _ => ⟨S8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 3 → Nat :=
  let c0_9 : Index := 0#32
  let arg1 : BitVec 32 := BitVec.ofNat 32 (i 1).val
  let c1024_i32 : BitVec 32 := 1024#32
  let v8 : BitVec 32 := Scalar.muli arg1 c1024_i32
  let v9 : BitVec 32 := v8
  let v11 : Index := Scalar.indexCast v9
  let c0_10 : Index := 0#32
  ![0, v11.toNat, 0]
def k0_off2 (i : grid0.Coords) : Fin 3 → Nat :=
  let c0_14 : Index := 0#32
  let c0_15 : Index := 0#32
  let arg1 : BitVec 32 := BitVec.ofNat 32 (i 1).val
  let c1024_i32 : BitVec 32 := 1024#32
  let v8 : BitVec 32 := Scalar.muli arg1 c1024_i32
  let v9 : BitVec 32 := v8
  let v16 : Index := Scalar.indexCast v9
  ![0, 0, v16.toNat]
def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_16 : BitVec 32 := 0#32
  let v22 : BitVec 1 := Scalar.cmpi .ne v21 c0_i32_16
  v22

def k0_mult2 : BitVec 32 :=
  let c0_i32_43 : BitVec 32 := 0#32
  c0_i32_43
def k0_mult3 : BitVec 32 :=
  let c0_i32_53 : BitVec 32 := 0#32
  c0_i32_53
def k0_mult4 : BitVec 32 :=
  let c0_i32_62 : BitVec 32 := 0#32
  c0_i32_62
def k0_mult5 : BitVec 32 :=
  let c0_i32_70 : BitVec 32 := 0#32
  c0_i32_70
def k0_mult6 : BitVec 32 :=
  let c0_i32_78 : BitVec 32 := 0#32
  c0_i32_78
def k0_mult7 : BitVec 32 :=
  let c0_i32_87 : BitVec 32 := 0#32
  c0_i32_87
def k0_mult8 : BitVec 32 :=
  let c0_i32_96 : BitVec 32 := 0#32
  c0_i32_96
def k0_mult9 : BitVec 32 :=
  let c0_i32_105 : BitVec 32 := 0#32
  c0_i32_105
def k0_cond2 (i : grid0.Coords) : BitVec 1 :=
  let arg1 : BitVec 32 := BitVec.ofNat 32 (i 1).val
  let c2_i32 : BitVec 32 := 2#32
  let c0_i32_17 : BitVec 32 := 0#32
  let v23 : BitVec 1 := Scalar.cmpi .eq c2_i32 c0_i32_17
  let c1_i32 : BitVec 32 := 1#32
  let v24 : BitVec 32 := Scalar.select v23 c1_i32 c2_i32
  let v25 : BitVec 32 := Scalar.remsi arg1 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c0_i32_21 : BitVec 32 := 0#32
  let v33 : BitVec 1 := Scalar.cmpi .eq v32 c0_i32_21
  let v34 : BitVec 32 := Scalar.extui v33
  let c0_i32_22 : BitVec 32 := 0#32
  let v35 : BitVec 1 := Scalar.cmpi .ne v34 c0_i32_22
  v35

@[reducible] def k0_t1_loop (i : grid0.Coords) : Scf.Loop 32 :=
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_53 : BitVec 32 := 1#32
  ⟨c0_i32_51, v85, c1_i32_53⟩
def k0_mult10 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_311 : BitVec 32 := 1#32
  let v609 : BitVec 32 := Scalar.addi v608 c1_i32_311
  let c1024_i32_312 : BitVec 32 := 1024#32
  let v610 : BitVec 32 := Scalar.muli v609 c1024_i32_312
  v610
def k0_off3 (i : grid0.Coords) (k0_t1 : Fin (k0_t1_loop i).trips) : Fin 3 → Nat :=
  let c0_313 : Index := 0#32
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_311 : BitVec 32 := 1#32
  let v609 : BitVec 32 := Scalar.addi v608 c1_i32_311
  let c1024_i32_312 : BitVec 32 := 1024#32
  let v610 : BitVec 32 := Scalar.muli v609 c1024_i32_312
  let v611 : BitVec 32 := v610
  let v612 : Index := Scalar.indexCast v611
  let c0_314 : Index := 0#32
  ![0, v612.toNat, 0]
def k0_mult11 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_327 : BitVec 32 := 1024#32
  let v624 : BitVec 32 := Scalar.muli v608 c1024_i32_327
  v624
def k0_off4 (i : grid0.Coords) (k0_t1 : Fin (k0_t1_loop i).trips) : Fin 3 → Nat :=
  let c0_328 : Index := 0#32
  let c0_329 : Index := 0#32
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_327 : BitVec 32 := 1024#32
  let v624 : BitVec 32 := Scalar.muli v608 c1024_i32_327
  let v625 : BitVec 32 := v624
  let v626 : Index := Scalar.indexCast v625
  ![0, 0, v626.toNat]
def k0_mult12 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_344 : BitVec 32 := 1#32
  let v673 : BitVec 32 := Scalar.addi v608 c1_i32_344
  let c1024_i32_345 : BitVec 32 := 1024#32
  let v674 : BitVec 32 := Scalar.muli v673 c1024_i32_345
  v674
def k0_mult13 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_360 : BitVec 32 := 1024#32
  let v688 : BitVec 32 := Scalar.muli v608 c1024_i32_360
  v688
def k0_mult14 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_377 : BitVec 32 := 1#32
  let v737 : BitVec 32 := Scalar.addi v608 c1_i32_377
  let c1024_i32_378 : BitVec 32 := 1024#32
  let v738 : BitVec 32 := Scalar.muli v737 c1024_i32_378
  v738
def k0_mult15 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_393 : BitVec 32 := 1024#32
  let v752 : BitVec 32 := Scalar.muli v608 c1024_i32_393
  v752
def k0_mult16 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_410 : BitVec 32 := 1#32
  let v801 : BitVec 32 := Scalar.addi v608 c1_i32_410
  let c1024_i32_411 : BitVec 32 := 1024#32
  let v802 : BitVec 32 := Scalar.muli v801 c1024_i32_411
  v802
def k0_mult17 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_426 : BitVec 32 := 1024#32
  let v816 : BitVec 32 := Scalar.muli v608 c1024_i32_426
  v816
def k0_mult18 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_443 : BitVec 32 := 1#32
  let v865 : BitVec 32 := Scalar.addi v608 c1_i32_443
  let c1024_i32_444 : BitVec 32 := 1024#32
  let v866 : BitVec 32 := Scalar.muli v865 c1024_i32_444
  v866
def k0_off5 (i : grid0.Coords) (k0_t1 : Fin (k0_t1_loop i).trips) : Fin 3 → Nat :=
  let c1_445 : Index := 1#32
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_443 : BitVec 32 := 1#32
  let v865 : BitVec 32 := Scalar.addi v608 c1_i32_443
  let c1024_i32_444 : BitVec 32 := 1024#32
  let v866 : BitVec 32 := Scalar.muli v865 c1024_i32_444
  let v867 : BitVec 32 := v866
  let v868 : Index := Scalar.indexCast v867
  let c0_446 : Index := 0#32
  ![1, v868.toNat, 0]
def k0_mult19 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_459 : BitVec 32 := 1024#32
  let v880 : BitVec 32 := Scalar.muli v608 c1024_i32_459
  v880
def k0_off6 (i : grid0.Coords) (k0_t1 : Fin (k0_t1_loop i).trips) : Fin 3 → Nat :=
  let c1_460 : Index := 1#32
  let c0_461 : Index := 0#32
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_459 : BitVec 32 := 1024#32
  let v880 : BitVec 32 := Scalar.muli v608 c1024_i32_459
  let v881 : BitVec 32 := v880
  let v882 : Index := Scalar.indexCast v881
  ![1, 0, v882.toNat]
def k0_mult20 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_476 : BitVec 32 := 1#32
  let v929 : BitVec 32 := Scalar.addi v608 c1_i32_476
  let c1024_i32_477 : BitVec 32 := 1024#32
  let v930 : BitVec 32 := Scalar.muli v929 c1024_i32_477
  v930
def k0_mult21 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_492 : BitVec 32 := 1024#32
  let v944 : BitVec 32 := Scalar.muli v608 c1024_i32_492
  v944
def k0_mult22 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_509 : BitVec 32 := 1#32
  let v993 : BitVec 32 := Scalar.addi v608 c1_i32_509
  let c1024_i32_510 : BitVec 32 := 1024#32
  let v994 : BitVec 32 := Scalar.muli v993 c1024_i32_510
  v994
def k0_mult23 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_525 : BitVec 32 := 1024#32
  let v1008 : BitVec 32 := Scalar.muli v608 c1024_i32_525
  v1008
def k0_mult24 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1_i32_542 : BitVec 32 := 1#32
  let v1057 : BitVec 32 := Scalar.addi v608 c1_i32_542
  let c1024_i32_543 : BitVec 32 := 1024#32
  let v1058 : BitVec 32 := Scalar.muli v1057 c1024_i32_543
  v1058
def k0_mult25 (i : grid0.Coords) (k0_t1 : Fin (k0_t1_loop i).trips) : BitVec 32 :=
  let c2_i32_310 : BitVec 32 := 2#32
  let c0_i32_51 : BitVec 32 := 0#32
  let c1_i32_53 : BitVec 32 := 1#32
  let arg14 : BitVec 32 := Scf.iv c0_i32_51 c1_i32_53 k0_t1
  let v608 : BitVec 32 := Scalar.muli c2_i32_310 arg14
  let c1024_i32_558 : BitVec 32 := 1024#32
  let v1072 : BitVec 32 := Scalar.muli v608 c1024_i32_558
  v1072
def k0_mult26 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_577 : BitVec 32 := 1#32
  let v1123 : BitVec 32 := Scalar.addi v1122 c1_i32_577
  let c1024_i32_578 : BitVec 32 := 1024#32
  let v1124 : BitVec 32 := Scalar.muli v1123 c1024_i32_578
  v1124
def k0_off7 (i : grid0.Coords) (k0_t1 : Fin (k0_t1_loop i).trips) : Fin 3 → Nat :=
  let c0_579 : Index := 0#32
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_577 : BitVec 32 := 1#32
  let v1123 : BitVec 32 := Scalar.addi v1122 c1_i32_577
  let c1024_i32_578 : BitVec 32 := 1024#32
  let v1124 : BitVec 32 := Scalar.muli v1123 c1024_i32_578
  let v1125 : BitVec 32 := v1124
  let v1126 : Index := Scalar.indexCast v1125
  let c0_580 : Index := 0#32
  ![0, v1126.toNat, 0]
def k0_mult27 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_593 : BitVec 32 := 1024#32
  let v1138 : BitVec 32 := Scalar.muli v1122 c1024_i32_593
  v1138
def k0_off8 (i : grid0.Coords) (k0_t1 : Fin (k0_t1_loop i).trips) : Fin 3 → Nat :=
  let c0_594 : Index := 0#32
  let c0_595 : Index := 0#32
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_593 : BitVec 32 := 1024#32
  let v1138 : BitVec 32 := Scalar.muli v1122 c1024_i32_593
  let v1139 : BitVec 32 := v1138
  let v1140 : Index := Scalar.indexCast v1139
  ![0, 0, v1140.toNat]
def k0_mult28 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_610 : BitVec 32 := 1#32
  let v1187 : BitVec 32 := Scalar.addi v1122 c1_i32_610
  let c1024_i32_611 : BitVec 32 := 1024#32
  let v1188 : BitVec 32 := Scalar.muli v1187 c1024_i32_611
  v1188
def k0_mult29 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_626 : BitVec 32 := 1024#32
  let v1202 : BitVec 32 := Scalar.muli v1122 c1024_i32_626
  v1202
def k0_mult30 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_643 : BitVec 32 := 1#32
  let v1251 : BitVec 32 := Scalar.addi v1122 c1_i32_643
  let c1024_i32_644 : BitVec 32 := 1024#32
  let v1252 : BitVec 32 := Scalar.muli v1251 c1024_i32_644
  v1252
def k0_mult31 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_659 : BitVec 32 := 1024#32
  let v1266 : BitVec 32 := Scalar.muli v1122 c1024_i32_659
  v1266
def k0_mult32 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_676 : BitVec 32 := 1#32
  let v1315 : BitVec 32 := Scalar.addi v1122 c1_i32_676
  let c1024_i32_677 : BitVec 32 := 1024#32
  let v1316 : BitVec 32 := Scalar.muli v1315 c1024_i32_677
  v1316
def k0_mult33 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_692 : BitVec 32 := 1024#32
  let v1330 : BitVec 32 := Scalar.muli v1122 c1024_i32_692
  v1330
def k0_mult34 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_709 : BitVec 32 := 1#32
  let v1379 : BitVec 32 := Scalar.addi v1122 c1_i32_709
  let c1024_i32_710 : BitVec 32 := 1024#32
  let v1380 : BitVec 32 := Scalar.muli v1379 c1024_i32_710
  v1380
def k0_off9 (i : grid0.Coords) (k0_t1 : Fin (k0_t1_loop i).trips) : Fin 3 → Nat :=
  let c1_711 : Index := 1#32
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_709 : BitVec 32 := 1#32
  let v1379 : BitVec 32 := Scalar.addi v1122 c1_i32_709
  let c1024_i32_710 : BitVec 32 := 1024#32
  let v1380 : BitVec 32 := Scalar.muli v1379 c1024_i32_710
  let v1381 : BitVec 32 := v1380
  let v1382 : Index := Scalar.indexCast v1381
  let c0_712 : Index := 0#32
  ![1, v1382.toNat, 0]
def k0_mult35 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_725 : BitVec 32 := 1024#32
  let v1394 : BitVec 32 := Scalar.muli v1122 c1024_i32_725
  v1394
def k0_off10 (i : grid0.Coords) (k0_t1 : Fin (k0_t1_loop i).trips) : Fin 3 → Nat :=
  let c1_726 : Index := 1#32
  let c0_727 : Index := 0#32
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_725 : BitVec 32 := 1024#32
  let v1394 : BitVec 32 := Scalar.muli v1122 c1024_i32_725
  let v1395 : BitVec 32 := v1394
  let v1396 : Index := Scalar.indexCast v1395
  ![1, 0, v1396.toNat]
def k0_mult36 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_742 : BitVec 32 := 1#32
  let v1443 : BitVec 32 := Scalar.addi v1122 c1_i32_742
  let c1024_i32_743 : BitVec 32 := 1024#32
  let v1444 : BitVec 32 := Scalar.muli v1443 c1024_i32_743
  v1444
def k0_mult37 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_758 : BitVec 32 := 1024#32
  let v1458 : BitVec 32 := Scalar.muli v1122 c1024_i32_758
  v1458
def k0_mult38 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_775 : BitVec 32 := 1#32
  let v1507 : BitVec 32 := Scalar.addi v1122 c1_i32_775
  let c1024_i32_776 : BitVec 32 := 1024#32
  let v1508 : BitVec 32 := Scalar.muli v1507 c1024_i32_776
  v1508
def k0_mult39 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_791 : BitVec 32 := 1024#32
  let v1522 : BitVec 32 := Scalar.muli v1122 c1024_i32_791
  v1522
def k0_mult40 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1_i32_808 : BitVec 32 := 1#32
  let v1571 : BitVec 32 := Scalar.addi v1122 c1_i32_808
  let c1024_i32_809 : BitVec 32 := 1024#32
  let v1572 : BitVec 32 := Scalar.muli v1571 c1024_i32_809
  v1572
def k0_mult41 (i : grid0.Coords) (k0_t1 : Fin (k0_t1_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t1
  let v1121 : BitVec 32 := Scalar.muli c2_i32_575 arg14
  let c1_i32_576 : BitVec 32 := 1#32
  let v1122 : BitVec 32 := Scalar.addi v1121 c1_i32_576
  let c1024_i32_824 : BitVec 32 := 1024#32
  let v1586 : BitVec 32 := Scalar.muli v1122 c1024_i32_824
  v1586
@[reducible] def k0_t2_loop (i : grid0.Coords) : Scf.Loop 32 :=
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let v82 : BitVec 32 := Scalar.addi c0_i32_51 v81
  let c1_i32_54 : BitVec 32 := 1#32
  ⟨v85, v82, c1_i32_54⟩
def k0_mult42 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_311 : BitVec 32 := 1#32
  let v609 : BitVec 32 := Scalar.addi v608 c1_i32_311
  let c1024_i32_312 : BitVec 32 := 1024#32
  let v610 : BitVec 32 := Scalar.muli v609 c1024_i32_312
  v610
def k0_off11 (i : grid0.Coords) (k0_t2 : Fin (k0_t2_loop i).trips) : Fin 3 → Nat :=
  let c0_313 : Index := 0#32
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_311 : BitVec 32 := 1#32
  let v609 : BitVec 32 := Scalar.addi v608 c1_i32_311
  let c1024_i32_312 : BitVec 32 := 1024#32
  let v610 : BitVec 32 := Scalar.muli v609 c1024_i32_312
  let v611 : BitVec 32 := v610
  let v612 : Index := Scalar.indexCast v611
  let c0_314 : Index := 0#32
  ![0, v612.toNat, 0]
def k0_mult43 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_327 : BitVec 32 := 1024#32
  let v624 : BitVec 32 := Scalar.muli v608 c1024_i32_327
  v624
def k0_off12 (i : grid0.Coords) (k0_t2 : Fin (k0_t2_loop i).trips) : Fin 3 → Nat :=
  let c0_328 : Index := 0#32
  let c0_329 : Index := 0#32
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_327 : BitVec 32 := 1024#32
  let v624 : BitVec 32 := Scalar.muli v608 c1024_i32_327
  let v625 : BitVec 32 := v624
  let v626 : Index := Scalar.indexCast v625
  ![0, 0, v626.toNat]
def k0_mult44 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_344 : BitVec 32 := 1#32
  let v673 : BitVec 32 := Scalar.addi v608 c1_i32_344
  let c1024_i32_345 : BitVec 32 := 1024#32
  let v674 : BitVec 32 := Scalar.muli v673 c1024_i32_345
  v674
def k0_mult45 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_360 : BitVec 32 := 1024#32
  let v688 : BitVec 32 := Scalar.muli v608 c1024_i32_360
  v688
def k0_mult46 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_377 : BitVec 32 := 1#32
  let v737 : BitVec 32 := Scalar.addi v608 c1_i32_377
  let c1024_i32_378 : BitVec 32 := 1024#32
  let v738 : BitVec 32 := Scalar.muli v737 c1024_i32_378
  v738
def k0_mult47 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_393 : BitVec 32 := 1024#32
  let v752 : BitVec 32 := Scalar.muli v608 c1024_i32_393
  v752
def k0_mult48 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_410 : BitVec 32 := 1#32
  let v801 : BitVec 32 := Scalar.addi v608 c1_i32_410
  let c1024_i32_411 : BitVec 32 := 1024#32
  let v802 : BitVec 32 := Scalar.muli v801 c1024_i32_411
  v802
def k0_mult49 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_426 : BitVec 32 := 1024#32
  let v816 : BitVec 32 := Scalar.muli v608 c1024_i32_426
  v816
def k0_mult50 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_443 : BitVec 32 := 1#32
  let v865 : BitVec 32 := Scalar.addi v608 c1_i32_443
  let c1024_i32_444 : BitVec 32 := 1024#32
  let v866 : BitVec 32 := Scalar.muli v865 c1024_i32_444
  v866
def k0_off13 (i : grid0.Coords) (k0_t2 : Fin (k0_t2_loop i).trips) : Fin 3 → Nat :=
  let c1_445 : Index := 1#32
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_443 : BitVec 32 := 1#32
  let v865 : BitVec 32 := Scalar.addi v608 c1_i32_443
  let c1024_i32_444 : BitVec 32 := 1024#32
  let v866 : BitVec 32 := Scalar.muli v865 c1024_i32_444
  let v867 : BitVec 32 := v866
  let v868 : Index := Scalar.indexCast v867
  let c0_446 : Index := 0#32
  ![1, v868.toNat, 0]
def k0_mult51 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_459 : BitVec 32 := 1024#32
  let v880 : BitVec 32 := Scalar.muli v608 c1024_i32_459
  v880
def k0_off14 (i : grid0.Coords) (k0_t2 : Fin (k0_t2_loop i).trips) : Fin 3 → Nat :=
  let c1_460 : Index := 1#32
  let c0_461 : Index := 0#32
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_459 : BitVec 32 := 1024#32
  let v880 : BitVec 32 := Scalar.muli v608 c1024_i32_459
  let v881 : BitVec 32 := v880
  let v882 : Index := Scalar.indexCast v881
  ![1, 0, v882.toNat]
def k0_mult52 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_476 : BitVec 32 := 1#32
  let v929 : BitVec 32 := Scalar.addi v608 c1_i32_476
  let c1024_i32_477 : BitVec 32 := 1024#32
  let v930 : BitVec 32 := Scalar.muli v929 c1024_i32_477
  v930
def k0_mult53 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_492 : BitVec 32 := 1024#32
  let v944 : BitVec 32 := Scalar.muli v608 c1024_i32_492
  v944
def k0_mult54 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_509 : BitVec 32 := 1#32
  let v993 : BitVec 32 := Scalar.addi v608 c1_i32_509
  let c1024_i32_510 : BitVec 32 := 1024#32
  let v994 : BitVec 32 := Scalar.muli v993 c1024_i32_510
  v994
def k0_mult55 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_525 : BitVec 32 := 1024#32
  let v1008 : BitVec 32 := Scalar.muli v608 c1024_i32_525
  v1008
def k0_mult56 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1_i32_542 : BitVec 32 := 1#32
  let v1057 : BitVec 32 := Scalar.addi v608 c1_i32_542
  let c1024_i32_543 : BitVec 32 := 1024#32
  let v1058 : BitVec 32 := Scalar.muli v1057 c1024_i32_543
  v1058
def k0_mult57 (i : grid0.Coords) (k0_t2 : Fin (k0_t2_loop i).trips) : BitVec 32 :=
  let c2_i32_310 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v608 : BitVec 32 := Scalar.muli c2_i32_310 arg14
  let c1024_i32_558 : BitVec 32 := 1024#32
  let v1072 : BitVec 32 := Scalar.muli v608 c1024_i32_558
  v1072
def k0_mult58 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_577 : BitVec 32 := 1#32
  let v1123 : BitVec 32 := Scalar.addi v1122 c1_i32_577
  let c1024_i32_578 : BitVec 32 := 1024#32
  let v1124 : BitVec 32 := Scalar.muli v1123 c1024_i32_578
  v1124
def k0_off15 (i : grid0.Coords) (k0_t2 : Fin (k0_t2_loop i).trips) : Fin 3 → Nat :=
  let c0_579 : Index := 0#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_577 : BitVec 32 := 1#32
  let v1123 : BitVec 32 := Scalar.addi v1122 c1_i32_577
  let c1024_i32_578 : BitVec 32 := 1024#32
  let v1124 : BitVec 32 := Scalar.muli v1123 c1024_i32_578
  let v1125 : BitVec 32 := v1124
  let v1126 : Index := Scalar.indexCast v1125
  let c0_580 : Index := 0#32
  ![0, v1126.toNat, 0]
def k0_mult59 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_593 : BitVec 32 := 1024#32
  let v1138 : BitVec 32 := Scalar.muli v1122 c1024_i32_593
  v1138
def k0_off16 (i : grid0.Coords) (k0_t2 : Fin (k0_t2_loop i).trips) : Fin 3 → Nat :=
  let c0_594 : Index := 0#32
  let c0_595 : Index := 0#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_593 : BitVec 32 := 1024#32
  let v1138 : BitVec 32 := Scalar.muli v1122 c1024_i32_593
  let v1139 : BitVec 32 := v1138
  let v1140 : Index := Scalar.indexCast v1139
  ![0, 0, v1140.toNat]
def k0_mult60 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_610 : BitVec 32 := 1#32
  let v1187 : BitVec 32 := Scalar.addi v1122 c1_i32_610
  let c1024_i32_611 : BitVec 32 := 1024#32
  let v1188 : BitVec 32 := Scalar.muli v1187 c1024_i32_611
  v1188
def k0_mult61 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_626 : BitVec 32 := 1024#32
  let v1202 : BitVec 32 := Scalar.muli v1122 c1024_i32_626
  v1202
def k0_mult62 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_643 : BitVec 32 := 1#32
  let v1251 : BitVec 32 := Scalar.addi v1122 c1_i32_643
  let c1024_i32_644 : BitVec 32 := 1024#32
  let v1252 : BitVec 32 := Scalar.muli v1251 c1024_i32_644
  v1252
def k0_mult63 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_659 : BitVec 32 := 1024#32
  let v1266 : BitVec 32 := Scalar.muli v1122 c1024_i32_659
  v1266
def k0_mult64 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_676 : BitVec 32 := 1#32
  let v1315 : BitVec 32 := Scalar.addi v1122 c1_i32_676
  let c1024_i32_677 : BitVec 32 := 1024#32
  let v1316 : BitVec 32 := Scalar.muli v1315 c1024_i32_677
  v1316
def k0_mult65 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_692 : BitVec 32 := 1024#32
  let v1330 : BitVec 32 := Scalar.muli v1122 c1024_i32_692
  v1330
def k0_mult66 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_709 : BitVec 32 := 1#32
  let v1379 : BitVec 32 := Scalar.addi v1122 c1_i32_709
  let c1024_i32_710 : BitVec 32 := 1024#32
  let v1380 : BitVec 32 := Scalar.muli v1379 c1024_i32_710
  v1380
def k0_off17 (i : grid0.Coords) (k0_t2 : Fin (k0_t2_loop i).trips) : Fin 3 → Nat :=
  let c1_711 : Index := 1#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_709 : BitVec 32 := 1#32
  let v1379 : BitVec 32 := Scalar.addi v1122 c1_i32_709
  let c1024_i32_710 : BitVec 32 := 1024#32
  let v1380 : BitVec 32 := Scalar.muli v1379 c1024_i32_710
  let v1381 : BitVec 32 := v1380
  let v1382 : Index := Scalar.indexCast v1381
  let c0_712 : Index := 0#32
  ![1, v1382.toNat, 0]
def k0_mult67 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_725 : BitVec 32 := 1024#32
  let v1394 : BitVec 32 := Scalar.muli v1122 c1024_i32_725
  v1394
def k0_off18 (i : grid0.Coords) (k0_t2 : Fin (k0_t2_loop i).trips) : Fin 3 → Nat :=
  let c1_726 : Index := 1#32
  let c0_727 : Index := 0#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_725 : BitVec 32 := 1024#32
  let v1394 : BitVec 32 := Scalar.muli v1122 c1024_i32_725
  let v1395 : BitVec 32 := v1394
  let v1396 : Index := Scalar.indexCast v1395
  ![1, 0, v1396.toNat]
def k0_mult68 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_742 : BitVec 32 := 1#32
  let v1443 : BitVec 32 := Scalar.addi v1122 c1_i32_742
  let c1024_i32_743 : BitVec 32 := 1024#32
  let v1444 : BitVec 32 := Scalar.muli v1443 c1024_i32_743
  v1444
def k0_mult69 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_758 : BitVec 32 := 1024#32
  let v1458 : BitVec 32 := Scalar.muli v1122 c1024_i32_758
  v1458
def k0_mult70 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_775 : BitVec 32 := 1#32
  let v1507 : BitVec 32 := Scalar.addi v1122 c1_i32_775
  let c1024_i32_776 : BitVec 32 := 1024#32
  let v1508 : BitVec 32 := Scalar.muli v1507 c1024_i32_776
  v1508
def k0_mult71 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_791 : BitVec 32 := 1024#32
  let v1522 : BitVec 32 := Scalar.muli v1122 c1024_i32_791
  v1522
def k0_mult72 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1_i32_808 : BitVec 32 := 1#32
  let v1571 : BitVec 32 := Scalar.addi v1122 c1_i32_808
  let c1024_i32_809 : BitVec 32 := 1024#32
  let v1572 : BitVec 32 := Scalar.muli v1571 c1024_i32_809
  v1572
def k0_mult73 (i : grid0.Coords) (k0_t2 : Fin (k0_t2_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t2
  let v1121 : BitVec 32 := Scalar.muli c2_i32_575 arg14
  let c1_i32_576 : BitVec 32 := 1#32
  let v1122 : BitVec 32 := Scalar.addi v1121 c1_i32_576
  let c1024_i32_824 : BitVec 32 := 1024#32
  let v1586 : BitVec 32 := Scalar.muli v1122 c1024_i32_824
  v1586
def k0_mult74 : BitVec 32 :=
  let c0_i32_55 : BitVec 32 := 0#32
  c0_i32_55
def k0_mult75 (i : grid0.Coords) : BitVec 32 :=
  let arg1 : BitVec 32 := BitVec.ofNat 32 (i 1).val
  let c1024_i32_72 : BitVec 32 := 1024#32
  let v106 : BitVec 32 := Scalar.muli arg1 c1024_i32_72
  v106
def k0_off19 (i : grid0.Coords) : Fin 3 → Nat :=
  let c0_73 : Index := 0#32
  let c0_74 : Index := 0#32
  let arg1 : BitVec 32 := BitVec.ofNat 32 (i 1).val
  let c1024_i32_72 : BitVec 32 := 1024#32
  let v106 : BitVec 32 := Scalar.muli arg1 c1024_i32_72
  let v107 : BitVec 32 := v106
  let v108 : Index := Scalar.indexCast v107
  ![0, 0, v108.toNat]
def k0_mult76 : BitVec 32 :=
  let c0_i32_89 : BitVec 32 := 0#32
  c0_i32_89
def k0_mult77 (i : grid0.Coords) : BitVec 32 :=
  let arg1 : BitVec 32 := BitVec.ofNat 32 (i 1).val
  let c1024_i32_104 : BitVec 32 := 1024#32
  let v169 : BitVec 32 := Scalar.muli arg1 c1024_i32_104
  v169
def k0_off20 (i : grid0.Coords) : Fin 3 → Nat :=
  let c0_105 : Index := 0#32
  let c0_106 : Index := 0#32
  let arg1 : BitVec 32 := BitVec.ofNat 32 (i 1).val
  let c1024_i32_104 : BitVec 32 := 1024#32
  let v169 : BitVec 32 := Scalar.muli arg1 c1024_i32_104
  let v170 : BitVec 32 := v169
  let v171 : Index := Scalar.indexCast v170
  ![0, 0, v171.toNat]
def k0_mult78 : BitVec 32 :=
  let c0_i32_121 : BitVec 32 := 0#32
  c0_i32_121
def k0_mult79 (i : grid0.Coords) : BitVec 32 :=
  let arg1 : BitVec 32 := BitVec.ofNat 32 (i 1).val
  let c1024_i32_135 : BitVec 32 := 1024#32
  let v235 : BitVec 32 := Scalar.muli arg1 c1024_i32_135
  v235
def k0_off21 (i : grid0.Coords) : Fin 3 → Nat :=
  let c0_136 : Index := 0#32
  let c0_137 : Index := 0#32
  let arg1 : BitVec 32 := BitVec.ofNat 32 (i 1).val
  let c1024_i32_135 : BitVec 32 := 1024#32
  let v235 : BitVec 32 := Scalar.muli arg1 c1024_i32_135
  let v236 : BitVec 32 := v235
  let v237 : Index := Scalar.indexCast v236
  ![0, 0, v237.toNat]
def k0_mult80 : BitVec 32 :=
  let c0_i32_152 : BitVec 32 := 0#32
  c0_i32_152
def k0_mult81 (i : grid0.Coords) : BitVec 32 :=
  let arg1 : BitVec 32 := BitVec.ofNat 32 (i 1).val
  let c1024_i32_165 : BitVec 32 := 1024#32
  let v298 : BitVec 32 := Scalar.muli arg1 c1024_i32_165
  v298
def k0_off22 (i : grid0.Coords) : Fin 3 → Nat :=
  let c0_166 : Index := 0#32
  let c0_167 : Index := 0#32
  let arg1 : BitVec 32 := BitVec.ofNat 32 (i 1).val
  let c1024_i32_165 : BitVec 32 := 1024#32
  let v298 : BitVec 32 := Scalar.muli arg1 c1024_i32_165
  let v299 : BitVec 32 := v298
  let v300 : Index := Scalar.indexCast v299
  ![0, 0, v300.toNat]
def k0_mult82 : BitVec 32 :=
  let c0_i32_182 : BitVec 32 := 0#32
  c0_i32_182
def k0_mult83 (i : grid0.Coords) : BitVec 32 :=
  let arg1 : BitVec 32 := BitVec.ofNat 32 (i 1).val
  let c1024_i32_197 : BitVec 32 := 1024#32
  let v367 : BitVec 32 := Scalar.muli arg1 c1024_i32_197
  v367
def k0_off23 (i : grid0.Coords) : Fin 3 → Nat :=
  let c1_198 : Index := 1#32
  let c0_199 : Index := 0#32
  let arg1 : BitVec 32 := BitVec.ofNat 32 (i 1).val
  let c1024_i32_197 : BitVec 32 := 1024#32
  let v367 : BitVec 32 := Scalar.muli arg1 c1024_i32_197
  let v368 : BitVec 32 := v367
  let v369 : Index := Scalar.indexCast v368
  ![1, 0, v369.toNat]
def k0_mult84 : BitVec 32 :=
  let c0_i32_214 : BitVec 32 := 0#32
  c0_i32_214
def k0_mult85 (i : grid0.Coords) : BitVec 32 :=
  let arg1 : BitVec 32 := BitVec.ofNat 32 (i 1).val
  let c1024_i32_229 : BitVec 32 := 1024#32
  let v430 : BitVec 32 := Scalar.muli arg1 c1024_i32_229
  v430
def k0_off24 (i : grid0.Coords) : Fin 3 → Nat :=
  let c1_230 : Index := 1#32
  let c0_231 : Index := 0#32
  let arg1 : BitVec 32 := BitVec.ofNat 32 (i 1).val
  let c1024_i32_229 : BitVec 32 := 1024#32
  let v430 : BitVec 32 := Scalar.muli arg1 c1024_i32_229
  let v431 : BitVec 32 := v430
  let v432 : Index := Scalar.indexCast v431
  ![1, 0, v432.toNat]
def k0_mult86 : BitVec 32 :=
  let c0_i32_246 : BitVec 32 := 0#32
  c0_i32_246
def k0_mult87 (i : grid0.Coords) : BitVec 32 :=
  let arg1 : BitVec 32 := BitVec.ofNat 32 (i 1).val
  let c1024_i32_261 : BitVec 32 := 1024#32
  let v496 : BitVec 32 := Scalar.muli arg1 c1024_i32_261
  v496
def k0_off25 (i : grid0.Coords) : Fin 3 → Nat :=
  let c1_262 : Index := 1#32
  let c0_263 : Index := 0#32
  let arg1 : BitVec 32 := BitVec.ofNat 32 (i 1).val
  let c1024_i32_261 : BitVec 32 := 1024#32
  let v496 : BitVec 32 := Scalar.muli arg1 c1024_i32_261
  let v497 : BitVec 32 := v496
  let v498 : Index := Scalar.indexCast v497
  ![1, 0, v498.toNat]
def k0_mult88 : BitVec 32 :=
  let c0_i32_278 : BitVec 32 := 0#32
  c0_i32_278
def k0_mult89 (i : grid0.Coords) : BitVec 32 :=
  let arg1 : BitVec 32 := BitVec.ofNat 32 (i 1).val
  let c1024_i32_293 : BitVec 32 := 1024#32
  let v559 : BitVec 32 := Scalar.muli arg1 c1024_i32_293
  v559
def k0_off26 (i : grid0.Coords) : Fin 3 → Nat :=
  let c1_294 : Index := 1#32
  let c0_295 : Index := 0#32
  let arg1 : BitVec 32 := BitVec.ofNat 32 (i 1).val
  let c1024_i32_293 : BitVec 32 := 1024#32
  let v559 : BitVec 32 := Scalar.muli arg1 c1024_i32_293
  let v560 : BitVec 32 := v559
  let v561 : Index := Scalar.indexCast v560
  ![1, 0, v561.toNat]
def k0_cond3 (i : grid0.Coords) : BitVec 1 :=
  let arg1 : BitVec 32 := BitVec.ofNat 32 (i 1).val
  let c2_i32_23 : BitVec 32 := 2#32
  let c0_i32_24 : BitVec 32 := 0#32
  let v36 : BitVec 1 := Scalar.cmpi .eq c2_i32_23 c0_i32_24
  let c1_i32_25 : BitVec 32 := 1#32
  let v37 : BitVec 32 := Scalar.select v36 c1_i32_25 c2_i32_23
  let v38 : BitVec 32 := Scalar.remsi arg1 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c1_i32_29 : BitVec 32 := 1#32
  let v46 : BitVec 1 := Scalar.cmpi .eq v45 c1_i32_29
  let v47 : BitVec 32 := Scalar.extui v46
  let c0_i32_30 : BitVec 32 := 0#32
  let v48 : BitVec 1 := Scalar.cmpi .ne v47 c0_i32_30
  v48

@[reducible] def k0_t3_loop (i : grid0.Coords) : Scf.Loop 32 :=
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_53 : BitVec 32 := 1#32
  ⟨c0_i32_51, v85, c1_i32_53⟩
def k0_mult90 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_576 : BitVec 32 := 1#32
  let v1122 : BitVec 32 := Scalar.addi v1121 c1_i32_576
  let c1024_i32_577 : BitVec 32 := 1024#32
  let v1123 : BitVec 32 := Scalar.muli v1122 c1024_i32_577
  v1123
def k0_off27 (i : grid0.Coords) (k0_t3 : Fin (k0_t3_loop i).trips) : Fin 3 → Nat :=
  let c0_578 : Index := 0#32
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_576 : BitVec 32 := 1#32
  let v1122 : BitVec 32 := Scalar.addi v1121 c1_i32_576
  let c1024_i32_577 : BitVec 32 := 1024#32
  let v1123 : BitVec 32 := Scalar.muli v1122 c1024_i32_577
  let v1124 : BitVec 32 := v1123
  let v1125 : Index := Scalar.indexCast v1124
  let c0_579 : Index := 0#32
  ![0, v1125.toNat, 0]
def k0_mult91 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_592 : BitVec 32 := 1024#32
  let v1137 : BitVec 32 := Scalar.muli v1121 c1024_i32_592
  v1137
def k0_off28 (i : grid0.Coords) (k0_t3 : Fin (k0_t3_loop i).trips) : Fin 3 → Nat :=
  let c0_593 : Index := 0#32
  let c0_594 : Index := 0#32
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_592 : BitVec 32 := 1024#32
  let v1137 : BitVec 32 := Scalar.muli v1121 c1024_i32_592
  let v1138 : BitVec 32 := v1137
  let v1139 : Index := Scalar.indexCast v1138
  ![0, 0, v1139.toNat]
def k0_mult92 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_609 : BitVec 32 := 1#32
  let v1186 : BitVec 32 := Scalar.addi v1121 c1_i32_609
  let c1024_i32_610 : BitVec 32 := 1024#32
  let v1187 : BitVec 32 := Scalar.muli v1186 c1024_i32_610
  v1187
def k0_mult93 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_625 : BitVec 32 := 1024#32
  let v1201 : BitVec 32 := Scalar.muli v1121 c1024_i32_625
  v1201
def k0_mult94 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_642 : BitVec 32 := 1#32
  let v1250 : BitVec 32 := Scalar.addi v1121 c1_i32_642
  let c1024_i32_643 : BitVec 32 := 1024#32
  let v1251 : BitVec 32 := Scalar.muli v1250 c1024_i32_643
  v1251
def k0_mult95 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_658 : BitVec 32 := 1024#32
  let v1265 : BitVec 32 := Scalar.muli v1121 c1024_i32_658
  v1265
def k0_mult96 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_675 : BitVec 32 := 1#32
  let v1314 : BitVec 32 := Scalar.addi v1121 c1_i32_675
  let c1024_i32_676 : BitVec 32 := 1024#32
  let v1315 : BitVec 32 := Scalar.muli v1314 c1024_i32_676
  v1315
def k0_mult97 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_691 : BitVec 32 := 1024#32
  let v1329 : BitVec 32 := Scalar.muli v1121 c1024_i32_691
  v1329
def k0_mult98 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_708 : BitVec 32 := 1#32
  let v1378 : BitVec 32 := Scalar.addi v1121 c1_i32_708
  let c1024_i32_709 : BitVec 32 := 1024#32
  let v1379 : BitVec 32 := Scalar.muli v1378 c1024_i32_709
  v1379
def k0_off29 (i : grid0.Coords) (k0_t3 : Fin (k0_t3_loop i).trips) : Fin 3 → Nat :=
  let c1_710 : Index := 1#32
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_708 : BitVec 32 := 1#32
  let v1378 : BitVec 32 := Scalar.addi v1121 c1_i32_708
  let c1024_i32_709 : BitVec 32 := 1024#32
  let v1379 : BitVec 32 := Scalar.muli v1378 c1024_i32_709
  let v1380 : BitVec 32 := v1379
  let v1381 : Index := Scalar.indexCast v1380
  let c0_711 : Index := 0#32
  ![1, v1381.toNat, 0]
def k0_mult99 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_724 : BitVec 32 := 1024#32
  let v1393 : BitVec 32 := Scalar.muli v1121 c1024_i32_724
  v1393
def k0_off30 (i : grid0.Coords) (k0_t3 : Fin (k0_t3_loop i).trips) : Fin 3 → Nat :=
  let c1_725 : Index := 1#32
  let c0_726 : Index := 0#32
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_724 : BitVec 32 := 1024#32
  let v1393 : BitVec 32 := Scalar.muli v1121 c1024_i32_724
  let v1394 : BitVec 32 := v1393
  let v1395 : Index := Scalar.indexCast v1394
  ![1, 0, v1395.toNat]
def k0_mult100 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_741 : BitVec 32 := 1#32
  let v1442 : BitVec 32 := Scalar.addi v1121 c1_i32_741
  let c1024_i32_742 : BitVec 32 := 1024#32
  let v1443 : BitVec 32 := Scalar.muli v1442 c1024_i32_742
  v1443
def k0_mult101 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_757 : BitVec 32 := 1024#32
  let v1457 : BitVec 32 := Scalar.muli v1121 c1024_i32_757
  v1457
def k0_mult102 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_774 : BitVec 32 := 1#32
  let v1506 : BitVec 32 := Scalar.addi v1121 c1_i32_774
  let c1024_i32_775 : BitVec 32 := 1024#32
  let v1507 : BitVec 32 := Scalar.muli v1506 c1024_i32_775
  v1507
def k0_mult103 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_790 : BitVec 32 := 1024#32
  let v1521 : BitVec 32 := Scalar.muli v1121 c1024_i32_790
  v1521
def k0_mult104 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1_i32_807 : BitVec 32 := 1#32
  let v1570 : BitVec 32 := Scalar.addi v1121 c1_i32_807
  let c1024_i32_808 : BitVec 32 := 1024#32
  let v1571 : BitVec 32 := Scalar.muli v1570 c1024_i32_808
  v1571
def k0_mult105 (i : grid0.Coords) (k0_t3 : Fin (k0_t3_loop i).trips) : BitVec 32 :=
  let c2_i32_575 : BitVec 32 := 2#32
  let c0_i32_51 : BitVec 32 := 0#32
  let c1_i32_53 : BitVec 32 := 1#32
  let arg14 : BitVec 32 := Scf.iv c0_i32_51 c1_i32_53 k0_t3
  let v1121 : BitVec 32 := Scalar.muli c2_i32_575 arg14
  let c1024_i32_823 : BitVec 32 := 1024#32
  let v1585 : BitVec 32 := Scalar.muli v1121 c1024_i32_823
  v1585
def k0_mult106 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_842 : BitVec 32 := 1#32
  let v1636 : BitVec 32 := Scalar.addi v1635 c1_i32_842
  let c1024_i32_843 : BitVec 32 := 1024#32
  let v1637 : BitVec 32 := Scalar.muli v1636 c1024_i32_843
  v1637
def k0_off31 (i : grid0.Coords) (k0_t3 : Fin (k0_t3_loop i).trips) : Fin 3 → Nat :=
  let c0_844 : Index := 0#32
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_842 : BitVec 32 := 1#32
  let v1636 : BitVec 32 := Scalar.addi v1635 c1_i32_842
  let c1024_i32_843 : BitVec 32 := 1024#32
  let v1637 : BitVec 32 := Scalar.muli v1636 c1024_i32_843
  let v1638 : BitVec 32 := v1637
  let v1639 : Index := Scalar.indexCast v1638
  let c0_845 : Index := 0#32
  ![0, v1639.toNat, 0]
def k0_mult107 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_858 : BitVec 32 := 1024#32
  let v1651 : BitVec 32 := Scalar.muli v1635 c1024_i32_858
  v1651
def k0_off32 (i : grid0.Coords) (k0_t3 : Fin (k0_t3_loop i).trips) : Fin 3 → Nat :=
  let c0_859 : Index := 0#32
  let c0_860 : Index := 0#32
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_858 : BitVec 32 := 1024#32
  let v1651 : BitVec 32 := Scalar.muli v1635 c1024_i32_858
  let v1652 : BitVec 32 := v1651
  let v1653 : Index := Scalar.indexCast v1652
  ![0, 0, v1653.toNat]
def k0_mult108 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_875 : BitVec 32 := 1#32
  let v1700 : BitVec 32 := Scalar.addi v1635 c1_i32_875
  let c1024_i32_876 : BitVec 32 := 1024#32
  let v1701 : BitVec 32 := Scalar.muli v1700 c1024_i32_876
  v1701
def k0_mult109 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_891 : BitVec 32 := 1024#32
  let v1715 : BitVec 32 := Scalar.muli v1635 c1024_i32_891
  v1715
def k0_mult110 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_908 : BitVec 32 := 1#32
  let v1764 : BitVec 32 := Scalar.addi v1635 c1_i32_908
  let c1024_i32_909 : BitVec 32 := 1024#32
  let v1765 : BitVec 32 := Scalar.muli v1764 c1024_i32_909
  v1765
def k0_mult111 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_924 : BitVec 32 := 1024#32
  let v1779 : BitVec 32 := Scalar.muli v1635 c1024_i32_924
  v1779
def k0_mult112 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_941 : BitVec 32 := 1#32
  let v1828 : BitVec 32 := Scalar.addi v1635 c1_i32_941
  let c1024_i32_942 : BitVec 32 := 1024#32
  let v1829 : BitVec 32 := Scalar.muli v1828 c1024_i32_942
  v1829
def k0_mult113 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_957 : BitVec 32 := 1024#32
  let v1843 : BitVec 32 := Scalar.muli v1635 c1024_i32_957
  v1843
def k0_mult114 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_974 : BitVec 32 := 1#32
  let v1892 : BitVec 32 := Scalar.addi v1635 c1_i32_974
  let c1024_i32_975 : BitVec 32 := 1024#32
  let v1893 : BitVec 32 := Scalar.muli v1892 c1024_i32_975
  v1893
def k0_off33 (i : grid0.Coords) (k0_t3 : Fin (k0_t3_loop i).trips) : Fin 3 → Nat :=
  let c1_976 : Index := 1#32
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_974 : BitVec 32 := 1#32
  let v1892 : BitVec 32 := Scalar.addi v1635 c1_i32_974
  let c1024_i32_975 : BitVec 32 := 1024#32
  let v1893 : BitVec 32 := Scalar.muli v1892 c1024_i32_975
  let v1894 : BitVec 32 := v1893
  let v1895 : Index := Scalar.indexCast v1894
  let c0_977 : Index := 0#32
  ![1, v1895.toNat, 0]
def k0_mult115 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_990 : BitVec 32 := 1024#32
  let v1907 : BitVec 32 := Scalar.muli v1635 c1024_i32_990
  v1907
def k0_off34 (i : grid0.Coords) (k0_t3 : Fin (k0_t3_loop i).trips) : Fin 3 → Nat :=
  let c1_991 : Index := 1#32
  let c0_992 : Index := 0#32
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_990 : BitVec 32 := 1024#32
  let v1907 : BitVec 32 := Scalar.muli v1635 c1024_i32_990
  let v1908 : BitVec 32 := v1907
  let v1909 : Index := Scalar.indexCast v1908
  ![1, 0, v1909.toNat]
def k0_mult116 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_1007 : BitVec 32 := 1#32
  let v1956 : BitVec 32 := Scalar.addi v1635 c1_i32_1007
  let c1024_i32_1008 : BitVec 32 := 1024#32
  let v1957 : BitVec 32 := Scalar.muli v1956 c1024_i32_1008
  v1957
def k0_mult117 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_1023 : BitVec 32 := 1024#32
  let v1971 : BitVec 32 := Scalar.muli v1635 c1024_i32_1023
  v1971
def k0_mult118 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_1040 : BitVec 32 := 1#32
  let v2020 : BitVec 32 := Scalar.addi v1635 c1_i32_1040
  let c1024_i32_1041 : BitVec 32 := 1024#32
  let v2021 : BitVec 32 := Scalar.muli v2020 c1024_i32_1041
  v2021
def k0_mult119 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_1056 : BitVec 32 := 1024#32
  let v2035 : BitVec 32 := Scalar.muli v1635 c1024_i32_1056
  v2035
def k0_mult120 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1_i32_1073 : BitVec 32 := 1#32
  let v2084 : BitVec 32 := Scalar.addi v1635 c1_i32_1073
  let c1024_i32_1074 : BitVec 32 := 1024#32
  let v2085 : BitVec 32 := Scalar.muli v2084 c1024_i32_1074
  v2085
def k0_mult121 (i : grid0.Coords) (k0_t3 : Fin (k0_t3_loop i).trips) : BitVec 32 :=
  let c2_i32_840 : BitVec 32 := 2#32
  let c0_i32_51 : BitVec 32 := 0#32
  let c1_i32_53 : BitVec 32 := 1#32
  let arg14 : BitVec 32 := Scf.iv c0_i32_51 c1_i32_53 k0_t3
  let v1634 : BitVec 32 := Scalar.muli c2_i32_840 arg14
  let c1_i32_841 : BitVec 32 := 1#32
  let v1635 : BitVec 32 := Scalar.addi v1634 c1_i32_841
  let c1024_i32_1089 : BitVec 32 := 1024#32
  let v2099 : BitVec 32 := Scalar.muli v1635 c1024_i32_1089
  v2099
@[reducible] def k0_t4_loop (i : grid0.Coords) : Scf.Loop 32 :=
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let v82 : BitVec 32 := Scalar.addi c0_i32_51 v81
  let c1_i32_54 : BitVec 32 := 1#32
  ⟨v85, v82, c1_i32_54⟩
def k0_mult122 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_576 : BitVec 32 := 1#32
  let v1122 : BitVec 32 := Scalar.addi v1121 c1_i32_576
  let c1024_i32_577 : BitVec 32 := 1024#32
  let v1123 : BitVec 32 := Scalar.muli v1122 c1024_i32_577
  v1123
def k0_off35 (i : grid0.Coords) (k0_t4 : Fin (k0_t4_loop i).trips) : Fin 3 → Nat :=
  let c0_578 : Index := 0#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_576 : BitVec 32 := 1#32
  let v1122 : BitVec 32 := Scalar.addi v1121 c1_i32_576
  let c1024_i32_577 : BitVec 32 := 1024#32
  let v1123 : BitVec 32 := Scalar.muli v1122 c1024_i32_577
  let v1124 : BitVec 32 := v1123
  let v1125 : Index := Scalar.indexCast v1124
  let c0_579 : Index := 0#32
  ![0, v1125.toNat, 0]
def k0_mult123 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_592 : BitVec 32 := 1024#32
  let v1137 : BitVec 32 := Scalar.muli v1121 c1024_i32_592
  v1137
def k0_off36 (i : grid0.Coords) (k0_t4 : Fin (k0_t4_loop i).trips) : Fin 3 → Nat :=
  let c0_593 : Index := 0#32
  let c0_594 : Index := 0#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_592 : BitVec 32 := 1024#32
  let v1137 : BitVec 32 := Scalar.muli v1121 c1024_i32_592
  let v1138 : BitVec 32 := v1137
  let v1139 : Index := Scalar.indexCast v1138
  ![0, 0, v1139.toNat]
def k0_mult124 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_609 : BitVec 32 := 1#32
  let v1186 : BitVec 32 := Scalar.addi v1121 c1_i32_609
  let c1024_i32_610 : BitVec 32 := 1024#32
  let v1187 : BitVec 32 := Scalar.muli v1186 c1024_i32_610
  v1187
def k0_mult125 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_625 : BitVec 32 := 1024#32
  let v1201 : BitVec 32 := Scalar.muli v1121 c1024_i32_625
  v1201
def k0_mult126 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_642 : BitVec 32 := 1#32
  let v1250 : BitVec 32 := Scalar.addi v1121 c1_i32_642
  let c1024_i32_643 : BitVec 32 := 1024#32
  let v1251 : BitVec 32 := Scalar.muli v1250 c1024_i32_643
  v1251
def k0_mult127 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_658 : BitVec 32 := 1024#32
  let v1265 : BitVec 32 := Scalar.muli v1121 c1024_i32_658
  v1265
def k0_mult128 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_675 : BitVec 32 := 1#32
  let v1314 : BitVec 32 := Scalar.addi v1121 c1_i32_675
  let c1024_i32_676 : BitVec 32 := 1024#32
  let v1315 : BitVec 32 := Scalar.muli v1314 c1024_i32_676
  v1315
def k0_mult129 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_691 : BitVec 32 := 1024#32
  let v1329 : BitVec 32 := Scalar.muli v1121 c1024_i32_691
  v1329
def k0_mult130 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_708 : BitVec 32 := 1#32
  let v1378 : BitVec 32 := Scalar.addi v1121 c1_i32_708
  let c1024_i32_709 : BitVec 32 := 1024#32
  let v1379 : BitVec 32 := Scalar.muli v1378 c1024_i32_709
  v1379
def k0_off37 (i : grid0.Coords) (k0_t4 : Fin (k0_t4_loop i).trips) : Fin 3 → Nat :=
  let c1_710 : Index := 1#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_708 : BitVec 32 := 1#32
  let v1378 : BitVec 32 := Scalar.addi v1121 c1_i32_708
  let c1024_i32_709 : BitVec 32 := 1024#32
  let v1379 : BitVec 32 := Scalar.muli v1378 c1024_i32_709
  let v1380 : BitVec 32 := v1379
  let v1381 : Index := Scalar.indexCast v1380
  let c0_711 : Index := 0#32
  ![1, v1381.toNat, 0]
def k0_mult131 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_724 : BitVec 32 := 1024#32
  let v1393 : BitVec 32 := Scalar.muli v1121 c1024_i32_724
  v1393
def k0_off38 (i : grid0.Coords) (k0_t4 : Fin (k0_t4_loop i).trips) : Fin 3 → Nat :=
  let c1_725 : Index := 1#32
  let c0_726 : Index := 0#32
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_724 : BitVec 32 := 1024#32
  let v1393 : BitVec 32 := Scalar.muli v1121 c1024_i32_724
  let v1394 : BitVec 32 := v1393
  let v1395 : Index := Scalar.indexCast v1394
  ![1, 0, v1395.toNat]
def k0_mult132 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_741 : BitVec 32 := 1#32
  let v1442 : BitVec 32 := Scalar.addi v1121 c1_i32_741
  let c1024_i32_742 : BitVec 32 := 1024#32
  let v1443 : BitVec 32 := Scalar.muli v1442 c1024_i32_742
  v1443
def k0_mult133 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_757 : BitVec 32 := 1024#32
  let v1457 : BitVec 32 := Scalar.muli v1121 c1024_i32_757
  v1457
def k0_mult134 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_774 : BitVec 32 := 1#32
  let v1506 : BitVec 32 := Scalar.addi v1121 c1_i32_774
  let c1024_i32_775 : BitVec 32 := 1024#32
  let v1507 : BitVec 32 := Scalar.muli v1506 c1024_i32_775
  v1507
def k0_mult135 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_790 : BitVec 32 := 1024#32
  let v1521 : BitVec 32 := Scalar.muli v1121 c1024_i32_790
  v1521
def k0_mult136 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1_i32_807 : BitVec 32 := 1#32
  let v1570 : BitVec 32 := Scalar.addi v1121 c1_i32_807
  let c1024_i32_808 : BitVec 32 := 1024#32
  let v1571 : BitVec 32 := Scalar.muli v1570 c1024_i32_808
  v1571
def k0_mult137 (i : grid0.Coords) (k0_t4 : Fin (k0_t4_loop i).trips) : BitVec 32 :=
  let c2_i32_575 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1121 : BitVec 32 := Scalar.muli c2_i32_575 arg14
  let c1024_i32_823 : BitVec 32 := 1024#32
  let v1585 : BitVec 32 := Scalar.muli v1121 c1024_i32_823
  v1585
def k0_mult138 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_842 : BitVec 32 := 1#32
  let v1636 : BitVec 32 := Scalar.addi v1635 c1_i32_842
  let c1024_i32_843 : BitVec 32 := 1024#32
  let v1637 : BitVec 32 := Scalar.muli v1636 c1024_i32_843
  v1637
def k0_off39 (i : grid0.Coords) (k0_t4 : Fin (k0_t4_loop i).trips) : Fin 3 → Nat :=
  let c0_844 : Index := 0#32
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_842 : BitVec 32 := 1#32
  let v1636 : BitVec 32 := Scalar.addi v1635 c1_i32_842
  let c1024_i32_843 : BitVec 32 := 1024#32
  let v1637 : BitVec 32 := Scalar.muli v1636 c1024_i32_843
  let v1638 : BitVec 32 := v1637
  let v1639 : Index := Scalar.indexCast v1638
  let c0_845 : Index := 0#32
  ![0, v1639.toNat, 0]
def k0_mult139 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_858 : BitVec 32 := 1024#32
  let v1651 : BitVec 32 := Scalar.muli v1635 c1024_i32_858
  v1651
def k0_off40 (i : grid0.Coords) (k0_t4 : Fin (k0_t4_loop i).trips) : Fin 3 → Nat :=
  let c0_859 : Index := 0#32
  let c0_860 : Index := 0#32
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_858 : BitVec 32 := 1024#32
  let v1651 : BitVec 32 := Scalar.muli v1635 c1024_i32_858
  let v1652 : BitVec 32 := v1651
  let v1653 : Index := Scalar.indexCast v1652
  ![0, 0, v1653.toNat]
def k0_mult140 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_875 : BitVec 32 := 1#32
  let v1700 : BitVec 32 := Scalar.addi v1635 c1_i32_875
  let c1024_i32_876 : BitVec 32 := 1024#32
  let v1701 : BitVec 32 := Scalar.muli v1700 c1024_i32_876
  v1701
def k0_mult141 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_891 : BitVec 32 := 1024#32
  let v1715 : BitVec 32 := Scalar.muli v1635 c1024_i32_891
  v1715
def k0_mult142 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_908 : BitVec 32 := 1#32
  let v1764 : BitVec 32 := Scalar.addi v1635 c1_i32_908
  let c1024_i32_909 : BitVec 32 := 1024#32
  let v1765 : BitVec 32 := Scalar.muli v1764 c1024_i32_909
  v1765
def k0_mult143 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_924 : BitVec 32 := 1024#32
  let v1779 : BitVec 32 := Scalar.muli v1635 c1024_i32_924
  v1779
def k0_mult144 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_941 : BitVec 32 := 1#32
  let v1828 : BitVec 32 := Scalar.addi v1635 c1_i32_941
  let c1024_i32_942 : BitVec 32 := 1024#32
  let v1829 : BitVec 32 := Scalar.muli v1828 c1024_i32_942
  v1829
def k0_mult145 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_957 : BitVec 32 := 1024#32
  let v1843 : BitVec 32 := Scalar.muli v1635 c1024_i32_957
  v1843
def k0_mult146 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_974 : BitVec 32 := 1#32
  let v1892 : BitVec 32 := Scalar.addi v1635 c1_i32_974
  let c1024_i32_975 : BitVec 32 := 1024#32
  let v1893 : BitVec 32 := Scalar.muli v1892 c1024_i32_975
  v1893
def k0_off41 (i : grid0.Coords) (k0_t4 : Fin (k0_t4_loop i).trips) : Fin 3 → Nat :=
  let c1_976 : Index := 1#32
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_974 : BitVec 32 := 1#32
  let v1892 : BitVec 32 := Scalar.addi v1635 c1_i32_974
  let c1024_i32_975 : BitVec 32 := 1024#32
  let v1893 : BitVec 32 := Scalar.muli v1892 c1024_i32_975
  let v1894 : BitVec 32 := v1893
  let v1895 : Index := Scalar.indexCast v1894
  let c0_977 : Index := 0#32
  ![1, v1895.toNat, 0]
def k0_mult147 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_990 : BitVec 32 := 1024#32
  let v1907 : BitVec 32 := Scalar.muli v1635 c1024_i32_990
  v1907
def k0_off42 (i : grid0.Coords) (k0_t4 : Fin (k0_t4_loop i).trips) : Fin 3 → Nat :=
  let c1_991 : Index := 1#32
  let c0_992 : Index := 0#32
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_990 : BitVec 32 := 1024#32
  let v1907 : BitVec 32 := Scalar.muli v1635 c1024_i32_990
  let v1908 : BitVec 32 := v1907
  let v1909 : Index := Scalar.indexCast v1908
  ![1, 0, v1909.toNat]
def k0_mult148 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_1007 : BitVec 32 := 1#32
  let v1956 : BitVec 32 := Scalar.addi v1635 c1_i32_1007
  let c1024_i32_1008 : BitVec 32 := 1024#32
  let v1957 : BitVec 32 := Scalar.muli v1956 c1024_i32_1008
  v1957
def k0_mult149 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_1023 : BitVec 32 := 1024#32
  let v1971 : BitVec 32 := Scalar.muli v1635 c1024_i32_1023
  v1971
def k0_mult150 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_1040 : BitVec 32 := 1#32
  let v2020 : BitVec 32 := Scalar.addi v1635 c1_i32_1040
  let c1024_i32_1041 : BitVec 32 := 1024#32
  let v2021 : BitVec 32 := Scalar.muli v2020 c1024_i32_1041
  v2021
def k0_mult151 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_1056 : BitVec 32 := 1024#32
  let v2035 : BitVec 32 := Scalar.muli v1635 c1024_i32_1056
  v2035
def k0_mult152 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1_i32_1073 : BitVec 32 := 1#32
  let v2084 : BitVec 32 := Scalar.addi v1635 c1_i32_1073
  let c1024_i32_1074 : BitVec 32 := 1024#32
  let v2085 : BitVec 32 := Scalar.muli v2084 c1024_i32_1074
  v2085
def k0_mult153 (i : grid0.Coords) (k0_t4 : Fin (k0_t4_loop i).trips) : BitVec 32 :=
  let c2_i32_840 : BitVec 32 := 2#32
  let c0_i32_51 : BitVec 32 := 0#32
  let arg1 : BitVec 32 := BitVec.ofNat 32 (i 1).val
  let c0_i32_44 : BitVec 32 := 0#32
  let v65 : BitVec 1 := Scalar.cmpi .sgt arg1 c0_i32_44
  let v66 : BitVec 32 := Scalar.extui v65
  let c0_i32_45 : BitVec 32 := 0#32
  let v67 : BitVec 1 := Scalar.cmpi .slt arg1 c0_i32_45
  let v68 : BitVec 32 := Scalar.extui v67
  let v69 : BitVec 32 := Scalar.subi v66 v68
  let c2_i32_43 : BitVec 32 := 2#32
  let c0_i32_46 : BitVec 32 := 0#32
  let v70 : BitVec 1 := Scalar.cmpi .sgt c2_i32_43 c0_i32_46
  let v71 : BitVec 32 := Scalar.extui v70
  let c0_i32_47 : BitVec 32 := 0#32
  let v72 : BitVec 1 := Scalar.cmpi .slt c2_i32_43 c0_i32_47
  let v73 : BitVec 32 := Scalar.extui v72
  let v74 : BitVec 32 := Scalar.subi v71 v73
  let v75 : BitVec 1 := Scalar.cmpi .ne v69 v74
  let v76 : BitVec 32 := Scalar.remsi arg1 c2_i32_43
  let c0_i32_48 : BitVec 32 := 0#32
  let v77 : BitVec 1 := Scalar.cmpi .ne v76 c0_i32_48
  let v78 : BitVec 1 := Scalar.andi v75 v77
  let v64 : BitVec 32 := Scalar.divsi arg1 c2_i32_43
  let c1_i32_49 : BitVec 32 := 1#32
  let v79 : BitVec 32 := Scalar.subi v64 c1_i32_49
  let v80 : BitVec 32 := Scalar.select v78 v79 v64
  let v81 : BitVec 32 := Scalar.subi v80 c0_i32_51
  let c1_i32_52 : BitVec 32 := 1#32
  let v83 : BitVec 32 := Scalar.divsi v81 c1_i32_52
  let v84 : BitVec 32 := Scalar.muli v83 c1_i32_52
  let v85 : BitVec 32 := Scalar.addi c0_i32_51 v84
  let c1_i32_54 : BitVec 32 := 1#32
  let arg14 : BitVec 32 := Scf.iv v85 c1_i32_54 k0_t4
  let v1634 : BitVec 32 := Scalar.muli c2_i32_840 arg14
  let c1_i32_841 : BitVec 32 := 1#32
  let v1635 : BitVec 32 := Scalar.addi v1634 c1_i32_841
  let c1024_i32_1089 : BitVec 32 := 1024#32
  let v2099 : BitVec 32 := Scalar.muli v1635 c1024_i32_1089
  v2099
def k0_mult154 (i : grid0.Coords) : BitVec 32 :=
  let arg1 : BitVec 32 := BitVec.ofNat 32 (i 1).val
  let c1_i32_55 : BitVec 32 := 1#32
  let v86 : BitVec 32 := Scalar.subi arg1 c1_i32_55
  let c1_i32_56 : BitVec 32 := 1#32
  let v87 : BitVec 32 := Scalar.addi v86 c1_i32_56
  let c1024_i32_57 : BitVec 32 := 1024#32
  let v88 : BitVec 32 := Scalar.muli v87 c1024_i32_57
  v88
def k0_off43 (i : grid0.Coords) : Fin 3 → Nat :=
  let c0_58 : Index := 0#32
  let arg1 : BitVec 32 := BitVec.ofNat 32 (i 1).val
  let c1_i32_55 : BitVec 32 := 1#32
  let v86 : BitVec 32 := Scalar.subi arg1 c1_i32_55
  let c1_i32_56 : BitVec 32 := 1#32
  let v87 : BitVec 32 := Scalar.addi v86 c1_i32_56
  let c1024_i32_57 : BitVec 32 := 1024#32
  let v88 : BitVec 32 := Scalar.muli v87 c1024_i32_57
  let v89 : BitVec 32 := v88
  let v90 : Index := Scalar.indexCast v89
  let c0_59 : Index := 0#32
  ![0, v90.toNat, 0]
def k0_mult155 (i : grid0.Coords) : BitVec 32 :=
  let arg1 : BitVec 32 := BitVec.ofNat 32 (i 1).val
  let c1_i32_55 : BitVec 32 := 1#32
  let v86 : BitVec 32 := Scalar.subi arg1 c1_i32_55
  let c1024_i32_72 : BitVec 32 := 1024#32
  let v102 : BitVec 32 := Scalar.muli v86 c1024_i32_72
  v102
def k0_off44 (i : grid0.Coords) : Fin 3 → Nat :=
  let c0_73 : Index := 0#32
  let c0_74 : Index := 0#32
  let arg1 : BitVec 32 := BitVec.ofNat 32 (i 1).val
  let c1_i32_55 : BitVec 32 := 1#32
  let v86 : BitVec 32 := Scalar.subi arg1 c1_i32_55
  let c1024_i32_72 : BitVec 32 := 1024#32
  let v102 : BitVec 32 := Scalar.muli v86 c1024_i32_72
  let v103 : BitVec 32 := v102
  let v104 : Index := Scalar.indexCast v103
  ![0, 0, v104.toNat]
def k0_mult156 (i : grid0.Coords) : BitVec 32 :=
  let arg1 : BitVec 32 := BitVec.ofNat 32 (i 1).val
  let c1_i32_55 : BitVec 32 := 1#32
  let v86 : BitVec 32 := Scalar.subi arg1 c1_i32_55
  let c1_i32_89 : BitVec 32 := 1#32
  let v151 : BitVec 32 := Scalar.addi v86 c1_i32_89
  let c1024_i32_90 : BitVec 32 := 1024#32
  let v152 : BitVec 32 := Scalar.muli v151 c1024_i32_90
  v152
def k0_off45 (i : grid0.Coords) : Fin 3 → Nat :=
  let c0_91 : Index := 0#32
  let arg1 : BitVec 32 := BitVec.ofNat 32 (i 1).val
  let c1_i32_55 : BitVec 32 := 1#32
  let v86 : BitVec 32 := Scalar.subi arg1 c1_i32_55
  let c1_i32_89 : BitVec 32 := 1#32
  let v151 : BitVec 32 := Scalar.addi v86 c1_i32_89
  let c1024_i32_90 : BitVec 32 := 1024#32
  let v152 : BitVec 32 := Scalar.muli v151 c1024_i32_90
  let v153 : BitVec 32 := v152
  let v154 : Index := Scalar.indexCast v153
  let c0_92 : Index := 0#32
  ![0, v154.toNat, 0]
def k0_mult157 (i : grid0.Coords) : BitVec 32 :=
  let arg1 : BitVec 32 := BitVec.ofNat 32 (i 1).val
  let c1_i32_55 : BitVec 32 := 1#32
  let v86 : BitVec 32 := Scalar.subi arg1 c1_i32_55
  let c1024_i32_104 : BitVec 32 := 1024#32
  let v166 : BitVec 32 := Scalar.muli v86 c1024_i32_104
  v166
def k0_mult158 (i : grid0.Coords) : BitVec 32 :=
  let arg1 : BitVec 32 := BitVec.ofNat 32 (i 1).val
  let c1_i32_55 : BitVec 32 := 1#32
  let v86 : BitVec 32 := Scalar.subi arg1 c1_i32_55
  let c1_i32_121 : BitVec 32 := 1#32
  let v215 : BitVec 32 := Scalar.addi v86 c1_i32_121
  let c1024_i32_122 : BitVec 32 := 1024#32
  let v216 : BitVec 32 := Scalar.muli v215 c1024_i32_122
  v216
def k0_off46 (i : grid0.Coords) : Fin 3 → Nat :=
  let c0_123 : Index := 0#32
  let arg1 : BitVec 32 := BitVec.ofNat 32 (i 1).val
  let c1_i32_55 : BitVec 32 := 1#32
  let v86 : BitVec 32 := Scalar.subi arg1 c1_i32_55
  let c1_i32_121 : BitVec 32 := 1#32
  let v215 : BitVec 32 := Scalar.addi v86 c1_i32_121
  let c1024_i32_122 : BitVec 32 := 1024#32
  let v216 : BitVec 32 := Scalar.muli v215 c1024_i32_122
  let v217 : BitVec 32 := v216
  let v218 : Index := Scalar.indexCast v217
  let c0_124 : Index := 0#32
  ![0, v218.toNat, 0]
def k0_mult159 (i : grid0.Coords) : BitVec 32 :=
  let arg1 : BitVec 32 := BitVec.ofNat 32 (i 1).val
  let c1_i32_55 : BitVec 32 := 1#32
  let v86 : BitVec 32 := Scalar.subi arg1 c1_i32_55
  let c1024_i32_135 : BitVec 32 := 1024#32
  let v230 : BitVec 32 := Scalar.muli v86 c1024_i32_135
  v230
def k0_mult160 (i : grid0.Coords) : BitVec 32 :=
  let arg1 : BitVec 32 := BitVec.ofNat 32 (i 1).val
  let c1_i32_55 : BitVec 32 := 1#32
  let v86 : BitVec 32 := Scalar.subi arg1 c1_i32_55
  let c1_i32_152 : BitVec 32 := 1#32
  let v279 : BitVec 32 := Scalar.addi v86 c1_i32_152
  let c1024_i32_153 : BitVec 32 := 1024#32
  let v280 : BitVec 32 := Scalar.muli v279 c1024_i32_153
  v280
def k0_off47 (i : grid0.Coords) : Fin 3 → Nat :=
  let c0_154 : Index := 0#32
  let arg1 : BitVec 32 := BitVec.ofNat 32 (i 1).val
  let c1_i32_55 : BitVec 32 := 1#32
  let v86 : BitVec 32 := Scalar.subi arg1 c1_i32_55
  let c1_i32_152 : BitVec 32 := 1#32
  let v279 : BitVec 32 := Scalar.addi v86 c1_i32_152
  let c1024_i32_153 : BitVec 32 := 1024#32
  let v280 : BitVec 32 := Scalar.muli v279 c1024_i32_153
  let v281 : BitVec 32 := v280
  let v282 : Index := Scalar.indexCast v281
  let c0_155 : Index := 0#32
  ![0, v282.toNat, 0]
def k0_mult161 (i : grid0.Coords) : BitVec 32 :=
  let arg1 : BitVec 32 := BitVec.ofNat 32 (i 1).val
  let c1_i32_55 : BitVec 32 := 1#32
  let v86 : BitVec 32 := Scalar.subi arg1 c1_i32_55
  let c1024_i32_165 : BitVec 32 := 1024#32
  let v294 : BitVec 32 := Scalar.muli v86 c1024_i32_165
  v294
def k0_mult162 (i : grid0.Coords) : BitVec 32 :=
  let arg1 : BitVec 32 := BitVec.ofNat 32 (i 1).val
  let c1_i32_55 : BitVec 32 := 1#32
  let v86 : BitVec 32 := Scalar.subi arg1 c1_i32_55
  let c1_i32_182 : BitVec 32 := 1#32
  let v343 : BitVec 32 := Scalar.addi v86 c1_i32_182
  let c1024_i32_183 : BitVec 32 := 1024#32
  let v344 : BitVec 32 := Scalar.muli v343 c1024_i32_183
  v344
def k0_off48 (i : grid0.Coords) : Fin 3 → Nat :=
  let c1_184 : Index := 1#32
  let arg1 : BitVec 32 := BitVec.ofNat 32 (i 1).val
  let c1_i32_55 : BitVec 32 := 1#32
  let v86 : BitVec 32 := Scalar.subi arg1 c1_i32_55
  let c1_i32_182 : BitVec 32 := 1#32
  let v343 : BitVec 32 := Scalar.addi v86 c1_i32_182
  let c1024_i32_183 : BitVec 32 := 1024#32
  let v344 : BitVec 32 := Scalar.muli v343 c1024_i32_183
  let v345 : BitVec 32 := v344
  let v346 : Index := Scalar.indexCast v345
  let c0_185 : Index := 0#32
  ![1, v346.toNat, 0]
def k0_mult163 (i : grid0.Coords) : BitVec 32 :=
  let arg1 : BitVec 32 := BitVec.ofNat 32 (i 1).val
  let c1_i32_55 : BitVec 32 := 1#32
  let v86 : BitVec 32 := Scalar.subi arg1 c1_i32_55
  let c1024_i32_196 : BitVec 32 := 1024#32
  let v358 : BitVec 32 := Scalar.muli v86 c1024_i32_196
  v358
def k0_off49 (i : grid0.Coords) : Fin 3 → Nat :=
  let c1_197 : Index := 1#32
  let c0_198 : Index := 0#32
  let arg1 : BitVec 32 := BitVec.ofNat 32 (i 1).val
  let c1_i32_55 : BitVec 32 := 1#32
  let v86 : BitVec 32 := Scalar.subi arg1 c1_i32_55
  let c1024_i32_196 : BitVec 32 := 1024#32
  let v358 : BitVec 32 := Scalar.muli v86 c1024_i32_196
  let v359 : BitVec 32 := v358
  let v360 : Index := Scalar.indexCast v359
  ![1, 0, v360.toNat]
def k0_mult164 (i : grid0.Coords) : BitVec 32 :=
  let arg1 : BitVec 32 := BitVec.ofNat 32 (i 1).val
  let c1_i32_55 : BitVec 32 := 1#32
  let v86 : BitVec 32 := Scalar.subi arg1 c1_i32_55
  let c1_i32_213 : BitVec 32 := 1#32
  let v407 : BitVec 32 := Scalar.addi v86 c1_i32_213
  let c1024_i32_214 : BitVec 32 := 1024#32
  let v408 : BitVec 32 := Scalar.muli v407 c1024_i32_214
  v408
def k0_off50 (i : grid0.Coords) : Fin 3 → Nat :=
  let c1_215 : Index := 1#32
  let arg1 : BitVec 32 := BitVec.ofNat 32 (i 1).val
  let c1_i32_55 : BitVec 32 := 1#32
  let v86 : BitVec 32 := Scalar.subi arg1 c1_i32_55
  let c1_i32_213 : BitVec 32 := 1#32
  let v407 : BitVec 32 := Scalar.addi v86 c1_i32_213
  let c1024_i32_214 : BitVec 32 := 1024#32
  let v408 : BitVec 32 := Scalar.muli v407 c1024_i32_214
  let v409 : BitVec 32 := v408
  let v410 : Index := Scalar.indexCast v409
  let c0_216 : Index := 0#32
  ![1, v410.toNat, 0]
def k0_mult165 (i : grid0.Coords) : BitVec 32 :=
  let arg1 : BitVec 32 := BitVec.ofNat 32 (i 1).val
  let c1_i32_55 : BitVec 32 := 1#32
  let v86 : BitVec 32 := Scalar.subi arg1 c1_i32_55
  let c1024_i32_227 : BitVec 32 := 1024#32
  let v422 : BitVec 32 := Scalar.muli v86 c1024_i32_227
  v422
def k0_mult166 (i : grid0.Coords) : BitVec 32 :=
  let arg1 : BitVec 32 := BitVec.ofNat 32 (i 1).val
  let c1_i32_55 : BitVec 32 := 1#32
  let v86 : BitVec 32 := Scalar.subi arg1 c1_i32_55
  let c1_i32_244 : BitVec 32 := 1#32
  let v471 : BitVec 32 := Scalar.addi v86 c1_i32_244
  let c1024_i32_245 : BitVec 32 := 1024#32
  let v472 : BitVec 32 := Scalar.muli v471 c1024_i32_245
  v472
def k0_off51 (i : grid0.Coords) : Fin 3 → Nat :=
  let c1_246 : Index := 1#32
  let arg1 : BitVec 32 := BitVec.ofNat 32 (i 1).val
  let c1_i32_55 : BitVec 32 := 1#32
  let v86 : BitVec 32 := Scalar.subi arg1 c1_i32_55
  let c1_i32_244 : BitVec 32 := 1#32
  let v471 : BitVec 32 := Scalar.addi v86 c1_i32_244
  let c1024_i32_245 : BitVec 32 := 1024#32
  let v472 : BitVec 32 := Scalar.muli v471 c1024_i32_245
  let v473 : BitVec 32 := v472
  let v474 : Index := Scalar.indexCast v473
  let c0_247 : Index := 0#32
  ![1, v474.toNat, 0]
def k0_mult167 (i : grid0.Coords) : BitVec 32 :=
  let arg1 : BitVec 32 := BitVec.ofNat 32 (i 1).val
  let c1_i32_55 : BitVec 32 := 1#32
  let v86 : BitVec 32 := Scalar.subi arg1 c1_i32_55
  let c1024_i32_258 : BitVec 32 := 1024#32
  let v486 : BitVec 32 := Scalar.muli v86 c1024_i32_258
  v486
def k0_mult168 (i : grid0.Coords) : BitVec 32 :=
  let arg1 : BitVec 32 := BitVec.ofNat 32 (i 1).val
  let c1_i32_55 : BitVec 32 := 1#32
  let v86 : BitVec 32 := Scalar.subi arg1 c1_i32_55
  let c1_i32_275 : BitVec 32 := 1#32
  let v535 : BitVec 32 := Scalar.addi v86 c1_i32_275
  let c1024_i32_276 : BitVec 32 := 1024#32
  let v536 : BitVec 32 := Scalar.muli v535 c1024_i32_276
  v536
def k0_off52 (i : grid0.Coords) : Fin 3 → Nat :=
  let c1_277 : Index := 1#32
  let arg1 : BitVec 32 := BitVec.ofNat 32 (i 1).val
  let c1_i32_55 : BitVec 32 := 1#32
  let v86 : BitVec 32 := Scalar.subi arg1 c1_i32_55
  let c1_i32_275 : BitVec 32 := 1#32
  let v535 : BitVec 32 := Scalar.addi v86 c1_i32_275
  let c1024_i32_276 : BitVec 32 := 1024#32
  let v536 : BitVec 32 := Scalar.muli v535 c1024_i32_276
  let v537 : BitVec 32 := v536
  let v538 : Index := Scalar.indexCast v537
  let c0_278 : Index := 0#32
  ![1, v538.toNat, 0]
def k0_mult169 (i : grid0.Coords) : BitVec 32 :=
  let arg1 : BitVec 32 := BitVec.ofNat 32 (i 1).val
  let c1_i32_55 : BitVec 32 := 1#32
  let v86 : BitVec 32 := Scalar.subi arg1 c1_i32_55
  let c1024_i32_289 : BitVec 32 := 1024#32
  let v550 : BitVec 32 := Scalar.muli v86 c1024_i32_289
  v550
def k0_mult170 : BitVec 32 :=
  let c0_i32_306 : BitVec 32 := 0#32
  c0_i32_306
def k0_mult171 (i : grid0.Coords) : BitVec 32 :=
  let arg1 : BitVec 32 := BitVec.ofNat 32 (i 1).val
  let c1024_i32_323 : BitVec 32 := 1024#32
  let v619 : BitVec 32 := Scalar.muli arg1 c1024_i32_323
  v619
def k0_off53 (i : grid0.Coords) : Fin 3 → Nat :=
  let c0_324 : Index := 0#32
  let c0_325 : Index := 0#32
  let arg1 : BitVec 32 := BitVec.ofNat 32 (i 1).val
  let c1024_i32_323 : BitVec 32 := 1024#32
  let v619 : BitVec 32 := Scalar.muli arg1 c1024_i32_323
  let v620 : BitVec 32 := v619
  let v621 : Index := Scalar.indexCast v620
  ![0, 0, v621.toNat]
def k0_mult172 : BitVec 32 :=
  let c0_i32_340 : BitVec 32 := 0#32
  c0_i32_340
def k0_mult173 (i : grid0.Coords) : BitVec 32 :=
  let arg1 : BitVec 32 := BitVec.ofNat 32 (i 1).val
  let c1024_i32_356 : BitVec 32 := 1024#32
  let v682 : BitVec 32 := Scalar.muli arg1 c1024_i32_356
  v682
def k0_off54 (i : grid0.Coords) : Fin 3 → Nat :=
  let c0_357 : Index := 0#32
  let c0_358 : Index := 0#32
  let arg1 : BitVec 32 := BitVec.ofNat 32 (i 1).val
  let c1024_i32_356 : BitVec 32 := 1024#32
  let v682 : BitVec 32 := Scalar.muli arg1 c1024_i32_356
  let v683 : BitVec 32 := v682
  let v684 : Index := Scalar.indexCast v683
  ![0, 0, v684.toNat]
def k0_mult174 : BitVec 32 :=
  let c0_i32_373 : BitVec 32 := 0#32
  c0_i32_373
def k0_mult175 (i : grid0.Coords) : BitVec 32 :=
  let arg1 : BitVec 32 := BitVec.ofNat 32 (i 1).val
  let c1024_i32_389 : BitVec 32 := 1024#32
  let v748 : BitVec 32 := Scalar.muli arg1 c1024_i32_389
  v748
def k0_off55 (i : grid0.Coords) : Fin 3 → Nat :=
  let c0_390 : Index := 0#32
  let c0_391 : Index := 0#32
  let arg1 : BitVec 32 := BitVec.ofNat 32 (i 1).val
  let c1024_i32_389 : BitVec 32 := 1024#32
  let v748 : BitVec 32 := Scalar.muli arg1 c1024_i32_389
  let v749 : BitVec 32 := v748
  let v750 : Index := Scalar.indexCast v749
  ![0, 0, v750.toNat]
def k0_mult176 : BitVec 32 :=
  let c0_i32_406 : BitVec 32 := 0#32
  c0_i32_406
def k0_mult177 (i : grid0.Coords) : BitVec 32 :=
  let arg1 : BitVec 32 := BitVec.ofNat 32 (i 1).val
  let c1024_i32_422 : BitVec 32 := 1024#32
  let v811 : BitVec 32 := Scalar.muli arg1 c1024_i32_422
  v811
def k0_off56 (i : grid0.Coords) : Fin 3 → Nat :=
  let c0_423 : Index := 0#32
  let c0_424 : Index := 0#32
  let arg1 : BitVec 32 := BitVec.ofNat 32 (i 1).val
  let c1024_i32_422 : BitVec 32 := 1024#32
  let v811 : BitVec 32 := Scalar.muli arg1 c1024_i32_422
  let v812 : BitVec 32 := v811
  let v813 : Index := Scalar.indexCast v812
  ![0, 0, v813.toNat]
def k0_mult178 : BitVec 32 :=
  let c0_i32_439 : BitVec 32 := 0#32
  c0_i32_439
def k0_mult179 (i : grid0.Coords) : BitVec 32 :=
  let arg1 : BitVec 32 := BitVec.ofNat 32 (i 1).val
  let c1024_i32_456 : BitVec 32 := 1024#32
  let v880 : BitVec 32 := Scalar.muli arg1 c1024_i32_456
  v880
def k0_off57 (i : grid0.Coords) : Fin 3 → Nat :=
  let c1_457 : Index := 1#32
  let c0_458 : Index := 0#32
  let arg1 : BitVec 32 := BitVec.ofNat 32 (i 1).val
  let c1024_i32_456 : BitVec 32 := 1024#32
  let v880 : BitVec 32 := Scalar.muli arg1 c1024_i32_456
  let v881 : BitVec 32 := v880
  let v882 : Index := Scalar.indexCast v881
  ![1, 0, v882.toNat]
def k0_mult180 : BitVec 32 :=
  let c0_i32_473 : BitVec 32 := 0#32
  c0_i32_473
def k0_mult181 (i : grid0.Coords) : BitVec 32 :=
  let arg1 : BitVec 32 := BitVec.ofNat 32 (i 1).val
  let c1024_i32_490 : BitVec 32 := 1024#32
  let v943 : BitVec 32 := Scalar.muli arg1 c1024_i32_490
  v943
def k0_off58 (i : grid0.Coords) : Fin 3 → Nat :=
  let c1_491 : Index := 1#32
  let c0_492 : Index := 0#32
  let arg1 : BitVec 32 := BitVec.ofNat 32 (i 1).val
  let c1024_i32_490 : BitVec 32 := 1024#32
  let v943 : BitVec 32 := Scalar.muli arg1 c1024_i32_490
  let v944 : BitVec 32 := v943
  let v945 : Index := Scalar.indexCast v944
  ![1, 0, v945.toNat]
def k0_mult182 : BitVec 32 :=
  let c0_i32_507 : BitVec 32 := 0#32
  c0_i32_507
def k0_mult183 (i : grid0.Coords) : BitVec 32 :=
  let arg1 : BitVec 32 := BitVec.ofNat 32 (i 1).val
  let c1024_i32_524 : BitVec 32 := 1024#32
  let v1009 : BitVec 32 := Scalar.muli arg1 c1024_i32_524
  v1009
def k0_off59 (i : grid0.Coords) : Fin 3 → Nat :=
  let c1_525 : Index := 1#32
  let c0_526 : Index := 0#32
  let arg1 : BitVec 32 := BitVec.ofNat 32 (i 1).val
  let c1024_i32_524 : BitVec 32 := 1024#32
  let v1009 : BitVec 32 := Scalar.muli arg1 c1024_i32_524
  let v1010 : BitVec 32 := v1009
  let v1011 : Index := Scalar.indexCast v1010
  ![1, 0, v1011.toNat]
def k0_mult184 : BitVec 32 :=
  let c0_i32_541 : BitVec 32 := 0#32
  c0_i32_541
def k0_mult185 (i : grid0.Coords) : BitVec 32 :=
  let arg1 : BitVec 32 := BitVec.ofNat 32 (i 1).val
  let c1024_i32_558 : BitVec 32 := 1024#32
  let v1072 : BitVec 32 := Scalar.muli arg1 c1024_i32_558
  v1072
def k0_off60 (i : grid0.Coords) : Fin 3 → Nat :=
  let c1_559 : Index := 1#32
  let c0_560 : Index := 0#32
  let arg1 : BitVec 32 := BitVec.ofNat 32 (i 1).val
  let c1024_i32_558 : BitVec 32 := 1024#32
  let v1072 : BitVec 32 := Scalar.muli arg1 c1024_i32_558
  let v1073 : BitVec 32 := v1072
  let v1074 : Index := Scalar.indexCast v1073
  ![1, 0, v1074.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x80x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x128x16384 : Shape := ⟨3, ![8, 128, 16384]⟩
abbrev S8x16384x128 : Shape := ⟨3, ![8, 16384, 128]⟩
abbrev S8x80x16384 : Shape := ⟨3, ![8, 80, 16384]⟩
abbrev S8x64x16384 : Shape := ⟨3, ![8, 64, 16384]⟩
abbrev S8x16384x16384 : Shape := ⟨3, ![8, 16384, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S_ : Shape := ⟨0, ![]⟩
abbrev S8x16384 : Shape := ⟨2, ![8, 16384]⟩
abbrev S8x16384x1 : Shape := ⟨3, ![8, 16384, 1]⟩
abbrev S16384x8x64 : Shape := ⟨3, ![16384, 8, 64]⟩
abbrev S16384x512 : Shape := ⟨2, ![16384, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x128x16384, .bf16⟩
  | .hbm, ⟨1, _⟩ => ⟨S8x16384x128, .bf16⟩
  | .hbm, ⟨2, _⟩ => ⟨S8x80x16384, .bf16⟩
  | .hbm, ⟨3, _⟩ => ⟨S8x128x16384, .f32⟩
  | .hbm, ⟨4, _⟩ => ⟨S8x16384x128, .f32⟩
  | .hbm, ⟨5, _⟩ => ⟨S8x80x16384, .f32⟩
  | .hbm, ⟨6, _⟩ => ⟨S8x64x16384, .f32⟩
  | .hbm, ⟨7, _⟩ => ⟨S8x16384x16384, .f32⟩
  | .hbm, ⟨8, _⟩ => ⟨S16384, .i32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S_, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x64x16384, .f32⟩
  | .hbm, ⟨35, _⟩ => ⟨S16384x8x64, .f32⟩
  | .hbm, ⟨36, _⟩ => ⟨S16384x512, .f32⟩
  | _, _ => ⟨S8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S16384x256 : Shape := ⟨2, ![16384, 256]⟩
abbrev S4x256x256 : Shape := ⟨3, ![4, 256, 256]⟩
abbrev S4x1024x1024 : Shape := ⟨3, ![4, 1024, 1024]⟩
abbrev S4x1024 : Shape := ⟨2, ![4, 1024]⟩
abbrev S1x1024 : Shape := ⟨2, ![1, 1024]⟩
abbrev S1024 : Shape := ⟨1, ![1024]⟩
abbrev S1024x1024 : Shape := ⟨2, ![1024, 1024]⟩
abbrev S1024x512 : Shape := ⟨2, ![1024, 512]⟩
abbrev S1024x256 : Shape := ⟨2, ![1024, 256]⟩
abbrev S1x256x256 : Shape := ⟨3, ![1, 256, 256]⟩
abbrev S1x1024x1024 : Shape := ⟨3, ![1, 1024, 1024]⟩
abbrev S1024x128 : Shape := ⟨2, ![1024, 128]⟩
abbrev S1x256x128 : Shape := ⟨3, ![1, 256, 128]⟩
abbrev S256x128 : Shape := ⟨2, ![256, 128]⟩
abbrev S1024x768 : Shape := ⟨2, ![1024, 768]⟩
abbrev S1x768x1024 : Shape := ⟨3, ![1, 768, 1024]⟩
abbrev S768x1024 : Shape := ⟨2, ![768, 1024]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S16384x256, .f32⟩
  | .hbm, ⟨5, _⟩ => ⟨S16384x256, .bf16⟩
  | .hbm, ⟨6, _⟩ => ⟨S16384x256, .f32⟩
  | .hbm, ⟨7, _⟩ => ⟨S4x256x256, .bf16⟩
  | .hbm, ⟨8, _⟩ => ⟨S4x256x256, .bf16⟩
  | .hbm, ⟨9, _⟩ => ⟨S4x1024x1024, .f32⟩
  | .hbm, ⟨10, _⟩ => ⟨S4x1024, .f32⟩
  | .hbm, ⟨11, _⟩ => ⟨S4x1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1x256x256, .bf16⟩
  | .local _ .vmem, ⟨15, _⟩ => ⟨S1x256x256, .bf16⟩
  | .local _ .vmem, ⟨16, _⟩ => ⟨S1x1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S16384x256 : Shape := ⟨2, ![16384, 256]⟩
abbrev S4x256x256 : Shape := ⟨3, ![4, 256, 256]⟩
abbrev S4x1024x1024 : Shape := ⟨3, ![4, 1024, 1024]⟩
abbrev S4x1024 : Shape := ⟨2, ![4, 1024]⟩
abbrev S16384x4x64 : Shape := ⟨3, ![16384, 4, 64]⟩
abbrev S1x256x256 : Shape := ⟨3, ![1, 256, 256]⟩
abbrev S256x256 : Shape := ⟨2, ![256, 256]⟩
abbrev S256x4x64 : Shape := ⟨3, ![256, 4, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x64x16384 : Shape := ⟨3, ![4, 64, 16384]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S16384x256, .f32⟩
  | .hbm, ⟨5, _⟩ => ⟨S16384x256, .bf16⟩
  | .hbm, ⟨6, _⟩ => ⟨S16384x256, .f32⟩
  | .hbm, ⟨7, _⟩ => ⟨S4x256x256, .bf16⟩
  | .hbm, ⟨8, _⟩ => ⟨S4x256x256, .bf16⟩
  | .hbm, ⟨9, _⟩ => ⟨S4x1024x1024, .f32⟩
  | .hbm, ⟨10, _⟩ => ⟨S4x1024, .f32⟩
  | .hbm, ⟨11, _⟩ => ⟨S16384x256, .f32⟩
  | .hbm, ⟨12, _⟩ => ⟨S16384x4x64, .f32⟩
  | .hbm, ⟨13, _⟩ => ⟨S4x256x256, .f32⟩
  | .hbm, ⟨14, _⟩ => ⟨S1x256x256, .f32⟩
  | .hbm, ⟨15, _⟩ => ⟨S256x256, .f32⟩
  | .hbm, ⟨16, _⟩ => ⟨S256x4x64, .f32⟩
  | .hbm, ⟨17, _⟩ => ⟨S4x256x256, .f32⟩
  | .hbm, ⟨18, _⟩ => ⟨S1x256x256, .f32⟩
  | .hbm, ⟨19, _⟩ => ⟨S256x256, .f32⟩
  | .hbm, ⟨20, _⟩ => ⟨S256x4x64, .f32⟩
  | .hbm, ⟨21, _⟩ => ⟨S4x16384x256, .f32⟩
  | .hbm, ⟨22, _⟩ => ⟨S_, .f32⟩
  | .hbm, ⟨23, _⟩ => ⟨S4x16384, .f32⟩
  | .hbm, ⟨24, _⟩ => ⟨S4x16384x1, .f32⟩
  | .hbm, ⟨25, _⟩ => ⟨S4x16384x256, .f32⟩
  | .hbm, ⟨26, _⟩ => ⟨S4x16384x256, .f32⟩
  | .hbm, ⟨27, _⟩ => ⟨S4x16384x256, .f32⟩
  | .hbm, ⟨28, _⟩ => ⟨S_, .f32⟩
  | .hbm, ⟨29, _⟩ => ⟨S4x16384, .f32⟩
  | .hbm, ⟨30, _⟩ => ⟨S4x16384x1, .f32⟩
  | .hbm, ⟨31, _⟩ => ⟨S4x16384x256, .f32⟩
  | .hbm, ⟨32, _⟩ => ⟨S4x16384x256, .f32⟩
  | .hbm, ⟨33, _⟩ => ⟨S4x64x16384, .f32⟩
  | .hbm, ⟨34, _⟩ => ⟨S16384x4x64, .f32⟩
  | .hbm, ⟨35, _⟩ => ⟨S16384x256, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x256, .f32⟩
  | .hbm, ⟨47, _⟩ => ⟨S16384x256, .f32⟩
  | .hbm, ⟨48, _⟩ => ⟨S_, .f32⟩
  | .hbm, ⟨49, _⟩ => ⟨S16384x256, .f32⟩
  | .hbm, ⟨50, _⟩ => ⟨S16384x256, .f32⟩
  | .hbm, ⟨51, _⟩ => ⟨S_, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S_, .f32⟩
  | .hbm, ⟨59, _⟩ => ⟨S16384x256, .f32⟩
  | .hbm, ⟨60, _⟩ => ⟨S16384x256, .f32⟩
  | .hbm, ⟨61, _⟩ => ⟨S_, .f32⟩
  | .hbm, ⟨62, _⟩ => ⟨S16384x256, .f32⟩
  | .hbm, ⟨63, _⟩ => ⟨S16384x256, .f32⟩
  | .hbm, ⟨64, _⟩ => ⟨S16384x256, .f32⟩
  | .hbm, ⟨65, _⟩ => ⟨S16384x256, .f32⟩
  | .hbm, ⟨66, _⟩ => ⟨S16384x1024, .f32⟩
  | .hbm, ⟨67, _⟩ => ⟨S1x1024x1024, .f32⟩
  | .hbm, ⟨68, _⟩ => ⟨S1024x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v25 : Ref sig .tc := ⟨.hbm, 54, rfl⟩
abbrev main_v26 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_1 : Ref sig .tc := ⟨.hbm, 71, rfl⟩
abbrev main_v34 : Ref sig .tc := ⟨.hbm, 72, rfl⟩
abbrev main_v35 : Ref sig .tc := ⟨.hbm, 73, rfl⟩
abbrev main_cst_2 : Ref sig .tc := ⟨.hbm, 74, rfl⟩
abbrev main_v36 : Ref sig .tc := ⟨.hbm, 75, rfl⟩
abbrev main_v37 : Ref sig .tc := ⟨.hbm, 76, rfl⟩
abbrev main_cst_3 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]
-- ==== Kernel3.lean ====
abbrev S16384x1024 : Shape := ⟨2, ![16384, 1024]⟩
abbrev S4x1024 : Shape := ⟨2, ![4, 1024]⟩
abbrev S4x1024x3592 : Shape := ⟨3, ![4, 1024, 3592]⟩
abbrev S4x8 : Shape := ⟨2, ![4, 8]⟩
abbrev S_ : Shape := ⟨0, ![]⟩
abbrev S512x512 : Shape := ⟨2, ![512, 512]⟩
abbrev S4x128 : Shape := ⟨2, ![4, 128]⟩
abbrev S1x1024 : Shape := ⟨2, ![1, 1024]⟩
abbrev S1024 : Shape := ⟨1, ![1024]⟩
abbrev S4x1024x8 : Shape := ⟨3, ![4, 1024, 8]⟩
abbrev S4x1024x128 : Shape := ⟨3, ![4, 1024, 128]⟩
abbrev S4x1024x1536 : Shape := ⟨3, ![4, 1024, 1536]⟩
abbrev S1x128 : Shape := ⟨2, ![1, 128]⟩
abbrev S128 : Shape := ⟨1, ![128]⟩
abbrev S8x128x16384 : Shape := ⟨3, ![8, 128, 16384]⟩
abbrev S8x16384x128 : Shape := ⟨3, ![8, 16384, 128]⟩
abbrev S8x80x16384 : Shape := ⟨3, ![8, 80, 16384]⟩
abbrev S16384x512 : Shape := ⟨2, ![16384, 512]⟩
abbrev S16384x256 : Shape := ⟨2, ![16384, 256]⟩
abbrev S512x1024 : Shape := ⟨2, ![512, 1024]⟩
abbrev S1x1024x2048 : Shape := ⟨3, ![1, 1024, 2048]⟩
abbrev S1x1024x1536 : Shape := ⟨3, ![1, 1024, 1536]⟩
abbrev S1x1024x128 : Shape := ⟨3, ![1, 1024, 128]⟩
abbrev S8x128x512 : Shape := ⟨3, ![8, 128, 512]⟩
abbrev S8x512x128 : Shape := ⟨3, ![8, 512, 128]⟩
abbrev S8x80x512 : Shape := ⟨3, ![8, 80, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x128 : Shape := ⟨2, ![1024, 128]⟩
abbrev S1x1024x512 : Shape := ⟨3, ![1, 1024, 512]⟩
abbrev S1024x512 : Shape := ⟨2, ![1024, 512]⟩
abbrev S128x512 : Shape := ⟨2, ![128, 512]⟩
abbrev S1x128x512 : Shape := ⟨3, ![1, 128, 512]⟩
abbrev S1x512x128 : Shape := ⟨3, ![1, 512, 128]⟩
abbrev S80x512 : Shape := ⟨2, ![80, 512]⟩
abbrev S1x80x512 : Shape := ⟨3, ![1, 80, 512]⟩
abbrev S1x1024x256 : Shape := ⟨3, ![1, 1024, 256]⟩
abbrev S1024x256 : Shape := ⟨2, ![1024, 256]⟩

abbrev nBuf : Space → Nat
  | .hbm => 41
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x3592, .f32⟩
  | .hbm, ⟨3, _⟩ => ⟨S4x8, .f32⟩
  | .hbm, ⟨4, _⟩ => ⟨S_, .f32⟩
  | .hbm, ⟨5, _⟩ => ⟨S512x512, .f32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S_, .i32⟩
  | .hbm, ⟨17, _⟩ => ⟨S_, .f32⟩
  | .hbm, ⟨18, _⟩ => ⟨S4x128, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4x1024x3592, .bf16⟩
  | .hbm, ⟨23, _⟩ => ⟨S4x1024x8, .bf16⟩
  | .hbm, ⟨24, _⟩ => ⟨S_, .i32⟩
  | .hbm, ⟨25, _⟩ => ⟨S_, .bf16⟩
  | .hbm, ⟨26, _⟩ => ⟨S4x1024x128, .bf16⟩
  | .hbm, ⟨27, _⟩ => ⟨S4x1024x1536, .bf16⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S8x128x16384, .bf16⟩
  | .hbm, ⟨32, _⟩ => ⟨S8x16384x128, .bf16⟩
  | .hbm, ⟨33, _⟩ => ⟨S8x80x16384, .bf16⟩
  | .hbm, ⟨34, _⟩ => ⟨S16384x512, .f32⟩
  | .hbm, ⟨35, _⟩ => ⟨S16384x256, .f32⟩
  | .hbm, ⟨36, _⟩ => ⟨S16384x256, .f32⟩
  | .hbm, ⟨37, _⟩ => ⟨S16384x256, .bf16⟩
  | .hbm, ⟨38, _⟩ => ⟨S16384x256, .f32⟩
  | .hbm, ⟨39, _⟩ => ⟨S16384x256, .bf16⟩
  | .hbm, ⟨40, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2048, .bf16⟩
  | .local _ .vmem, ⟨4, _⟩ => ⟨S1x1024x1536, .bf16⟩
  | .local _ .vmem, ⟨5, _⟩ => ⟨S1x1024x128, .bf16⟩
  | .local _ .vmem, ⟨6, _⟩ => ⟨S1x128, .f32⟩
  | .local _ .vmem, ⟨7, _⟩ => ⟨S512x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x512x128, .bf16⟩
  | .local _ .vmem, ⟨11, _⟩ => ⟨S8x512x128, .bf16⟩
  | .local _ .vmem, ⟨12, _⟩ => ⟨S8x80x512, .bf16⟩
  | .local _ .vmem, ⟨13, _⟩ => ⟨S8x80x512, .bf16⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S512x256, .f32⟩
  | .local _ .vmem, ⟨23, _⟩ => ⟨S512x256, .f32⟩
  | .local _ .vmem, ⟨24, _⟩ => ⟨S512x256, .bf16⟩
  | .local _ .vmem, ⟨25, _⟩ => ⟨S512x256, .bf16⟩
  | .local _ .vmem, ⟨26, _⟩ => ⟨S512x256, .f32⟩
  | .local _ .vmem, ⟨27, _⟩ => ⟨S512x256, .f32⟩
  | .local _ .vmem, ⟨28, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call2_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v14_6 : Ref sig .tc := ⟨.hbm, 37, rfl⟩
abbrev main_v14_7 : Ref sig .tc := ⟨.hbm, 38, rfl⟩
abbrev main_v14_8 : Ref sig .tc := ⟨.hbm, 39, rfl⟩
abbrev main_v14_9 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S4x1024 : Shape := ⟨2, ![4, 1024]⟩
abbrev S4x1024x3592 : Shape := ⟨3, ![4, 1024, 3592]⟩
abbrev S4x8 : Shape := ⟨2, ![4, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x3592 : Shape := ⟨3, ![1, 1024, 3592]⟩
abbrev S1024x3592 : Shape := ⟨2, ![1024, 3592]⟩
abbrev S16384x3592 : Shape := ⟨2, ![16384, 3592]⟩
abbrev S16384x512 : Shape := ⟨2, ![16384, 512]⟩
abbrev S16384x256 : Shape := ⟨2, ![16384, 256]⟩
abbrev S16384x8x64 : Shape := ⟨3, ![16384, 8, 64]⟩
abbrev S8x16384x64 : Shape := ⟨3, ![8, 16384, 64]⟩
abbrev S8x16384x1 : Shape := ⟨3, ![8, 16384, 1]⟩
abbrev S8x16384x15 : Shape := ⟨3, ![8, 16384, 15]⟩
abbrev S8x16384x80 : Shape := ⟨3, ![8, 16384, 80]⟩
abbrev S8x80x16384 : Shape := ⟨3, ![8, 80, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x3592, .f32⟩
  | .hbm, ⟨3, _⟩ => ⟨S4x8, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x3592, .f32⟩
  | .hbm, ⟨23, _⟩ => ⟨S1024x3592, .f32⟩
  | .hbm, ⟨24, _⟩ => ⟨S16384x3592, .f32⟩
  | .hbm, ⟨25, _⟩ => ⟨S16384x512, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x512, .f32⟩
  | .hbm, ⟨36, _⟩ => ⟨S16384x8x64, .f32⟩
  | .hbm, ⟨37, _⟩ => ⟨S8x16384x64, .f32⟩
  | .hbm, ⟨38, _⟩ => ⟨S_, .f32⟩
  | .hbm, ⟨39, _⟩ => ⟨S8x16384x1, .f32⟩
  | .hbm, ⟨40, _⟩ => ⟨S_, .f32⟩
  | .hbm, ⟨41, _⟩ => ⟨S8x16384x15, .f32⟩
  | .hbm, ⟨42, _⟩ => ⟨S8x16384x80, .f32⟩
  | .hbm, ⟨43, _⟩ => ⟨S8x80x16384, .f32⟩
  | .hbm, ⟨44, _⟩ => ⟨S8x80x16384, .bf16⟩
  | .hbm, ⟨45, _⟩ => ⟨S16384x256, .bf16⟩
  | .hbm, ⟨46, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Struct.lean ====
/- The attention body, told again with its structure: one chain step (the scores of the next key block
   into one score buffer, the running softmax of the current block out of another), eight of them in a
   row (two heads, four blocks of 256 queries), two such rows in one trip of the loop, and the diagonal
   row at the end. -/
module

public import proofs.«01_k».proof.Proof.Gen.KernelIdeal.Frame
public import Mathlib.Algebra.Order.BigOperators.Ring.Finset
public import Idealize.ShloMosaic.Lib.VecWindow
public import Idealize.ShloMosaic.Lib.Exec
public import Idealize.ShloMosaic.Lib.Tactic

@[expose] public section

set_option maxRecDepth 16384

noncomputable section

namespace Cert.KernelIdeal.Fox

open Idealize.ShloMosaic Idealize.SL.Sem Facts₀ Facts

variable {F : FTy → Type} [FloatOps F] [Named F]

/-- Programs of the kernel's core. -/
abbrev Act (F : FTy → Type) (α : Type) := Prog (TpuEff nD τ sig (Elt F) Λ₀ .tc) α

/-- A box of size `z` inside a shape: where it begins and that it fits. -/
structure At (s : Shape) (z : Fin s.rank → ℕ) where
  off : Fin s.rank → ℕ
  inb : ∀ a, off a + z a ≤ s.size a
  pos : 0 < (⟨s.rank, z⟩ : Shape).numel

/-- The rectangle of a box. -/
abbrev At.rect {s : Shape} {z : Fin s.rank → ℕ} (a : At s z) : Rect s := Rect.unit (s := s) a.off z a.inb

/-- Read a box of a buffer. -/
def ld {s : Shape} {e : EltTy} (r : Memref sig .tc .vmem s e) {z : Fin s.rank → ℕ} (a : At s z) :
    Act F (Vec F ⟨s.rank, z⟩ e) :=
  Prog.lift (.load r a.rect.toLoadRect (View.loadsAt_vmem a.pos))

/-- Write a box of a buffer of 32-bit floats. -/
def st {s : Shape} (r : Memref sig .tc .vmem s .f32) {z : Fin s.rank → ℕ} (a : At s z)
    (w : Vec F ⟨s.rank, z⟩ .f32) : Act F PUnit :=
  Prog.lift (.store r a.rect w Finset.univ (View.stores_vmem_bits_univ a.pos rfl) (.inl rfl))

/-- How many keys of the diagonal block the queries of sub-block `sb` can see. -/
abbrev nk (sb : Fin 4) : ℕ := 256 * (sb.val + 1)

/-- The mask's value. -/
def maskC : F .f32 := Named.named κ "mask" 0xF149F2CA#32

/-! ## The payloads, by the number of keys -/

/-- The scores of 256 keys against 256 queries. -/
def score256 (k : Vec F S1x256x128 .bf16) (q : Vec F S1x128x256 .bf16) : FVec F S1x256x256 .f32 :=
  shapeCast S1x256x256 (matmul dot_S256x128_S128x256_S256x256_1_0_0_1_n_n none
    (shapeCast S256x128 k shapeCasts_S1x256x128_S256x128 : FVec F S256x128 .bf16)
    (shapeCast S128x256 q shapeCasts_S1x128x256_S128x256 : FVec F S128x256 .bf16)
    (constant S256x256 .f32 0x00000000#32)) shapeCasts_S256x256_S1x256x256

/-- The scores of 512 keys against 256 queries. -/
def score512 (k : Vec F S1x512x128 .bf16) (q : Vec F S1x128x256 .bf16) : FVec F S1x512x256 .f32 :=
  shapeCast S1x512x256 (matmul dot_S512x128_S128x256_S512x256_1_0_0_1_n_n none
    (shapeCast S512x128 k shapeCasts_S1x512x128_S512x128 : FVec F S512x128 .bf16)
    (shapeCast S128x256 q shapeCasts_S1x128x256_S128x256 : FVec F S128x256 .bf16)
    (constant S512x256 .f32 0x00000000#32)) shapeCasts_S512x256_S1x512x256

/-- The scores of 768 keys against 256 queries. -/
def score768 (k : Vec F S1x768x128 .bf16) (q : Vec F S1x128x256 .bf16) : FVec F S1x768x256 .f32 :=
  shapeCast S1x768x256 (matmul dot_S768x128_S128x256_S768x256_1_0_0_1_n_n none
    (shapeCast S768x128 k shapeCasts_S1x768x128_S768x128 : FVec F S768x128 .bf16)
    (shapeCast S128x256 q shapeCasts_S1x128x256_S128x256 : FVec F S128x256 .bf16)
    (constant S768x256 .f32 0x00000000#32)) shapeCasts_S768x256_S1x768x256

/-- The scores of 1024 keys against 256 queries. -/
def score1024 (k : Vec F S1x1024x128 .bf16) (q : Vec F S1x128x256 .bf16) : FVec F S1x1024x256 .f32 :=
  shapeCast S1x1024x256 (matmul dot_S1024x128_S128x256_S1024x256_1_0_0_1_n_n none
    (shapeCast S1024x128 k shapeCasts_S1x1024x128_S1024x128 : FVec F S1024x128 .bf16)
    (shapeCast S128x256 q shapeCasts_S1x128x256_S128x256 : FVec F S128x256 .bf16)
    (constant S1024x256 .f32 0x00000000#32)) shapeCasts_S1024x256_S1x1024x256

/-- The scores of as many keys as sub-block `sb` sees. -/
def score : (sb : Fin 4) → Vec F ⟨3, ![1, nk sb, 128]⟩ .bf16 → Vec F S1x128x256 .bf16 →
    Vec F ⟨3, ![1, nk sb, 256]⟩ .f32
  | 0 => score256
  | 1 => score512
  | 2 => score768
  | 3 => score1024

/-- The greatest of 8 rows. -/
def max8 (v : FVec F S8x256 .f32) : FVec F S1x256 .f32 :=
  shapeCast S1x256 (multiReduction .maximumf [0] S256 v 0xFF800000#32 reduces_S8x256_S256 (.inl rfl) rfl) shapeCasts_S256_S1x256

/-- The greatest of 256 rows. -/
def max256 (v : FVec F S256x256 .f32) : FVec F S1x256 .f32 :=
  have a : FVec F S128x256 .f32 := maximumf (extractStridedSlice S128x256 ![0, 0] v slices_S256x256_o0_0_S128x256) (extractStridedSlice S128x256 ![128, 0] v slices_S256x256_o128_0_S128x256)
  have b : FVec F S64x256 .f32 := maximumf (extractStridedSlice S64x256 ![0, 0] a slices_S128x256_o0_0_S64x256) (extractStridedSlice S64x256 ![64, 0] a slices_S128x256_o64_0_S64x256)
  have c : FVec F S32x256 .f32 := maximumf (extractStridedSlice S32x256 ![0, 0] b slices_S64x256_o0_0_S32x256) (extractStridedSlice S32x256 ![32, 0] b slices_S64x256_o32_0_S32x256)
  have d : FVec F S16x256 .f32 := maximumf (extractStridedSlice S16x256 ![0, 0] c slices_S32x256_o0_0_S16x256) (extractStridedSlice S16x256 ![16, 0] c slices_S32x256_o16_0_S16x256)
  max8 (maximumf (extractStridedSlice S8x256 ![0, 0] d slices_S16x256_o0_0_S8x256) (extractStridedSlice S8x256 ![8, 0] d slices_S16x256_o8_0_S8x256))

/-- The greatest of 512 rows. -/
def max512 (v : FVec F S512x256 .f32) : FVec F S1x256 .f32 :=
  max256 (maximumf (extractStridedSlice S256x256 ![0, 0] v slices_S512x256_o0_0_S256x256) (extractStridedSlice S256x256 ![256, 0] v slices_S512x256_o256_0_S256x256))

/-- The greatest of 1024 rows. -/
def max1024 (v : FVec F S1024x256 .f32) : FVec F S1x256 .f32 :=
  max512 (maximumf (extractStridedSlice S512x256 ![0, 0] v slices_S1024x256_o0_0_S512x256) (extractStridedSlice S512x256 ![512, 0] v slices_S1024x256_o512_0_S512x256))

/-- The greatest of 768 rows. -/
def max768 (v : FVec F S768x256 .f32) : FVec F S1x256 .f32 :=
  have a : FVec F S384x256 .f32 := maximumf (extractStridedSlice S384x256 ![0, 0] v slices_S768x256_o0_0_S384x256) (extractStridedSlice S384x256 ![384, 0] v slices_S768x256_o384_0_S384x256)
  have b : FVec F S192x256 .f32 := maximumf (extractStridedSlice S192x256 ![0, 0] a slices_S384x256_o0_0_S192x256) (extractStridedSlice S192x256 ![192, 0] a slices_S384x256_o192_0_S192x256)
  have c : FVec F S96x256 .f32 := maximumf (extractStridedSlice S96x256 ![0, 0] b slices_S192x256_o0_0_S96x256) (extractStridedSlice S96x256 ![96, 0] b slices_S192x256_o96_0_S96x256)
  have d : FVec F S48x256 .f32 := maximumf (extractStridedSlice S48x256 ![0, 0] c slices_S96x256_o0_0_S48x256) (extractStridedSlice S48x256 ![48, 0] c slices_S96x256_o48_0_S48x256)
  have e : FVec F S24x256 .f32 := maximumf (extractStridedSlice S24x256 ![0, 0] d slices_S48x256_o0_0_S24x256) (extractStridedSlice S24x256 ![24, 0] d slices_S48x256_o24_0_S24x256)
  shapeCast S1x256 (multiReduction .maximumf [0] S256 e 0xFF800000#32 reduces_S24x256_S256 (.inl rfl) rfl) shapeCasts_S256_S1x256

/-- The greatest score of each query, over the keys. -/
def rowMax : (sb : Fin 4) → Vec F ⟨2, ![nk sb, 256]⟩ .f32 → FVec F S1x256 .f32
  | 0 => max256
  | 1 => max512
  | 2 => max768
  | 3 => max1024

/-- The weights `2^(s - m)` of 256 keys applied to their values. -/
def pv256 (s : Vec F S256x256 .f32) (m : FVec F S1x256 .f32) (v : Vec F S1x80x256 .bf16) : FVec F S80x256 .f32 :=
  matmul dot_S80x256_S256x256_S80x256_1_0_0_1_n_n none (shapeCast S80x256 v shapeCasts_S1x80x256_S80x256 : FVec F S80x256 .bf16)
    (truncf .bf16 (exp2 (subf s (broadcastTo S256x256 m broadcasts_S1x256_S256x256)) : FVec F S256x256 .f32) bitsLt_bf16_f32) (constant S80x256 .f32 0x00000000#32)

/-- The weights of 512 keys applied to their values. -/
def pv512 (s : Vec F S512x256 .f32) (m : FVec F S1x256 .f32) (v : Vec F S1x80x512 .bf16) : FVec F S80x256 .f32 :=
  matmul dot_S80x512_S512x256_S80x256_1_0_0_1_n_n none (shapeCast S80x512 v shapeCasts_S1x80x512_S80x512 : FVec F S80x512 .bf16)
    (truncf .bf16 (exp2 (subf s (broadcastTo S512x256 m broadcasts_S1x256_S512x256)) : FVec F S512x256 .f32) bitsLt_bf16_f32) (constant S80x256 .f32 0x00000000#32)

/-- The weights of 768 keys applied to their values. -/
def pv768 (s : Vec F S768x256 .f32) (m : FVec F S1x256 .f32) (v : Vec F S1x80x768 .bf16) : FVec F S80x256 .f32 :=
  matmul dot_S80x768_S768x256_S80x256_1_0_0_1_n_n none (shapeCast S80x768 v shapeCasts_S1x80x768_S80x768 : FVec F S80x768 .bf16)
    (truncf .bf16 (exp2 (subf s (broadcastTo S768x256 m broadcasts_S1x256_S768x256)) : FVec F S768x256 .f32) bitsLt_bf16_f32) (constant S80x256 .f32 0x00000000#32)

/-- The weights of 1024 keys applied to their values. -/
def pv1024 (s : Vec F S1024x256 .f32) (m : FVec F S1x256 .f32) (v : Vec F S1x80x1024 .bf16) : FVec F S80x256 .f32 :=
  matmul dot_S80x1024_S1024x256_S80x256_1_0_0_1_n_n none (shapeCast S80x1024 v shapeCasts_S1x80x1024_S80x1024 : FVec F S80x1024 .bf16)
    (truncf .bf16 (exp2 (subf s (broadcastTo S1024x256 m broadcasts_S1x256_S1024x256)) : FVec F S1024x256 .f32) bitsLt_bf16_f32) (constant S80x256 .f32 0x00000000#32)

/-- The weights applied to the values, by the number of keys. -/
def pv : (sb : Fin 4) → Vec F ⟨2, ![nk sb, 256]⟩ .f32 → FVec F S1x256 .f32 → Vec F ⟨3, ![1, 80, nk sb]⟩ .bf16 → FVec F S80x256 .f32
  | 0 => pv256
  | 1 => pv512
  | 2 => pv768
  | 3 => pv1024

/-- The causal mask of the diagonal block: key `r` is seen by query `c` of sub-block `sb` when `r ≤ 256·sb + c`. -/
def masked : (sb : Fin 4) → Vec F ⟨2, ![nk sb, 256]⟩ .f32 → Vec F ⟨2, ![nk sb, 256]⟩ .f32
  | 0 => fun s => (select (cmpi .sle (iota .tc S256x256 32 [0] iota_S256x256_d0_w32)
      (addi (iota .tc S256x256 32 [1] iota_S256x256_d1_w32) (broadcast S256x256 0#32))) s (broadcast S256x256 maskC) : Vec F S256x256 .f32)
  | 1 => fun s => (select (cmpi .sle (iota .tc S512x256 32 [0] iota_S512x256_d0_w32)
      (addi (iota .tc S512x256 32 [1] iota_S512x256_d1_w32) (broadcast S512x256 256#32))) s (broadcast S512x256 maskC) : Vec F S512x256 .f32)
  | 2 => fun s => (select (cmpi .sle (iota .tc S768x256 32 [0] iota_S768x256_d0_w32)
      (addi (iota .tc S768x256 32 [1] iota_S768x256_d1_w32) (broadcast S768x256 512#32))) s (broadcast S768x256 maskC) : Vec F S768x256 .f32)
  | 3 => fun s => (select (cmpi .sle (iota .tc S1024x256 32 [0] iota_S1024x256_d0_w32)
      (addi (iota .tc S1024x256 32 [1] iota_S1024x256_d1_w32) (broadcast S1024x256 768#32))) s (broadcast S1024x256 maskC) : Vec F S1024x256 .f32)

/-- The new running maximum of 256 queries. -/
def newMax (sb : Fin 4) (s : Vec F ⟨2, ![nk sb, 256]⟩ .f32) (m : Vec F S1x1x256 .f32) : FVec F S1x256 .f32 :=
  maximumf (shapeCast S1x256 m shapeCasts_S1x1x256_S1x256 : FVec F S1x256 .f32) (rowMax sb s)

/-- What is stored back as the running maximum. -/
def mNext (sb : Fin 4) (s : Vec F ⟨2, ![nk sb, 256]⟩ .f32) (m : Vec F S1x1x256 .f32) : Vec F S1x1x256 .f32 :=
  shapeCast S1x1x256 (newMax sb s m) shapeCasts_S1x256_S1x1x256

/-- What is stored back as the running numerator (and, in row 64, denominator). -/
def aNext (sb : Fin 4) (s : Vec F ⟨2, ![nk sb, 256]⟩ .f32) (v : Vec F ⟨3, ![1, 80, nk sb]⟩ .bf16)
    (m : Vec F S1x1x256 .f32) (a : Vec F S1x80x256 .f32) : Vec F S1x80x256 .f32 :=
  shapeCast S1x80x256 (addf (mulf (broadcastTo S80x256 (exp2 (subf (shapeCast S1x256 m shapeCasts_S1x1x256_S1x256 : FVec F S1x256 .f32) (newMax sb s m)) : FVec F S1x256 .f32) broadcasts_S1x256_S80x256)
      (shapeCast S80x256 a shapeCasts_S1x80x256_S80x256 : FVec F S80x256 .f32)) (pv sb s (newMax sb s m) v) : FVec F S80x256 .f32) shapeCasts_S80x256_S1x80x256

/-! ## The boxes -/

theorem pos_of {n : ℕ} {z : Fin n → ℕ} (h : ∀ a, 0 < z a) : 0 < (⟨n, z⟩ : Shape).numel :=
  Finset.prod_pos fun a _ => h a

/-- The box of 256 queries of head `hh`, sub-block `sb`. -/
def atQ (hh : Fin 2) (sb : Fin 4) : At S2x128x1024 S1x128x256.size where
  off := ![hh.val, 0, 256 * sb.val]
  inb := by intro a; fin_cases a <;> simp [S2x128x1024, S1x128x256] <;> omega
  pos := h_S1x128x256

/-- The box of 256 running maxima. -/
def atM (hh : Fin 2) (sb : Fin 4) : At S2x1x1024 S1x1x256.size where
  off := ![hh.val, 0, 256 * sb.val]
  inb := by intro a; fin_cases a <;> simp [S2x1x1024, S1x1x256] <;> omega
  pos := h_S1x1x256

/-- The box of 256 running numerators. -/
def atA (hh : Fin 2) (sb : Fin 4) : At S2x80x1024 S1x80x256.size where
  off := ![hh.val, 0, 256 * sb.val]
  inb := by intro a; fin_cases a <;> simp [S2x80x1024, S1x80x256] <;> omega
  pos := h_S1x80x256

/-- A chain's scores in a score buffer: the first `nk c` rows. -/
def atS (hh : Fin 2) (sb c : Fin 4) : At S8x1024x256 ![1, nk c, 256] where
  off := ![4 * hh.val + sb.val, 0, 0]
  inb := by intro a; fin_cases a <;> simp [S8x1024x256, nk] <;> omega
  pos := pos_of (by intro a; fin_cases a <;> simp [nk])

/-- The first `nk c` rows of one chain's scores. -/
def atC (c : Fin 4) : At S1024x256 ![nk c, 256] where
  off := ![0, 0]
  inb := by intro a; fin_cases a <;> simp [S1024x256, nk] <;> omega
  pos := pos_of (by intro a; fin_cases a <;> simp [nk])

/-- `nk c` keys of head `hh` at a given place. -/
def atK (c : Fin 4) (off : Fin 3 → ℕ) (inb : ∀ a, off a + (![1, nk c, 128] : Fin 3 → ℕ) a ≤ S2x16384x128.size a) : At S2x16384x128 ![1, nk c, 128] :=
  ⟨off, inb, pos_of (by intro a; fin_cases a <;> simp [nk])⟩

/-- The values of `nk c` keys of head `hh` at a given place. -/
def atV (c : Fin 4) (off : Fin 3 → ℕ) (inb : ∀ a, off a + (![1, 80, nk c] : Fin 3 → ℕ) a ≤ S2x80x16384.size a) : At S2x80x16384 ![1, 80, nk c] :=
  ⟨off, inb, pos_of (by intro a; fin_cases a <;> simp [nk])⟩

/-- The first key block of head `hh`. -/
def atK0 (hh : Fin 2) : At S2x16384x128 ![1, nk 3, 128] :=
  atK 3 ![hh.val, 0, 0] (by intro a; fin_cases a <;> simp [S2x16384x128, nk] <;> omega)

/-! ## The programs -/

/-- The first half of a chain step of head `hh`, sub-block `sb`: `nk cn` scores of the next key block into `nB`. -/
def chainHead (kB : Memref sig .tc .vmem S2x16384x128 .bf16) (qB : Memref sig .tc .vmem S2x128x1024 .bf16)
    (nB : Memref sig .tc .vmem S8x1024x256 .f32) (hh : Fin 2) (sb cn : Fin 4) (ak : At S2x16384x128 ![1, nk cn, 128]) : Act F PUnit := do
  let k ← ld kB ak
  let q ← ld qB (atQ hh sb)
  let _ ← ld nB (atS hh sb cn)
  st nB (atS hh sb cn) (score cn k q)

/-- One chain's current scores, as a buffer of their own. -/
abbrev curB (cB : Memref sig .tc .vmem S8x1024x256 .f32) (hh : Fin 2) (sb : Fin 4) : Memref sig .tc .vmem S1024x256 .f32 :=
  (cB.slice (atS hh sb 3).rect (fun _ => rfl)).squeeze S1024x256 squeezes_S1x1024x256_S1024x256

/-- The second half: the `nk cc` scores of the current block, through `pre`, out of `cB` into the running maximum
    and numerators. -/
def chainTail (cB : Memref sig .tc .vmem S8x1024x256 .f32) (vB : Memref sig .tc .vmem S2x80x16384 .bf16)
    (mB : Memref sig .tc .vmem S2x1x1024 .f32) (aB : Memref sig .tc .vmem S2x80x1024 .f32)
    (hh : Fin 2) (sb cc : Fin 4) (av : At S2x80x16384 ![1, 80, nk cc])
    (pre : Vec F ⟨2, ![nk cc, 256]⟩ .f32 → Vec F ⟨2, ![nk cc, 256]⟩ .f32) : Act F PUnit := do
  let s ← ld (curB cB hh sb) (atC cc)
  let v ← ld vB av
  let m ← ld mB (atM hh sb)
  let a ← ld aB (atA hh sb)
  let _ ← ld aB (atA hh sb)
  st aB (atA hh sb) (aNext cc (pre s) v m a)
  let _ ← ld mB (atM hh sb)
  st mB (atM hh sb) (mNext cc (pre s) m)

/-- One chain step. -/
def chain (kB : Memref sig .tc .vmem S2x16384x128 .bf16) (qB : Memref sig .tc .vmem S2x128x1024 .bf16)
    (nB cB : Memref sig .tc .vmem S8x1024x256 .f32) (vB : Memref sig .tc .vmem S2x80x16384 .bf16)
    (mB : Memref sig .tc .vmem S2x1x1024 .f32) (aB : Memref sig .tc .vmem S2x80x1024 .f32)
    (hh : Fin 2) (sb cn cc : Fin 4) (ak : At S2x16384x128 ![1, nk cn, 128]) (av : At S2x80x16384 ![1, 80, nk cc])
    (pre : Vec F ⟨2, ![nk cc, 256]⟩ .f32 → Vec F ⟨2, ![nk cc, 256]⟩ .f32) : Act F PUnit := do
  chainHead kB qB nB hh sb cn ak
  chainTail cB vB mB aB hh sb cc av pre

/-- The scores of the first key block, at the beginning of a pair of heads. -/
def first (kB : Memref sig .tc .vmem S2x16384x128 .bf16) (qB : Memref sig .tc .vmem S2x128x1024 .bf16)
    (nB : Memref sig .tc .vmem S8x1024x256 .f32) (hh : Fin 2) (sb : Fin 4) : Act F PUnit := do
  let k ← ld kB (atK0 hh)
  let q ← ld qB (atQ hh sb)
  let _ ← ld nB (atS hh sb 3)
  st nB (atS hh sb 3) (score 3 k q)

/-- The last seven of eight chains in a row. -/
def all7 (c : Fin 2 → Fin 4 → Act F PUnit) : Act F PUnit := do
  c 0 1; c 0 2; c 0 3; c 1 0; c 1 1; c 1 2; c 1 3

/-- Eight chains in a row. -/
def all8 (c : Fin 2 → Fin 4 → Act F PUnit) : Act F PUnit := do
  c 0 0; all7 c

/-- A pair of places, by head. -/
abbrev pick (a b : Fin 3 → ℕ) (hh : Fin 2) : Fin 3 → ℕ := (![a, b] : Fin 2 → Fin 3 → ℕ) hh

theorem pick_inb {a b : Fin 3 → ℕ} {z s : Fin 3 → ℕ} (ha : ∀ d, a d + z d ≤ s d) (hb : ∀ d, b d + z d ≤ s d)
    (hh : Fin 2) : ∀ d, pick a b hh d + z d ≤ s d := by
  fin_cases hh
  · exact ha
  · exact hb

/-- The values of the diagonal block, for an even block. -/
def lastV2 (i : grid0.Coords) (h2 : k0_cond2 i = 1#1) : (hh : Fin 2) → (sb : Fin 4) → At S2x80x16384 ![1, 80, nk sb]
  | 0, 0 => atV 0 (k0_off19 i) (k0_off19_inb i h2)
  | 0, 1 => atV 1 (k0_off20 i) (k0_off20_inb i h2)
  | 0, 2 => atV 2 (k0_off21 i) (k0_off21_inb i h2)
  | 0, 3 => atV 3 (k0_off22 i) (k0_off22_inb i h2)
  | 1, 0 => atV 0 (k0_off23 i) (k0_off23_inb i h2)
  | 1, 1 => atV 1 (k0_off24 i) (k0_off24_inb i h2)
  | 1, 2 => atV 2 (k0_off25 i) (k0_off25_inb i h2)
  | 1, 3 => atV 3 (k0_off26 i) (k0_off26_inb i h2)

/-- The values of the diagonal block, for an odd block. -/
def lastV3 (i : grid0.Coords) (h3 : k0_cond3 i = 1#1) : (hh : Fin 2) → (sb : Fin 4) → At S2x80x16384 ![1, 80, nk sb]
  | 0, 0 => atV 0 (k0_off53 i) (k0_off53_inb i h3)
  | 0, 1 => atV 1 (k0_off54 i) (k0_off54_inb i h3)
  | 0, 2 => atV 2 (k0_off55 i) (k0_off55_inb i h3)
  | 0, 3 => atV 3 (k0_off56 i) (k0_off56_inb i h3)
  | 1, 0 => atV 0 (k0_off57 i) (k0_off57_inb i h3)
  | 1, 1 => atV 1 (k0_off58 i) (k0_off58_inb i h3)
  | 1, 2 => atV 2 (k0_off59 i) (k0_off59_inb i h3)
  | 1, 3 => atV 3 (k0_off60 i) (k0_off60_inb i h3)

/-- The keys of the diagonal block, for an odd block. -/
def diagK (i : grid0.Coords) (h3 : k0_cond3 i = 1#1) : (hh : Fin 2) → (sb : Fin 4) → At S2x16384x128 ![1, nk sb, 128]
  | 0, 0 => atK 0 (k0_off43 i) (k0_off43_inb i h3)
  | 0, 1 => atK 1 (k0_off45 i) (k0_off45_inb i h3)
  | 0, 2 => atK 2 (k0_off46 i) (k0_off46_inb i h3)
  | 0, 3 => atK 3 (k0_off47 i) (k0_off47_inb i h3)
  | 1, 0 => atK 0 (k0_off48 i) (k0_off48_inb i h3)
  | 1, 1 => atK 1 (k0_off50 i) (k0_off50_inb i h3)
  | 1, 2 => atK 2 (k0_off51 i) (k0_off51_inb i h3)
  | 1, 3 => atK 3 (k0_off52 i) (k0_off52_inb i h3)

section Body

variable (i : grid0.Coords) (arg2 : Memref sig .tc .vmem S2x128x1024 .bf16) (harg2 : arg2.IsWhole) (arg3 : Memref sig .tc .vmem S2x128x1024 .bf16) (harg3 : arg3.IsWhole)
  (arg4 : Memref sig .tc .vmem S2x1024x128 .bf16) (harg4 : arg4.IsWhole) (arg5 : Memref sig .tc .vmem S2x80x1024 .bf16) (harg5 : arg5.IsWhole)
  (arg6 : Memref sig .tc .vmem S1024x128 .f32) (harg6 : arg6.IsWhole) (arg7 : Memref sig .tc .vmem S2x1x1024 .f32) (harg7 : arg7.IsWhole)
  (arg8 : Memref sig .tc .vmem S2x80x1024 .f32) (harg8 : arg8.IsWhole) (arg9 : Memref sig .tc .vmem S8x1024x256 .f32) (harg9 : arg9.IsWhole)
  (arg10 : Memref sig .tc .vmem S8x1024x256 .f32) (harg10 : arg10.IsWhole) (arg11 : Memref sig .tc .vmem S8x1024x256 .f32) (harg11 : arg11.IsWhole)
  (arg12 : Memref sig .tc .vmem S2x16384x128 .bf16) (harg12 : arg12.IsWhole) (arg13 : Memref sig .tc .vmem S2x80x16384 .bf16) (harg13 : arg13.IsWhole)

/-- One trip of the even blocks' loop: key blocks `2t` and `2t+1` finished, `2t+1` and `2t+2` scored. -/
def evenTrip (h2 : k0_cond2 i = 1#1) (t : Fin (k0_t1_loop i).trips) : Act F PUnit := do
  all8 fun hh sb => chain arg12 arg2 arg10 arg9 arg13 arg7 arg8 hh sb 3 3
    (atK 3 (pick (k0_off3 i t) (k0_off5 i t) hh) (pick_inb (k0_off3_inb i t h2) (k0_off5_inb i t h2) hh))
    (atV 3 (pick (k0_off4 i t) (k0_off6 i t) hh) (pick_inb (k0_off4_inb i t h2) (k0_off6_inb i t h2) hh)) id
  all8 fun hh sb => chain arg12 arg2 arg9 arg10 arg13 arg7 arg8 hh sb 3 3
    (atK 3 (pick (k0_off7 i t) (k0_off9 i t) hh) (pick_inb (k0_off7_inb i t h2) (k0_off9_inb i t h2) hh))
    (atV 3 (pick (k0_off8 i t) (k0_off10 i t) hh) (pick_inb (k0_off8_inb i t h2) (k0_off10_inb i t h2) hh)) id

/-- One trip of the odd blocks' loop. -/
def oddTrip (h3 : k0_cond3 i = 1#1) (t : Fin (k0_t3_loop i).trips) : Act F PUnit := do
  all8 fun hh sb => chain arg12 arg2 arg10 arg11 arg13 arg7 arg8 hh sb 3 3
    (atK 3 (pick (k0_off27 i t) (k0_off29 i t) hh) (pick_inb (k0_off27_inb i t h3) (k0_off29_inb i t h3) hh))
    (atV 3 (pick (k0_off28 i t) (k0_off30 i t) hh) (pick_inb (k0_off28_inb i t h3) (k0_off30_inb i t h3) hh)) id
  all8 fun hh sb => chain arg12 arg2 arg11 arg10 arg13 arg7 arg8 hh sb 3 3
    (atK 3 (pick (k0_off31 i t) (k0_off33 i t) hh) (pick_inb (k0_off31_inb i t h3) (k0_off33_inb i t h3) hh))
    (atV 3 (pick (k0_off32 i t) (k0_off34 i t) hh) (pick_inb (k0_off32_inb i t h3) (k0_off34_inb i t h3) hh)) id

/-- The diagonal row of an even block, with the first scores of the next block. -/
def lastEven (h2 : k0_cond2 i = 1#1) (hh : Fin 2) (sb : Fin 4) : Act F PUnit :=
  chain arg12 arg3 arg11 arg9 arg13 arg7 arg8 hh sb 3 sb (atK0 hh) (lastV2 i h2 hh sb) (masked sb)

/-- The diagonal row of an odd block, with the first scores of the next block. -/
def lastOdd (h3 : k0_cond3 i = 1#1) (hh : Fin 2) (sb : Fin 4) : Act F PUnit :=
  chain arg12 arg3 arg9 arg10 arg13 arg7 arg8 hh sb 3 sb (atK0 hh) (lastV3 i h3 hh sb) (masked sb)

/-- The row before the diagonal, of an odd block: the diagonal block is scored only as far as it is seen. -/
def beforeLast (h3 : k0_cond3 i = 1#1) (hh : Fin 2) (sb : Fin 4) : Act F PUnit :=
  chain arg12 arg2 arg10 arg11 arg13 arg7 arg8 hh sb sb 3 (diagK i h3 hh sb)
    (atV 3 (pick (k0_off44 i) (k0_off49 i) hh) (pick_inb (k0_off44_inb i h3) (k0_off49_inb i h3) hh)) id

/-- The loop of an even block. -/
def evenLoop (h2 : k0_cond2 i = 1#1) : Act F PUnit :=
  Scf.Loop.for (k0_t1_loop i) (k0_t1_ok i h2) ⟨⟩ fun t _ => evenTrip i arg2 arg7 arg8 arg9 arg10 arg12 arg13 h2 t

/-- The remainder of an even block's loop; it runs over no trip. -/
def evenRem (h2 : k0_cond2 i = 1#1) : Act F PUnit :=
  Scf.Loop.for (k0_t2_loop i) (k0_t2_ok i h2) ⟨⟩ fun t _ => do
    let ⟨n, w⟩ : Σ' (n : FVec F S1x256 .f32), FVec F S80x256 .f32 ← k0_part56 i arg2 harg2 arg3 harg3 arg4 harg4 arg5 harg5 arg6 harg6 arg7 harg7 arg8 harg8 arg9 harg9 arg10 harg10 arg11 harg11 arg12 harg12 arg13 harg13 h2 (k0_t2_loop i).lb 1#32 t
    let _ ← ld arg8 (atA 1 3)
    st arg8 (atA 1 3) (shapeCast S1x80x256 w shapeCasts_S80x256_S1x80x256)
    let _ ← ld arg7 (atM 1 3)
    st arg7 (atM 1 3) (shapeCast S1x1x256 n shapeCasts_S1x256_S1x1x256)

/-- The loop of an odd block. -/
def oddLoop (h3 : k0_cond3 i = 1#1) : Act F PUnit :=
  Scf.Loop.for (k0_t3_loop i) (k0_t3_ok i h3) ⟨⟩ fun t _ => oddTrip i arg2 arg7 arg8 arg10 arg11 arg12 arg13 h3 t

/-- The remainder of an odd block's loop; it runs over no trip. -/
def oddRem (h3 : k0_cond3 i = 1#1) : Act F PUnit :=
  Scf.Loop.for (k0_t4_loop i) (k0_t4_ok i h3) ⟨⟩ fun t _ => do
    let ⟨n, w⟩ : Σ' (n : FVec F S1x256 .f32), FVec F S80x256 .f32 ← k0_part124 i arg2 harg2 arg3 harg3 arg4 harg4 arg5 harg5 arg6 harg6 arg7 harg7 arg8 harg8 arg9 harg9 arg10 harg10 arg11 harg11 arg12 harg12 arg13 harg13 h3 (k0_t4_loop i).lb 1#32 t
    let _ ← ld arg8 (atA 1 3)
    st arg8 (atA 1 3) (shapeCast S1x80x256 w shapeCasts_S80x256_S1x80x256)
    let _ ← ld arg7 (atM 1 3)
    st arg7 (atM 1 3) (shapeCast S1x1x256 n shapeCasts_S1x256_S1x1x256)

/-- The whole of a buffer. -/
def whole (s : Shape) (h : 0 < s.numel) : At s s.size := ⟨fun _ => 0, fun _ => by simp, h⟩

/-- The box of the new keys in their cache. -/
def atKC : At S2x16384x128 S2x1024x128.size := ⟨k0_off1 i, k0_off1_inb i, h_S2x1024x128⟩

/-- The box of the new values in their cache. -/
def atVC : At S2x80x16384 S2x80x1024.size := ⟨k0_off2 i, k0_off2_inb i, h_S2x80x1024⟩

/-- The places `[0, 0, 0]` and `[0, 0]`, whole buffers. -/
def all3 {s : Shape} (hr : s.rank = 3) (h : 0 < s.numel) : At s s.size :=
  ⟨fun a => (![0, 0, 0] : Fin 3 → ℕ) (Fin.cast hr a), fun a => by
    have : ∀ b : Fin 3, (![0, 0, 0] : Fin 3 → ℕ) b = 0 := by decide
    simp [this], h⟩

/-- The beginning: the running state is emptied, the new keys and values go into the caches. -/
def begin_ : Act F PUnit := do
  let _ ← ld arg7 (all3 (s := S2x1x1024) rfl h_S2x1x1024)
  st arg7 (all3 (s := S2x1x1024) rfl h_S2x1x1024) (shapeCast S2x1x1024 (broadcast S2x1x1024 maskC : FVec F S2x1x1024 .f32) shapeCasts_S2x1x1024_S2x1x1024)
  let _ ← ld arg8 (all3 (s := S2x80x1024) rfl h_S2x80x1024)
  st arg8 (all3 (s := S2x80x1024) rfl h_S2x80x1024) (shapeCast S2x80x1024 (broadcast S2x80x1024 (Scalar.ofBits .f32 0x00000000#32 : F .f32) : FVec F S2x80x1024 .f32) shapeCasts_S2x80x1024_S2x80x1024)
  let k ← ld arg4 (all3 (s := S2x1024x128) rfl h_S2x1024x128)
  let _ ← ld arg12 (atKC i)
  Prog.lift (.store arg12 (atKC i).rect (shapeCast S2x1024x128 k shapeCasts_S2x1024x128_S2x1024x128 : FVec F S2x1024x128 .bf16) Finset.univ
    (View.stores_vmem h_S2x1024x128 (harg12.storeExact_slice rfl _ (k0_off1_packedbf16 i)) (fun _ => rfl)) (.inl rfl))
  let v ← ld arg5 (all3 (s := S2x80x1024) rfl h_S2x80x1024)
  let _ ← ld arg13 (atVC i)
  Prog.lift (.store arg13 (atVC i).rect (shapeCast S2x80x1024 v shapeCasts_S2x80x1024_S2x80x1024 : FVec F S2x80x1024 .bf16) Finset.univ
    (View.stores_vmem h_S2x80x1024 (harg13.storeExact_slice rfl _ (k0_off2_packedbf16 i)) (fun _ => rfl)) (.inl rfl))

/-- The box of one head's numerators. -/
def atO (hh : Fin 2) : At S2x80x1024 S1x64x1024.size where
  off := ![hh.val, 0, 0]
  inb := by intro a; fin_cases a <;> simp [S2x80x1024, S1x64x1024] <;> omega
  pos := h_S1x64x1024

/-- The box of one head's denominators. -/
def atL (hh : Fin 2) : At S2x80x1024 S1x1x1024.size where
  off := ![hh.val, 64, 0]
  inb := by intro a; fin_cases a <;> simp [S2x80x1024, S1x1x1024] <;> omega
  pos := h_S1x1x1024

/-- One head's output: numerators over denominators. -/
def quot (n : Vec F S1x64x1024 .f32) (l : Vec F S1x1x1024 .f32) : FVec F S64x1024 .f32 :=
  divf (shapeCast S64x1024 n shapeCasts_S1x64x1024_S64x1024 : FVec F S64x1024 .f32)
    (broadcastTo S64x1024 (shapeCast S1x1024 l shapeCasts_S1x1x1024_S1x1024 : FVec F S1x1024 .f32) broadcasts_S1x1024_S64x1024)

/-- What the block's output is, from the four boxes read. -/
def outOf (n0 : Vec F S1x64x1024 .f32) (l0 : Vec F S1x1x1024 .f32) (n1 : Vec F S1x64x1024 .f32) (l1 : Vec F S1x1x1024 .f32) : FVec F S128x1024 .f32 :=
  concatenate S128x1024 0 [⟨S64x1024, quot n0 l0⟩, ⟨S64x1024, quot n1 l1⟩] concatenates_S64x1024_S64x1024_S128x1024_d0

/-- The box of the whole output block. -/
def atOut : At S1024x128 S1024x128.size := ⟨![0, 0], inb_S1024x128_S1024x128_0_0, h_S1024x128⟩

/-- An even block, its loops and diagonal in the printed order, and what follows. -/
def evenRaw {α : Type} (h2 : k0_cond2 i = 1#1) (rest : Act F α) : Act F α := do
  (do evenLoop i arg2 arg7 arg8 arg9 arg10 arg12 arg13 h2
      evenRem i arg2 harg2 arg3 harg3 arg4 harg4 arg5 harg5 arg6 harg6 arg7 harg7 arg8 harg8 arg9 harg9 arg10 harg10 arg11 harg11 arg12 harg12 arg13 harg13 h2
      chainHead arg12 arg3 arg11 0 0 3 (atK0 0))
  chainTail arg9 arg13 arg7 arg8 0 0 0 (lastV2 i h2 0 0) (masked 0)
  all7 (lastEven i arg3 arg7 arg8 arg9 arg11 arg12 arg13 h2)
  rest

/-- The scalar arithmetic the printed text carries along. -/
def carried : Σ' (_ : BitVec 32) (_ : BitVec 32) (_ : BitVec 32) (_ : BitVec 1), BitVec 32 :=
  have a : BitVec 32 := BitVec.ofNat 32 (i 1).val
  have b : BitVec 32 := Scalar.select (Scalar.cmpi .eq 2#32 0#32) 1#32 2#32
  ⟨a, b, Scalar.remsi a b, Scalar.cmpi .ne (Scalar.remsi a b) 0#32, 0#32⟩

/-- An odd block, in the printed order, and what follows. -/
def oddRaw {α : Type} (h3 : k0_cond3 i = 1#1) (rest : Act F α) : Act F α := do
  let y : Σ' (_ : FVec F S1x256 .f32), Vec F S1x1x256 .f32 ← (do
    let x : Σ' (_ : BitVec 32), FVec F S256x256 .f32 ← (do
      oddLoop i arg2 arg7 arg8 arg10 arg11 arg12 arg13 h3
      oddRem i arg2 harg2 arg3 harg3 arg4 harg4 arg5 harg5 arg6 harg6 arg7 harg7 arg8 harg8 arg9 harg9 arg10 harg10 arg11 harg11 arg12 harg12 arg13 harg13 h3
      let k ← ld arg12 (diagK i h3 0 0)
      let q ← ld arg2 (atQ 0 0)
      let _ ← ld arg10 (atS 0 0 0)
      pure ⟨Scalar.subi (BitVec.ofNat 32 (i 1).val) 1#32, matmul dot_S256x128_S128x256_S256x256_1_0_0_1_n_n none
        (shapeCast S256x128 k shapeCasts_S1x256x128_S256x128 : FVec F S256x128 .bf16)
        (shapeCast S128x256 q shapeCasts_S1x128x256_S128x256 : FVec F S128x256 .bf16) (constant S256x256 .f32 0x00000000#32)⟩)
    st arg10 (atS 0 0 0) (shapeCast S1x256x256 x.2 shapeCasts_S256x256_S1x256x256)
    chainTail arg11 arg13 arg7 arg8 0 0 3 (atV 3 (k0_off44 i) (k0_off44_inb i h3)) id
    all7 (beforeLast i arg2 arg7 arg8 arg10 arg11 arg12 arg13 h3)
    lastOdd i arg3 arg7 arg8 arg9 arg10 arg12 arg13 h3 0 0
    lastOdd i arg3 arg7 arg8 arg9 arg10 arg12 arg13 h3 0 1
    lastOdd i arg3 arg7 arg8 arg9 arg10 arg12 arg13 h3 0 2
    lastOdd i arg3 arg7 arg8 arg9 arg10 arg12 arg13 h3 0 3
    lastOdd i arg3 arg7 arg8 arg9 arg10 arg12 arg13 h3 1 0
    lastOdd i arg3 arg7 arg8 arg9 arg10 arg12 arg13 h3 1 1
    lastOdd i arg3 arg7 arg8 arg9 arg10 arg12 arg13 h3 1 2
    chainHead arg12 arg3 arg9 1 3 3 (atK0 1)
    let s ← ld (curB arg10 1 3) (atC 3)
    let v ← ld arg13 (lastV3 i h3 1 3)
    let m ← ld arg7 (atM 1 3)
    let a ← ld arg8 (atA 1 3)
    let _ ← ld arg8 (atA 1 3)
    st arg8 (atA 1 3) (aNext 3 (masked 3 s) v m a)
    let w ← ld arg7 (atM 1 3)
    pure ⟨newMax 3 (masked 3 s) m, w⟩)
  st arg7 (atM 1 3) (shapeCast S1x1x256 y.1 shapeCasts_S1x256_S1x1x256)
  rest

/-- The four boxes the output is made of. -/
def readOut : Act F (FVec F S128x1024 .f32) := do
  let n0 ← ld arg8 (atO 0)
  let l0 ← ld arg8 (atL 0)
  let n1 ← ld arg8 (atO 1)
  let l1 ← ld arg8 (atL 1)
  pure (outOf n0 l0 n1 l1)

/-- What follows an even block. -/
def afterEven : Act F (FVec F S128x1024 .f32) :=
  if h3 : k0_cond3 i = 1#1 then oddRaw i arg2 harg2 arg3 harg3 arg4 harg4 arg5 harg5 arg6 harg6 arg7 harg7 arg8 harg8 arg9 harg9 arg10 harg10 arg11 harg11 arg12 harg12 arg13 harg13 h3 (readOut arg8) else readOut arg8

/-- An even block. -/
def even (h2 : k0_cond2 i = 1#1) : Act F PUnit := do
  evenLoop i arg2 arg7 arg8 arg9 arg10 arg12 arg13 h2
  evenRem i arg2 harg2 arg3 harg3 arg4 harg4 arg5 harg5 arg6 harg6 arg7 harg7 arg8 harg8 arg9 harg9 arg10 harg10 arg11 harg11 arg12 harg12 arg13 harg13 h2
  all8 (lastEven i arg3 arg7 arg8 arg9 arg11 arg12 arg13 h2)

/-- An odd block. -/
def odd (h3 : k0_cond3 i = 1#1) : Act F PUnit := do
  oddLoop i arg2 arg7 arg8 arg10 arg11 arg12 arg13 h3
  oddRem i arg2 harg2 arg3 harg3 arg4 harg4 arg5 harg5 arg6 harg6 arg7 harg7 arg8 harg8 arg9 harg9 arg10 harg10 arg11 harg11 arg12 harg12 arg13 harg13 h3
  all8 (beforeLast i arg2 arg7 arg8 arg10 arg11 arg12 arg13 h3)
  all8 (lastOdd i arg3 arg7 arg8 arg9 arg10 arg12 arg13 h3)

/-- The end: both heads' quotients, transposed, into the output block. -/
def finish : Act F PUnit := do
  let o ← readOut arg8
  let _ ← ld arg6 atOut
  st arg6 atOut (transpose S1024x128 [1, 0] o transposes_S128x1024_p1_0_S1024x128)

/-- The body, with its structure. -/
def body : Act F PUnit := do
  begin_ i arg4 arg5 arg7 arg8 arg12 harg12 arg13 harg13
  (if h1 : k0_cond1 i = 1#1 then all8 (first arg12 arg2 arg9) else pure ⟨⟩)
  (if h2 : k0_cond2 i = 1#1 then even i arg2 harg2 arg3 harg3 arg4 harg4 arg5 harg5 arg6 harg6 arg7 harg7 arg8 harg8 arg9 harg9 arg10 harg10 arg11 harg11 arg12 harg12 arg13 harg13 h2 else pure ⟨⟩)
  (if h3 : k0_cond3 i = 1#1 then odd i arg2 harg2 arg3 harg3 arg4 harg4 arg5 harg5 arg6 harg6 arg7 harg7 arg8 harg8 arg9 harg9 arg10 harg10 arg11 harg11 arg12 harg12 arg13 harg13 h3 else pure ⟨⟩)
  finish arg6 arg8

end Body

end Cert.KernelIdeal.Fox
-- ==== Proof.StructEq.lean ====
/- The printed attention body is the structured one. -/
module
public import proofs.«01_k».proof.Proof.Struct
public import Idealize.ShloMosaic.Lib.Pipeline.Regions
@[expose] public section
set_option maxRecDepth 16384
noncomputable section
namespace Cert.KernelIdeal.Fox
open Idealize.ShloMosaic Idealize.SL.Sem Facts₀ Facts
variable {F : FTy → Type} [FloatOps F] [Named F]

theorem part154_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  :
    k0_part154 (F := F) i arg2 harg2 arg3 harg3 arg4 harg4 arg5 harg5 arg6 harg6 arg7 harg7 arg8 harg8 arg9 harg9 arg10 harg10 arg11 harg11 arg12 harg12 arg13 harg13 (carried i).1 (carried i).2.1 (carried i).2.2.1 (carried i).2.2.2.1 (carried i).2.2.2.2 = (
      if h2 : k0_cond2 i = 1#1 then evenRaw i arg2 harg2 arg3 harg3 arg4 harg4 arg5 harg5 arg6 harg6 arg7 harg7 arg8 harg8 arg9 harg9 arg10 harg10 arg11 harg11 arg12 harg12 arg13 harg13 h2 (afterEven i arg2 harg2 arg3 harg3 arg4 harg4 arg5 harg5 arg6 harg6 arg7 harg7 arg8 harg8 arg9 harg9 arg10 harg10 arg11 harg11 arg12 harg12 arg13 harg13) else afterEven i arg2 harg2 arg3 harg3 arg4 harg4 arg5 harg5 arg6 harg6 arg7 harg7 arg8 harg8 arg9 harg9 arg10 harg10 arg11 harg11 arg12 harg12 arg13 harg13) := by chain_rfl

theorem part153_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  :
    k0_part153 (F := F) i arg2 harg2 arg3 harg3 arg4 harg4 arg5 harg5 arg6 harg6 arg7 harg7 arg8 harg8 arg9 harg9 arg10 harg10 arg11 harg11 arg12 harg12 arg13 harg13 = (do
      begin_ i arg4 arg5 arg7 arg8 arg12 harg12 arg13 harg13
      if h1 : k0_cond1 i = 1#1 then (do all8 (first arg12 arg2 arg9); pure (carried i)) else pure (carried i)) := by chain_rfl

theorem start_eq (i : grid0.Coords) (p : Act F PUnit) :
    (if h1 : k0_cond1 i = 1#1 then (do p; pure (carried i)) else pure (carried i)) =
      ((if h1 : k0_cond1 i = 1#1 then p else pure ⟨⟩) >>= fun _ => pure (carried i)) := by
  by_cases h1 : k0_cond1 i = 1#1
  · rw [dif_pos h1, dif_pos h1]
  · rw [dif_neg h1, dif_neg h1]
    rfl

theorem cc0_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  :
    cc0_fox (F := F) i arg2 harg2 arg3 harg3 arg4 harg4 arg5 harg5 arg6 harg6 arg7 harg7 arg8 harg8 arg9 harg9 arg10 harg10 arg11 harg11 arg12 harg12 arg13 harg13 = (do
      let x ← k0_part153 i arg2 harg2 arg3 harg3 arg4 harg4 arg5 harg5 arg6 harg6 arg7 harg7 arg8 harg8 arg9 harg9 arg10 harg10 arg11 harg11 arg12 harg12 arg13 harg13
      let o ← k0_part154 i arg2 harg2 arg3 harg3 arg4 harg4 arg5 harg5 arg6 harg6 arg7 harg7 arg8 harg8 arg9 harg9 arg10 harg10 arg11 harg11 arg12 harg12 arg13 harg13 x.1 x.2.1 x.2.2.1 x.2.2.2.1 x.2.2.2.2
      let _ ← ld arg6 atOut
      st arg6 atOut (transpose S1024x128 [1, 0] o transposes_S128x1024_p1_0_S1024x128)) := by chain_rfl

theorem evenRaw_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  {α : Type} (h2 : k0_cond2 i = 1#1) (rest : Act F α) :
    (evenRaw (F := F) i arg2 harg2 arg3 harg3 arg4 harg4 arg5 harg5 arg6 harg6 arg7 harg7 arg8 harg8 arg9 harg9 arg10 harg10 arg11 harg11 arg12 harg12 arg13 harg13 h2 rest) = (even i arg2 harg2 arg3 harg3 arg4 harg4 arg5 harg5 arg6 harg6 arg7 harg7 arg8 harg8 arg9 harg9 arg10 harg10 arg11 harg11 arg12 harg12 arg13 harg13 h2 >>= fun _ => rest) := by
  unfold evenRaw even
  refine (Prog.bind_assoc _ _ _).trans (Eq.trans (congrArg (Bind.bind _) (funext fun _ => ?_)) (Prog.bind_assoc _ _ _).symm)
  refine (Prog.bind_assoc _ _ _).trans (Eq.trans (congrArg (Bind.bind _) (funext fun _ => ?_)) (Prog.bind_assoc _ _ _).symm)
  chain_rfl

theorem oddRaw_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  {α : Type} (h3 : k0_cond3 i = 1#1) (rest : Act F α) :
    (oddRaw (F := F) i arg2 harg2 arg3 harg3 arg4 harg4 arg5 harg5 arg6 harg6 arg7 harg7 arg8 harg8 arg9 harg9 arg10 harg10 arg11 harg11 arg12 harg12 arg13 harg13 h3 rest) = (odd i arg2 harg2 arg3 harg3 arg4 harg4 arg5 harg5 arg6 harg6 arg7 harg7 arg8 harg8 arg9 harg9 arg10 harg10 arg11 harg11 arg12 harg12 arg13 harg13 h3 >>= fun _ => rest) := by
  unfold oddRaw odd
  refine (Prog.bind_assoc _ _ _).trans ?_
  refine (Prog.bind_assoc _ _ _).trans (Eq.trans (congrArg (Bind.bind _) (funext fun _ => ?_)) (Prog.bind_assoc _ _ _).symm)
  refine (Prog.bind_assoc _ _ _).trans (Eq.trans (congrArg (Bind.bind _) (funext fun _ => ?_)) (Prog.bind_assoc _ _ _).symm)
  chain_rfl

theorem afterEven_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  :
    afterEven (F := F) i arg2 harg2 arg3 harg3 arg4 harg4 arg5 harg5 arg6 harg6 arg7 harg7 arg8 harg8 arg9 harg9 arg10 harg10 arg11 harg11 arg12 harg12 arg13 harg13 = ((if h3 : k0_cond3 i = 1#1 then odd i arg2 harg2 arg3 harg3 arg4 harg4 arg5 harg5 arg6 harg6 arg7 harg7 arg8 harg8 arg9 harg9 arg10 harg10 arg11 harg11 arg12 harg12 arg13 harg13 h3 else pure ⟨⟩) >>= fun _ => readOut arg8) := by
  unfold afterEven
  by_cases h3 : k0_cond3 i = 1#1
  · rw [dif_pos h3, dif_pos h3, oddRaw_eq]
  · rw [dif_neg h3, dif_neg h3]
    chain_rfl

theorem middle_eq (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  :
    (if h2 : k0_cond2 i = 1#1 then evenRaw (F := F) i arg2 harg2 arg3 harg3 arg4 harg4 arg5 harg5 arg6 harg6 arg7 harg7 arg8 harg8 arg9 harg9 arg10 harg10 arg11 harg11 arg12 harg12 arg13 harg13 h2 (afterEven i arg2 harg2 arg3 harg3 arg4 harg4 arg5 harg5 arg6 harg6 arg7 harg7 arg8 harg8 arg9 harg9 arg10 harg10 arg11 harg11 arg12 harg12 arg13 harg13) else afterEven i arg2 harg2 arg3 harg3 arg4 harg4 arg5 harg5 arg6 harg6 arg7 harg7 arg8 harg8 arg9 harg9 arg10 harg10 arg11 harg11 arg12 harg12 arg13 harg13) = (do
      (if h2 : k0_cond2 i = 1#1 then even i arg2 harg2 arg3 harg3 arg4 harg4 arg5 harg5 arg6 harg6 arg7 harg7 arg8 harg8 arg9 harg9 arg10 harg10 arg11 harg11 arg12 harg12 arg13 harg13 h2 else pure ⟨⟩)
      (if h3 : k0_cond3 i = 1#1 then odd i arg2 harg2 arg3 harg3 arg4 harg4 arg5 harg5 arg6 harg6 arg7 harg7 arg8 harg8 arg9 harg9 arg10 harg10 arg11 harg11 arg12 harg12 arg13 harg13 h3 else pure ⟨⟩)
      readOut arg8) := by
  rw [afterEven_eq]
  by_cases h2 : k0_cond2 i = 1#1
  · rw [dif_pos h2, dif_pos h2, evenRaw_eq]
  · rw [dif_neg h2, dif_neg h2]
    chain_rfl

/-- The printed body is the structured one. -/
theorem cc0_fox_body (i : grid0.Coords) (arg2 : Memref sig .tc .vmem S2x128x1024 .bf16) (harg2 : arg2.IsWhole) (arg3 : Memref sig .tc .vmem S2x128x1024 .bf16) (harg3 : arg3.IsWhole) (arg4 : Memref sig .tc .vmem S2x1024x128 .bf16) (harg4 : arg4.IsWhole) (arg5 : Memref sig .tc .vmem S2x80x1024 .bf16) (harg5 : arg5.IsWhole) (arg6 : Memref sig .tc .vmem S1024x128 .f32) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S8x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S2x16384x128 .bf16) (harg12 : arg12.IsWhole) (arg13 : Memref sig .tc .vmem S2x80x16384 .bf16) (harg13 : arg13.IsWhole)  :
    cc0_fox (F := F) i arg2 harg2 arg3 harg3 arg4 harg4 arg5 harg5 arg6 harg6 arg7 harg7 arg8 harg8 arg9 harg9 arg10 harg10 arg11 harg11 arg12 harg12 arg13 harg13 = body i arg2 harg2 arg3 harg3 arg4 harg4 arg5 harg5 arg6 harg6 arg7 harg7 arg8 harg8 arg9 harg9 arg10 harg10 arg11 harg11 arg12 harg12 arg13 harg13 := by
  rw [cc0_eq, part153_eq]
  unfold body
  refine (Prog.bind_assoc _ _ _).trans (congrArg (Bind.bind _) (funext fun _ => ?_))
  rw [start_eq]
  refine (Prog.bind_assoc _ _ _).trans (congrArg (Bind.bind _) (funext fun _ => ?_))
  refine (congrArg (fun p => p >>= _) ((part154_eq ..).trans (middle_eq ..))).trans ?_
  refine (Prog.bind_assoc _ _ _).trans (congrArg (Bind.bind _) (funext fun _ => ?_))
  refine (Prog.bind_assoc _ _ _).trans (congrArg (Bind.bind _) (funext fun _ => ?_))
  chain_rfl

end Cert.KernelIdeal.Fox
-- ==== Proof.Wp.lean ====
/- The rules of the kernel's reads and writes: a buffer held at `X` is read box by box as windows of `X`, and a
   write leaves `X` with the payload put in its box. -/
module

public import proofs.«01_k».proof.Proof.Struct
public import Idealize.ShloMosaic.Lib.Scf

@[expose] public section

set_option maxRecDepth 16384

noncomputable section

namespace Cert.KernelIdeal.Fox

open Idealize.ShloMosaic Idealize.ShloMosaic.TcCoe Idealize.ShloMosaic.Tactic Idealize.SL.Sem Facts₀ Facts
open Idealize.SL Idealize.SL.RA Idealize.SL.BI
open Idealize.SL.BI.BIBase Idealize.SL.BI.Laws Idealize.SL.ProofMode
open scoped Idealize.SL.BI

variable {F : FTy → Type} [FloatOps F] [Named F]

local notation "𝕄G" => MT nD τ sig Unit (Elt F) ℕ (UR sig nD τ) ℕ

variable (𝒱 : Variants) (c : Dev nD) (bd : Option 𝒱.V) (E : Set ℕ) {defs : Defs nD τ sig (Elt F) Λ₀}

/-- Programs run from the kernel's core. -/
abbrev wpA {α : Type} (defs : Defs nD τ sig (Elt F) Λ₀) (p : Act F α) (Q : α → sProp 𝕄G) : sProp 𝕄G :=
  wp frame (wpE defs 𝒱 (c : Thread nD τ) bd) E p Q

theorem wpA_bind {α β : Type} (p : Act F α) (k : α → Act F β) (Q : β → sProp 𝕄G) :
    wpA 𝒱 c bd E defs (p >>= k) Q = wpA 𝒱 c bd E defs p (fun a => wpA 𝒱 c bd E defs (k a) Q) := wp_bind _ _ _ _ _ _

/-- A buffer held at `X`. -/
abbrev held {s : Shape} {e : EltTy} (r : Memref sig .tc .vmem s e) (q : PosShare TreeShare) (X : Vec F s e) : sProp 𝕄G :=
  owns (Ix := Unit) (Name := ℕ) (U := UR sig nD τ) (Lvl := ℕ) (c : Thread nD τ) r q X

/-- The window of `X` in a box. -/
def win {s : Shape} {e : EltTy} {z : Fin s.rank → ℕ} (X : Vec F s e) (a : At s z) : Vec F ⟨s.rank, z⟩ e :=
  VecWindow.window X a.off z a.inb

/-- `X` with `w` in a box. -/
def into {s : Shape} {e : EltTy} {z : Fin s.rank → ℕ} (X : Vec F s e) (a : At s z) (w : Vec F ⟨s.rank, z⟩ e) : Vec F s e :=
  VecWindow.put X a.off z w

/-- A read. -/
theorem wp_ld {s : Shape} {e : EltTy} (r : Memref sig .tc .vmem s e) {z : Fin s.rank → ℕ} (a : At s z) (q : PosShare TreeShare)
    (X : Vec F s e) {Q : Vec F ⟨s.rank, z⟩ e → sProp 𝕄G} :
    iprop(held c r q X ∗ (held c r q X -∗ Q (win X a))) ⊢ wpA 𝒱 c bd E defs (ld r a) Q := by
  unfold held owns
  iintro ⟨⟨%f, %hf, H⟩, K⟩
  unfold ld
  have hS : r.view.setOn a.rect.toLoadRect.set ⊆ r.view.set :=
    Memref.setOn_subset_of_access_subset (c : Thread nD τ) (View.set_slice_subset _ _)
  have hv : r.view.readAt (Elt F) a.rect.toLoadRect f = win X a := by
    rw [View.readAt_unit r.view f a.inb rfl a.inb, hf]; rfl
  iapply (wp_load 𝒱 (c : Thread nD τ) bd E (hl := View.loadsAt_vmem a.pos) (q := q) hS) $$ H
  iintro H
  rw [wp_ret, hv]
  imodintro
  iapply K
  iexists f
  isplitr
  · ipureintro; exact hf
  · iexact H

/-- A write, whatever makes it exact. -/
theorem wp_stRaw {s : Shape} {e : EltTy} (r : Memref sig .tc .vmem s e) {z : Fin s.rank → ℕ} (a : At s z)
    (X : Vec F s e) (w : Vec F ⟨s.rank, z⟩ e) (hx : (r.access a.rect).Stores Finset.univ)
    (hm : Finset.univ = Finset.univ ∨ ∀ d, a.rect.stride d = 1) {Q : PUnit → sProp 𝕄G} :
    iprop(held c r fullShare X ∗ (held c r fullShare (into X a w) -∗ Q ⟨⟩))
      ⊢ wpA 𝒱 c bd E defs (Prog.lift (.store r a.rect w Finset.univ hx hm)) Q := by
  unfold held owns
  iintro ⟨⟨%f, %hf, H⟩, K⟩
  have hS : (r.access a.rect).set ⊆ r.view.set := View.set_slice_subset _ _
  iapply (wp_store_writes₀ 𝒱 (c : Thread nD τ) bd E (hx := hx) (hm := hm) hS) $$ H
  iintro H
  rw [wp_ret]
  imodintro
  iapply K
  iexists _
  isplitr
  · ipureintro
    rw [View.read_writes_cons_put r.view f a.inb w [] rfl, View.writes_nil, hf]; rfl
  · iexact H

/-- A write of 32-bit floats. -/
theorem wp_st {s : Shape} (r : Memref sig .tc .vmem s .f32) {z : Fin s.rank → ℕ} (a : At s z)
    (X : Vec F s .f32) (w : Vec F ⟨s.rank, z⟩ .f32) {Q : PUnit → sProp 𝕄G} :
    iprop(held c r fullShare X ∗ (held c r fullShare (into X a w) -∗ Q ⟨⟩)) ⊢ wpA 𝒱 c bd E defs (st r a w) Q :=
  wp_stRaw 𝒱 c bd E r a X w _ _

/-- A read through a squeezed box of a buffer. -/
theorem wp_ldSq {s s' : Shape} {e : EltTy} (r : Memref sig .tc .vmem s e) {z : Fin s.rank → ℕ} (b : At s z)
    (hq : (⟨s.rank, z⟩ : Shape).Squeezes s') {z' : Fin s'.rank → ℕ} (a : At s' z') (q : PosShare TreeShare) (X : Vec F s e)
    (v : Vec F ⟨s'.rank, z'⟩ e) (hv : win (fun y => win X b (Shape.reshapeEquiv hq.numel_eq y)) a = v)
    {Q : Vec F ⟨s'.rank, z'⟩ e → sProp 𝕄G} :
    iprop(held c r q X ∗ (held c r q X -∗ Q v))
      ⊢ wpA 𝒱 c bd E defs (ld ((r.slice b.rect (fun _ => rfl)).squeeze s' hq) a) Q := by
  unfold held owns
  iintro ⟨⟨%f, %hf, H⟩, K⟩
  unfold ld
  have hS : ((r.slice b.rect (fun _ => rfl)).squeeze s' hq).view.setOn a.rect.toLoadRect.set ⊆ r.view.set := by
    refine (Memref.setOn_subset_of_access_subset (c : Thread nD τ) (View.set_slice_subset _ _)).trans ?_
    exact (View.set_reshape (r.view.slice b.rect) hq.numel_eq).subset.trans (View.set_slice_subset r.view b.rect)
  have hv' : ((r.slice b.rect (fun _ => rfl)).squeeze s' hq).view.readAt (Elt F) a.rect.toLoadRect f = v := by
    rw [View.readAt_unit ((r.slice b.rect (fun _ => rfl)).squeeze s' hq).view f a.inb rfl a.inb, ← hv, ← hf]; rfl
  iapply (wp_load 𝒱 (c : Thread nD τ) bd E (m := (r.slice b.rect (fun _ => rfl)).squeeze s' hq) (hl := View.loadsAt_vmem a.pos) (q := q) hS) $$ H
  iintro H
  rw [wp_ret, hv']
  imodintro
  iapply K
  iexists f
  isplitr
  · ipureintro; exact hf
  · iexact H

/-- One chain's scores as a matrix. -/
def flat (S : Vec F ⟨3, ![1, nk 3, 256]⟩ .f32) : Vec F S1024x256 .f32 :=
  fun y => S (Shape.reshapeEquiv squeezes_S1x1024x256_S1024x256.numel_eq y)

/-- The scores a chain step reads. -/
def cur (C : Vec F S8x1024x256 .f32) (hh : Fin 2) (sb cc : Fin 4) : Vec F ⟨2, ![nk cc, 256]⟩ .f32 :=
  win (flat (win C (atS hh sb 3))) (atC cc)

/-- The read of a chain's current scores. -/
theorem wp_ldCur (cB : Memref sig .tc .vmem S8x1024x256 .f32) (hh : Fin 2) (sb cc : Fin 4) (q : PosShare TreeShare)
    (C : Vec F S8x1024x256 .f32) {Q : Vec F ⟨2, ![nk cc, 256]⟩ .f32 → sProp 𝕄G} :
    iprop(held c cB q C ∗ (held c cB q C -∗ Q (cur C hh sb cc))) ⊢ wpA 𝒱 c bd E defs (ld (curB cB hh sb) (atC cc)) Q :=
  wp_ldSq 𝒱 c bd E cB (atS hh sb 3) squeezes_S1x1024x256_S1024x256 (atC cc) q C (cur C hh sb cc) rfl

end Cert.KernelIdeal.Fox
-- ==== Proof.Row.lean ====
/- One chain step, and eight of them in a row, as functions of what the buffers hold. -/
module

public import proofs.«01_k».proof.Proof.Wp

@[expose] public section

set_option maxRecDepth 16384

noncomputable section

namespace Cert.KernelIdeal.Fox

open Idealize.ShloMosaic Idealize.ShloMosaic.TcCoe Idealize.ShloMosaic.Tactic Idealize.SL.Sem Facts₀ Facts
open Idealize.SL Idealize.SL.RA Idealize.SL.BI
open Idealize.SL.BI.BIBase Idealize.SL.BI.Laws Idealize.SL.ProofMode
open scoped Idealize.SL.BI

variable {F : FTy → Type} [FloatOps F] [Named F]

local notation "𝕄G" => MT nD τ sig Unit (Elt F) ℕ (UR sig nD τ) ℕ

/-! ## What a step does -/

/-- The score buffer after the first half of a step. -/
def headF (K : Vec F S2x16384x128 .bf16) (Q : Vec F S2x128x1024 .bf16) (hh : Fin 2) (sb cn : Fin 4)
    (ak : At S2x16384x128 ![1, nk cn, 128]) (N : Vec F S8x1024x256 .f32) : Vec F S8x1024x256 .f32 :=
  into N (atS hh sb cn) (score cn (win K ak) (win Q (atQ hh sb)))

/-- The running maxima and numerators. -/
abbrev MA (F : FTy → Type) : Type := Vec F S2x1x1024 .f32 × Vec F S2x80x1024 .f32

/-- The running maxima and numerators after the second half of a step. -/
def tailF (C : Vec F S8x1024x256 .f32) (V : Vec F S2x80x16384 .bf16) (hh : Fin 2) (sb cc : Fin 4)
    (av : At S2x80x16384 ![1, 80, nk cc]) (pre : Vec F ⟨2, ![nk cc, 256]⟩ .f32 → Vec F ⟨2, ![nk cc, 256]⟩ .f32) (x : MA F) : MA F :=
  (into x.1 (atM hh sb) (mNext cc (pre (cur C hh sb cc)) (win x.1 (atM hh sb))),
   into x.2 (atA hh sb) (aNext cc (pre (cur C hh sb cc)) (win V av) (win x.1 (atM hh sb)) (win x.2 (atA hh sb))))

/-- Eight functions in a row. -/
def fold8 {σ : Type} (g : Fin 2 → Fin 4 → σ → σ) (s : σ) : σ :=
  g 1 3 (g 1 2 (g 1 1 (g 1 0 (g 0 3 (g 0 2 (g 0 1 (g 0 0 s)))))))

section Wp

variable (𝒱 : Variants) (c : Dev nD) (bd : Option 𝒱.V) (E : Set ℕ) {defs : Defs nD τ sig (Elt F) Λ₀}

/-- The first half of a step. -/
theorem wp_head (kB : Memref sig .tc .vmem S2x16384x128 .bf16) (qB : Memref sig .tc .vmem S2x128x1024 .bf16)
    (nB : Memref sig .tc .vmem S8x1024x256 .f32) (hh : Fin 2) (sb cn : Fin 4) (ak : At S2x16384x128 ![1, nk cn, 128])
    (K : Vec F S2x16384x128 .bf16) (Q : Vec F S2x128x1024 .bf16) (N : Vec F S8x1024x256 .f32) {Φ : PUnit → sProp 𝕄G} :
    iprop(held c kB fullShare K ∗ held c qB fullShare Q ∗ held c nB fullShare N
        ∗ (held c kB fullShare K -∗ held c qB fullShare Q -∗ held c nB fullShare (headF K Q hh sb cn ak N) -∗ Φ ⟨⟩))
      ⊢ wpA 𝒱 c bd E defs (chainHead kB qB nB hh sb cn ak) Φ := by
  unfold chainHead headF
  rw [wpA_bind]
  iintro ⟨Hk, Hq, Hn, Z⟩
  iapply (wp_ld 𝒱 c bd E kB ak fullShare K); isplitl [Hk]; · iexact Hk
  iintro Hk
  rw [wpA_bind]
  iapply (wp_ld 𝒱 c bd E qB (atQ hh sb) fullShare Q); isplitl [Hq]; · iexact Hq
  iintro Hq
  rw [wpA_bind]
  iapply (wp_ld 𝒱 c bd E nB (atS hh sb cn) fullShare N); isplitl [Hn]; · iexact Hn
  iintro Hn
  iapply (wp_st 𝒱 c bd E nB (atS hh sb cn) N); isplitl [Hn]; · iexact Hn
  iintro Hn
  iapply Z $$ Hk Hq Hn

/-- The second half of a step. -/
theorem wp_tail (cB : Memref sig .tc .vmem S8x1024x256 .f32) (vB : Memref sig .tc .vmem S2x80x16384 .bf16)
    (mB : Memref sig .tc .vmem S2x1x1024 .f32) (aB : Memref sig .tc .vmem S2x80x1024 .f32) (hh : Fin 2) (sb cc : Fin 4)
    (av : At S2x80x16384 ![1, 80, nk cc]) (pre : Vec F ⟨2, ![nk cc, 256]⟩ .f32 → Vec F ⟨2, ![nk cc, 256]⟩ .f32)
    (C : Vec F S8x1024x256 .f32) (V : Vec F S2x80x16384 .bf16) (x : MA F) {Φ : PUnit → sProp 𝕄G} :
    iprop(held c cB fullShare C ∗ held c vB fullShare V ∗ held c mB fullShare x.1 ∗ held c aB fullShare x.2
        ∗ (held c cB fullShare C -∗ held c vB fullShare V -∗ held c mB fullShare (tailF C V hh sb cc av pre x).1
            -∗ held c aB fullShare (tailF C V hh sb cc av pre x).2 -∗ Φ ⟨⟩))
      ⊢ wpA 𝒱 c bd E defs (chainTail cB vB mB aB hh sb cc av pre) Φ := by
  unfold chainTail tailF
  rw [wpA_bind]
  iintro ⟨Hc, Hv, Hm, Ha, Z⟩
  iapply (wp_ldCur 𝒱 c bd E cB hh sb cc fullShare C); isplitl [Hc]; · iexact Hc
  iintro Hc
  rw [wpA_bind]
  iapply (wp_ld 𝒱 c bd E vB av fullShare V); isplitl [Hv]; · iexact Hv
  iintro Hv
  rw [wpA_bind]
  iapply (wp_ld 𝒱 c bd E mB (atM hh sb) fullShare x.1); isplitl [Hm]; · iexact Hm
  iintro Hm
  rw [wpA_bind]
  iapply (wp_ld 𝒱 c bd E aB (atA hh sb) fullShare x.2); isplitl [Ha]; · iexact Ha
  iintro Ha
  rw [wpA_bind]
  iapply (wp_ld 𝒱 c bd E aB (atA hh sb) fullShare x.2); isplitl [Ha]; · iexact Ha
  iintro Ha
  rw [wpA_bind]
  iapply (wp_st 𝒱 c bd E aB (atA hh sb) x.2); isplitl [Ha]; · iexact Ha
  iintro Ha
  rw [wpA_bind]
  iapply (wp_ld 𝒱 c bd E mB (atM hh sb) fullShare x.1); isplitl [Hm]; · iexact Hm
  iintro Hm
  iapply (wp_st 𝒱 c bd E mB (atM hh sb) x.1); isplitl [Hm]; · iexact Hm
  iintro Hm
  iapply Z $$ Hc Hv Hm Ha

/-- Eight programs in a row, each taking an assertion of a state to that of the next. -/
theorem wp_all8 {σ : Type} (I : σ → sProp 𝕄G) (p : Fin 2 → Fin 4 → Act F PUnit) (g : Fin 2 → Fin 4 → σ → σ)
    (h : ∀ hh sb s, I s ⊢ wpA 𝒱 c bd E defs (p hh sb) fun _ => I (g hh sb s)) (s : σ) :
    I s ⊢ wpA 𝒱 c bd E defs (all8 p) fun _ => I (fold8 g s) := by
  unfold all8 all7 fold8
  simp only [wpA_bind]
  exact (h 0 0 _).trans <| wp_mono _ _ _ fun _ => (h 0 1 _).trans <| wp_mono _ _ _ fun _ => (h 0 2 _).trans <|
    wp_mono _ _ _ fun _ => (h 0 3 _).trans <| wp_mono _ _ _ fun _ => (h 1 0 _).trans <| wp_mono _ _ _ fun _ => (h 1 1 _).trans <|
    wp_mono _ _ _ fun _ => (h 1 2 _).trans <| wp_mono _ _ _ fun _ => h 1 3 _

end Wp

/-! ## A row -/

/-- The score buffer after a row of eight steps. -/
def rowN (K : Vec F S2x16384x128 .bf16) (Q : Vec F S2x128x1024 .bf16) (cn : Fin 4 → Fin 4)
    (ak : (hh : Fin 2) → (sb : Fin 4) → At S2x16384x128 ![1, nk (cn sb), 128]) (N : Vec F S8x1024x256 .f32) : Vec F S8x1024x256 .f32 :=
  fold8 (fun hh sb => headF K Q hh sb (cn sb) (ak hh sb)) N

/-- The running maxima and numerators after a row of eight steps. -/
def rowX (C : Vec F S8x1024x256 .f32) (V : Vec F S2x80x16384 .bf16) (cc : Fin 4 → Fin 4)
    (av : (hh : Fin 2) → (sb : Fin 4) → At S2x80x16384 ![1, 80, nk (cc sb)])
    (pre : (sb : Fin 4) → Vec F ⟨2, ![nk (cc sb), 256]⟩ .f32 → Vec F ⟨2, ![nk (cc sb), 256]⟩ .f32) (x : MA F) : MA F :=
  fold8 (fun hh sb => tailF C V hh sb (cc sb) (av hh sb) (pre sb)) x

section Wp

variable (𝒱 : Variants) (c : Dev nD) (bd : Option 𝒱.V) (E : Set ℕ) {defs : Defs nD τ sig (Elt F) Λ₀}

theorem fold8_prod {σ ρ : Type} (f : Fin 2 → Fin 4 → σ → σ) (g : Fin 2 → Fin 4 → ρ → ρ) (s : σ) (r : ρ) :
    fold8 (fun hh sb (x : σ × ρ) => (f hh sb x.1, g hh sb x.2)) (s, r) = (fold8 f s, fold8 g r) := rfl

/-- A row of eight steps. -/
theorem wp_row (kB : Memref sig .tc .vmem S2x16384x128 .bf16) (qB : Memref sig .tc .vmem S2x128x1024 .bf16)
    (nB cB : Memref sig .tc .vmem S8x1024x256 .f32) (vB : Memref sig .tc .vmem S2x80x16384 .bf16)
    (mB : Memref sig .tc .vmem S2x1x1024 .f32) (aB : Memref sig .tc .vmem S2x80x1024 .f32) (cn cc : Fin 4 → Fin 4)
    (ak : (hh : Fin 2) → (sb : Fin 4) → At S2x16384x128 ![1, nk (cn sb), 128])
    (av : (hh : Fin 2) → (sb : Fin 4) → At S2x80x16384 ![1, 80, nk (cc sb)])
    (pre : (sb : Fin 4) → Vec F ⟨2, ![nk (cc sb), 256]⟩ .f32 → Vec F ⟨2, ![nk (cc sb), 256]⟩ .f32)
    (K : Vec F S2x16384x128 .bf16) (Q : Vec F S2x128x1024 .bf16) (N C : Vec F S8x1024x256 .f32) (V : Vec F S2x80x16384 .bf16) (x : MA F)
    {Φ : PUnit → sProp 𝕄G} :
    iprop(held c kB fullShare K ∗ held c qB fullShare Q ∗ held c nB fullShare N
        ∗ held c cB fullShare C ∗ held c vB fullShare V ∗ held c mB fullShare x.1 ∗ held c aB fullShare x.2
        ∗ (held c kB fullShare K -∗ held c qB fullShare Q -∗ held c nB fullShare (rowN K Q cn ak N)
            -∗ held c cB fullShare C -∗ held c vB fullShare V -∗ held c mB fullShare (rowX C V cc av pre x).1
            -∗ held c aB fullShare (rowX C V cc av pre x).2 -∗ Φ ⟨⟩))
      ⊢ wpA 𝒱 c bd E defs (all8 fun hh sb => chain kB qB nB cB vB mB aB hh sb (cn sb) (cc sb) (ak hh sb) (av hh sb) (pre sb)) Φ := by
  have key := wp_all8 𝒱 c bd E (defs := defs)
    (I := fun s : Vec F S8x1024x256 .f32 × MA F => iprop(held c kB fullShare K ∗ held c qB fullShare Q ∗ held c nB fullShare s.1
        ∗ held c cB fullShare C ∗ held c vB fullShare V ∗ held c mB fullShare s.2.1 ∗ held c aB fullShare s.2.2))
    (p := fun hh sb => chain kB qB nB cB vB mB aB hh sb (cn sb) (cc sb) (ak hh sb) (av hh sb) (pre sb))
    (g := fun hh sb s => (headF K Q hh sb (cn sb) (ak hh sb) s.1, tailF C V hh sb (cc sb) (av hh sb) (pre sb) s.2))
    (by
      intro hh sb s
      unfold chain
      rw [wpA_bind]
      iintro ⟨Hk, Hq, Hn, Hc, Hv, Hm, Ha⟩
      iapply (wp_head 𝒱 c bd E kB qB nB hh sb (cn sb) (ak hh sb) K Q s.1)
      isplitl [Hk]; · iexact Hk
      isplitl [Hq]; · iexact Hq
      isplitl [Hn]; · iexact Hn
      iintro Hk Hq Hn
      iapply (wp_tail 𝒱 c bd E cB vB mB aB hh sb (cc sb) (av hh sb) (pre sb) C V s.2)
      isplitl [Hc]; · iexact Hc
      isplitl [Hv]; · iexact Hv
      isplitl [Hm]; · iexact Hm
      isplitl [Ha]; · iexact Ha
      iintro Hc Hv Hm Ha
      isplitl [Hk]; · iexact Hk
      isplitl [Hq]; · iexact Hq
      isplitl [Hn]; · iexact Hn
      isplitl [Hc]; · iexact Hc
      isplitl [Hv]; · iexact Hv
      isplitl [Hm]; · iexact Hm
      iexact Ha) (N, x)
  rw [fold8_prod] at key
  unfold rowN rowX
  iintro ⟨Hk, Hq, Hn, Hc, Hv, Hm, Ha, Z⟩
  iapply (wp_wand_r _ _ _)
  isplitr [Z]
  · iapply key
    isplitl [Hk]; · iexact Hk
    isplitl [Hq]; · iexact Hq
    isplitl [Hn]; · iexact Hn
    isplitl [Hc]; · iexact Hc
    isplitl [Hv]; · iexact Hv
    isplitl [Hm]; · iexact Hm
    iexact Ha
  · iintro %_ ⟨Hk, Hq, Hn, Hc, Hv, Hm, Ha⟩
    iapply Z $$ Hk Hq Hn Hc Hv Hm Ha

end Wp

end Cert.KernelIdeal.Fox
-- ==== Proof.Effect.lean ====
/- What the body does to the buffers, as a function of what they hold: the beginning, the loops, the diagonal
   rows and the output. -/
module

public import proofs.«01_k».proof.Proof.Row

@[expose] public section

set_option maxRecDepth 16384

noncomputable section

namespace Cert.KernelIdeal.Fox

open Idealize.ShloMosaic Idealize.ShloMosaic.TcCoe Idealize.ShloMosaic.Tactic Idealize.SL.Sem Facts₀ Facts
open Idealize.SL Idealize.SL.RA Idealize.SL.BI
open Idealize.SL.BI.BIBase Idealize.SL.BI.Laws Idealize.SL.ProofMode
open scoped Idealize.SL.BI

variable {F : FTy → Type} [FloatOps F] [Named F]

local notation "𝕄G" => MT nD τ sig Unit (Elt F) ℕ (UR sig nD τ) ℕ

/-- What the scratch buffers hold: running maxima, running numerators, three score buffers, the caches of keys and of values. -/
structure St (F : FTy → Type) where
  m : Vec F S2x1x1024 .f32
  acc : Vec F S2x80x1024 .f32
  sa : Vec F S8x1024x256 .f32
  sb : Vec F S8x1024x256 .f32
  sc : Vec F S8x1024x256 .f32
  kc : Vec F S2x16384x128 .bf16
  vc : Vec F S2x80x16384 .bf16

/-- The running pair of a state. -/
abbrev St.x (s : St F) : MA F := (s.m, s.acc)

/-! ## The rows, by which buffer is read and which is written -/

section Rows

variable (Q : Vec F S2x128x1024 .bf16) (cn cc : Fin 4 → Fin 4)
  (ak : (hh : Fin 2) → (sb : Fin 4) → At S2x16384x128 ![1, nk (cn sb), 128])
  (av : (hh : Fin 2) → (sb : Fin 4) → At S2x80x16384 ![1, 80, nk (cc sb)])
  (pre : (sb : Fin 4) → Vec F ⟨2, ![nk (cc sb), 256]⟩ .f32 → Vec F ⟨2, ![nk (cc sb), 256]⟩ .f32) (s : St F)

/-- From the first score buffer; new scores into the second. -/
def goAB : St F := { s with sb := rowN s.kc Q cn ak s.sb, m := (rowX s.sa s.vc cc av pre s.x).1, acc := (rowX s.sa s.vc cc av pre s.x).2 }
/-- From the second score buffer; new scores into the first. -/
def goBA : St F := { s with sa := rowN s.kc Q cn ak s.sa, m := (rowX s.sb s.vc cc av pre s.x).1, acc := (rowX s.sb s.vc cc av pre s.x).2 }
/-- From the first score buffer; new scores into the third. -/
def goAC : St F := { s with sc := rowN s.kc Q cn ak s.sc, m := (rowX s.sa s.vc cc av pre s.x).1, acc := (rowX s.sa s.vc cc av pre s.x).2 }
/-- From the third score buffer; new scores into the second. -/
def goCB : St F := { s with sb := rowN s.kc Q cn ak s.sb, m := (rowX s.sc s.vc cc av pre s.x).1, acc := (rowX s.sc s.vc cc av pre s.x).2 }
/-- From the second score buffer; new scores into the third. -/
def goBC : St F := { s with sc := rowN s.kc Q cn ak s.sc, m := (rowX s.sb s.vc cc av pre s.x).1, acc := (rowX s.sb s.vc cc av pre s.x).2 }

end Rows

/-! ## The phases -/

/-- The scores of the first key block. -/
def firstF (Q : Vec F S2x128x1024 .bf16) (s : St F) : St F :=
  { s with sa := rowN s.kc Q (fun _ => 3) (fun hh _ => atK0 hh) s.sa }

variable (i : grid0.Coords)

def evenTripF (h2 : k0_cond2 i = 1#1) (Q : Vec F S2x128x1024 .bf16) (t : Fin (k0_t1_loop i).trips) (s : St F) : St F :=
  goBA Q (fun _ => 3) (fun _ => 3)
    (fun hh _ => atK 3 (pick (k0_off7 i t) (k0_off9 i t) hh) (pick_inb (k0_off7_inb i t h2) (k0_off9_inb i t h2) hh))
    (fun hh _ => atV 3 (pick (k0_off8 i t) (k0_off10 i t) hh) (pick_inb (k0_off8_inb i t h2) (k0_off10_inb i t h2) hh)) (fun _ => id)
  (goAB Q (fun _ => 3) (fun _ => 3)
    (fun hh _ => atK 3 (pick (k0_off3 i t) (k0_off5 i t) hh) (pick_inb (k0_off3_inb i t h2) (k0_off5_inb i t h2) hh))
    (fun hh _ => atV 3 (pick (k0_off4 i t) (k0_off6 i t) hh) (pick_inb (k0_off4_inb i t h2) (k0_off6_inb i t h2) hh)) (fun _ => id) s)

def oddTripF (h3 : k0_cond3 i = 1#1) (Q : Vec F S2x128x1024 .bf16) (t : Fin (k0_t3_loop i).trips) (s : St F) : St F :=
  goBC Q (fun _ => 3) (fun _ => 3)
    (fun hh _ => atK 3 (pick (k0_off31 i t) (k0_off33 i t) hh) (pick_inb (k0_off31_inb i t h3) (k0_off33_inb i t h3) hh))
    (fun hh _ => atV 3 (pick (k0_off32 i t) (k0_off34 i t) hh) (pick_inb (k0_off32_inb i t h3) (k0_off34_inb i t h3) hh)) (fun _ => id)
  (goCB Q (fun _ => 3) (fun _ => 3)
    (fun hh _ => atK 3 (pick (k0_off27 i t) (k0_off29 i t) hh) (pick_inb (k0_off27_inb i t h3) (k0_off29_inb i t h3) hh))
    (fun hh _ => atV 3 (pick (k0_off28 i t) (k0_off30 i t) hh) (pick_inb (k0_off28_inb i t h3) (k0_off30_inb i t h3) hh)) (fun _ => id) s)

/-- The first `j` of `n` steps. -/
def upto {σ : Type} (n : ℕ) (g : Fin n → σ → σ) (s : σ) : ℕ → σ
  | 0 => s
  | j + 1 => if h : j < n then g ⟨j, h⟩ (upto n g s j) else upto n g s j

theorem upto_succ {σ : Type} (n : ℕ) (g : Fin n → σ → σ) (s : σ) (t : Fin n) : upto n g s (t.val + 1) = g t (upto n g s t.val) := by
  show (if h : t.val < n then g ⟨t.val, h⟩ _ else _) = _
  rw [dif_pos t.isLt]

/-- An even block. -/
def evenF (h2 : k0_cond2 i = 1#1) (Q QN : Vec F S2x128x1024 .bf16) (s : St F) : St F :=
  goAC QN (fun _ => 3) id (fun hh _ => atK0 hh) (fun hh sb => lastV2 i h2 hh sb) masked
    (upto (k0_t1_loop i).trips (evenTripF i h2 Q) s (k0_t1_loop i).trips)

/-- An odd block. -/
def oddF (h3 : k0_cond3 i = 1#1) (Q QN : Vec F S2x128x1024 .bf16) (s : St F) : St F :=
  goBA QN (fun _ => 3) id (fun hh _ => atK0 hh) (fun hh sb => lastV3 i h3 hh sb) masked
    (goCB Q id (fun _ => 3) (fun hh sb => diagK i h3 hh sb)
      (fun hh _ => atV 3 (pick (k0_off44 i) (k0_off49 i) hh) (pick_inb (k0_off44_inb i h3) (k0_off49_inb i h3) hh)) (fun _ => id)
      (upto (k0_t3_loop i).trips (oddTripF i h3 Q) s (k0_t3_loop i).trips))

/-- The beginning. -/
def beginF (KB : Vec F S2x1024x128 .bf16) (VB : Vec F S2x80x1024 .bf16) (s : St F) : St F :=
  { s with
    m := into s.m (all3 (s := S2x1x1024) rfl h_S2x1x1024) (shapeCast S2x1x1024 (broadcast S2x1x1024 maskC : FVec F S2x1x1024 .f32) shapeCasts_S2x1x1024_S2x1x1024)
    acc := into s.acc (all3 (s := S2x80x1024) rfl h_S2x80x1024) (shapeCast S2x80x1024 (broadcast S2x80x1024 (Scalar.ofBits .f32 0x00000000#32 : F .f32) : FVec F S2x80x1024 .f32) shapeCasts_S2x80x1024_S2x80x1024)
    kc := into s.kc (atKC i) (shapeCast S2x1024x128 (win KB (all3 (s := S2x1024x128) rfl h_S2x1024x128)) shapeCasts_S2x1024x128_S2x1024x128 : FVec F S2x1024x128 .bf16)
    vc := into s.vc (atVC i) (shapeCast S2x80x1024 (win VB (all3 (s := S2x80x1024) rfl h_S2x80x1024)) shapeCasts_S2x80x1024_S2x80x1024 : FVec F S2x80x1024 .bf16) }

/-- The scratch buffers after the body. -/
def bodyF (Q QN : Vec F S2x128x1024 .bf16) (KB : Vec F S2x1024x128 .bf16) (VB : Vec F S2x80x1024 .bf16) (s : St F) : St F :=
  let s0 := beginF i KB VB s
  let s1 := if k0_cond1 i = 1#1 then firstF Q s0 else s0
  let s2 := if h2 : k0_cond2 i = 1#1 then evenF i h2 Q QN s1 else s1
  if h3 : k0_cond3 i = 1#1 then oddF i h3 Q QN s2 else s2

/-- The output block, from the running numerators. -/
def outF (a : Vec F S2x80x1024 .f32) (O : Vec F S1024x128 .f32) : Vec F S1024x128 .f32 :=
  into O atOut (transpose S1024x128 [1, 0] (outOf (win a (atO 0)) (win a (atL 0)) (win a (atO 1)) (win a (atL 1))) transposes_S128x1024_p1_0_S1024x128)

/-! ## The remainders run over no trip -/

theorem trips2 : ∀ i : grid0.Coords, (k0_t2_loop i).trips = 0 := by decide +kernel
theorem trips4 : ∀ i : grid0.Coords, (k0_t4_loop i).trips = 0 := by decide +kernel

section Wp

variable (𝒱 : Variants) (c : Dev nD) (bd : Option 𝒱.V) (E : Set ℕ) {defs : Defs nD τ sig (Elt F) Λ₀}

/-- The row's rule, between two assertions. -/
theorem wp_rowI {P R P' : sProp 𝕄G} {kB : Memref sig .tc .vmem S2x16384x128 .bf16} {qB : Memref sig .tc .vmem S2x128x1024 .bf16}
    {nB cB : Memref sig .tc .vmem S8x1024x256 .f32} {vB : Memref sig .tc .vmem S2x80x16384 .bf16}
    {mB : Memref sig .tc .vmem S2x1x1024 .f32} {aB : Memref sig .tc .vmem S2x80x1024 .f32} (cn cc : Fin 4 → Fin 4)
    (ak : (hh : Fin 2) → (sb : Fin 4) → At S2x16384x128 ![1, nk (cn sb), 128])
    (av : (hh : Fin 2) → (sb : Fin 4) → At S2x80x16384 ![1, 80, nk (cc sb)])
    (pre : (sb : Fin 4) → Vec F ⟨2, ![nk (cc sb), 256]⟩ .f32 → Vec F ⟨2, ![nk (cc sb), 256]⟩ .f32)
    (K : Vec F S2x16384x128 .bf16) (Q : Vec F S2x128x1024 .bf16) (N C : Vec F S8x1024x256 .f32) (V : Vec F S2x80x16384 .bf16) (x : MA F)
    (h : P ⊢ iprop(R ∗ held c kB fullShare K ∗ held c qB fullShare Q ∗ held c nB fullShare N
        ∗ held c cB fullShare C ∗ held c vB fullShare V ∗ held c mB fullShare x.1 ∗ held c aB fullShare x.2))
    (h' : iprop(R ∗ held c kB fullShare K ∗ held c qB fullShare Q ∗ held c nB fullShare (rowN K Q cn ak N)
        ∗ held c cB fullShare C ∗ held c vB fullShare V ∗ held c mB fullShare (rowX C V cc av pre x).1
        ∗ held c aB fullShare (rowX C V cc av pre x).2) ⊢ P') :
    P ⊢ wpA 𝒱 c bd E defs (all8 fun hh sb => chain kB qB nB cB vB mB aB hh sb (cn sb) (cc sb) (ak hh sb) (av hh sb) (pre sb)) fun _ => P' := by
  refine h.trans ?_
  iintro ⟨HR, Hk, Hq, Hn, Hc, Hv, Hm, Ha⟩
  iapply (wp_row 𝒱 c bd E kB qB nB cB vB mB aB cn cc ak av pre K Q N C V x)
  isplitl [Hk]; · iexact Hk
  isplitl [Hq]; · iexact Hq
  isplitl [Hn]; · iexact Hn
  isplitl [Hc]; · iexact Hc
  isplitl [Hv]; · iexact Hv
  isplitl [Hm]; · iexact Hm
  isplitl [Ha]; · iexact Ha
  iintro Hk Hq Hn Hc Hv Hm Ha
  iapply h'
  isplitl [HR]; · iexact HR
  isplitl [Hk]; · iexact Hk
  isplitl [Hq]; · iexact Hq
  isplitl [Hn]; · iexact Hn
  isplitl [Hc]; · iexact Hc
  isplitl [Hv]; · iexact Hv
  isplitl [Hm]; · iexact Hm
  iexact Ha

variable (arg2 : Memref sig .tc .vmem S2x128x1024 .bf16) (harg2 : arg2.IsWhole) (arg3 : Memref sig .tc .vmem S2x128x1024 .bf16) (harg3 : arg3.IsWhole)
  (arg4 : Memref sig .tc .vmem S2x1024x128 .bf16) (harg4 : arg4.IsWhole) (arg5 : Memref sig .tc .vmem S2x80x1024 .bf16) (harg5 : arg5.IsWhole)
  (arg6 : Memref sig .tc .vmem S1024x128 .f32) (harg6 : arg6.IsWhole) (arg7 : Memref sig .tc .vmem S2x1x1024 .f32) (harg7 : arg7.IsWhole)
  (arg8 : Memref sig .tc .vmem S2x80x1024 .f32) (harg8 : arg8.IsWhole) (arg9 : Memref sig .tc .vmem S8x1024x256 .f32) (harg9 : arg9.IsWhole)
  (arg10 : Memref sig .tc .vmem S8x1024x256 .f32) (harg10 : arg10.IsWhole) (arg11 : Memref sig .tc .vmem S8x1024x256 .f32) (harg11 : arg11.IsWhole)
  (arg12 : Memref sig .tc .vmem S2x16384x128 .bf16) (harg12 : arg12.IsWhole) (arg13 : Memref sig .tc .vmem S2x80x16384 .bf16) (harg13 : arg13.IsWhole)

/-- The scratch buffers and the two blocks of queries, held. -/
def hold (Q QN : Vec F S2x128x1024 .bf16) (s : St F) : sProp 𝕄G :=
  iprop(held c arg2 fullShare Q ∗ held c arg3 fullShare QN ∗ held c arg7 fullShare s.m ∗ held c arg8 fullShare s.acc
    ∗ held c arg9 fullShare s.sa ∗ held c arg10 fullShare s.sb ∗ held c arg11 fullShare s.sc
    ∗ held c arg12 fullShare s.kc ∗ held c arg13 fullShare s.vc)

variable (Q QN : Vec F S2x128x1024 .bf16)

local notation "HOLD" => hold c arg2 arg3 arg7 arg8 arg9 arg10 arg11 arg12 arg13 Q QN

section Rows

variable (cn cc : Fin 4 → Fin 4) (ak : (hh : Fin 2) → (sb : Fin 4) → At S2x16384x128 ![1, nk (cn sb), 128])
  (av : (hh : Fin 2) → (sb : Fin 4) → At S2x80x16384 ![1, 80, nk (cc sb)])
  (pre : (sb : Fin 4) → Vec F ⟨2, ![nk (cc sb), 256]⟩ .f32 → Vec F ⟨2, ![nk (cc sb), 256]⟩ .f32) (s : St F)

theorem wp_goAB : HOLD s ⊢ wpA 𝒱 c bd E defs
    (all8 fun hh sb => chain arg12 arg2 arg10 arg9 arg13 arg7 arg8 hh sb (cn sb) (cc sb) (ak hh sb) (av hh sb) (pre sb))
    fun _ => HOLD (goAB Q cn cc ak av pre s) :=
  wp_rowI 𝒱 c bd E (R := iprop(held c arg3 fullShare QN ∗ held c arg11 fullShare s.sc)) cn cc ak av pre s.kc Q s.sb s.sa s.vc s.x
    (by unfold hold; iintro ⟨H2, H3, H7, H8, H9, H10, H11, H12, H13⟩; iframe)
    (by unfold hold goAB; iintro ⟨⟨H3, H11⟩, H12, H2, H10, H9, H13, H7, H8⟩; iframe)

theorem wp_goBA : HOLD s ⊢ wpA 𝒱 c bd E defs
    (all8 fun hh sb => chain arg12 arg2 arg9 arg10 arg13 arg7 arg8 hh sb (cn sb) (cc sb) (ak hh sb) (av hh sb) (pre sb))
    fun _ => HOLD (goBA Q cn cc ak av pre s) :=
  wp_rowI 𝒱 c bd E (R := iprop(held c arg3 fullShare QN ∗ held c arg11 fullShare s.sc)) cn cc ak av pre s.kc Q s.sa s.sb s.vc s.x
    (by unfold hold; iintro ⟨H2, H3, H7, H8, H9, H10, H11, H12, H13⟩; iframe)
    (by unfold hold goBA; iintro ⟨⟨H3, H11⟩, H12, H2, H9, H10, H13, H7, H8⟩; iframe)

theorem wp_goBA' : HOLD s ⊢ wpA 𝒱 c bd E defs
    (all8 fun hh sb => chain arg12 arg3 arg9 arg10 arg13 arg7 arg8 hh sb (cn sb) (cc sb) (ak hh sb) (av hh sb) (pre sb))
    fun _ => HOLD (goBA QN cn cc ak av pre s) :=
  wp_rowI 𝒱 c bd E (R := iprop(held c arg2 fullShare Q ∗ held c arg11 fullShare s.sc)) cn cc ak av pre s.kc QN s.sa s.sb s.vc s.x
    (by unfold hold; iintro ⟨H2, H3, H7, H8, H9, H10, H11, H12, H13⟩; iframe)
    (by unfold hold goBA; iintro ⟨⟨H2, H11⟩, H12, H3, H9, H10, H13, H7, H8⟩; iframe)

theorem wp_goAC : HOLD s ⊢ wpA 𝒱 c bd E defs
    (all8 fun hh sb => chain arg12 arg3 arg11 arg9 arg13 arg7 arg8 hh sb (cn sb) (cc sb) (ak hh sb) (av hh sb) (pre sb))
    fun _ => HOLD (goAC QN cn cc ak av pre s) :=
  wp_rowI 𝒱 c bd E (R := iprop(held c arg2 fullShare Q ∗ held c arg10 fullShare s.sb)) cn cc ak av pre s.kc QN s.sc s.sa s.vc s.x
    (by unfold hold; iintro ⟨H2, H3, H7, H8, H9, H10, H11, H12, H13⟩; iframe)
    (by unfold hold goAC; iintro ⟨⟨H2, H10⟩, H12, H3, H11, H9, H13, H7, H8⟩; iframe)

theorem wp_goCB : HOLD s ⊢ wpA 𝒱 c bd E defs
    (all8 fun hh sb => chain arg12 arg2 arg10 arg11 arg13 arg7 arg8 hh sb (cn sb) (cc sb) (ak hh sb) (av hh sb) (pre sb))
    fun _ => HOLD (goCB Q cn cc ak av pre s) :=
  wp_rowI 𝒱 c bd E (R := iprop(held c arg3 fullShare QN ∗ held c arg9 fullShare s.sa)) cn cc ak av pre s.kc Q s.sb s.sc s.vc s.x
    (by unfold hold; iintro ⟨H2, H3, H7, H8, H9, H10, H11, H12, H13⟩; iframe)
    (by unfold hold goCB; iintro ⟨⟨H3, H9⟩, H12, H2, H10, H11, H13, H7, H8⟩; iframe)

theorem wp_goBC : HOLD s ⊢ wpA 𝒱 c bd E defs
    (all8 fun hh sb => chain arg12 arg2 arg11 arg10 arg13 arg7 arg8 hh sb (cn sb) (cc sb) (ak hh sb) (av hh sb) (pre sb))
    fun _ => HOLD (goBC Q cn cc ak av pre s) :=
  wp_rowI 𝒱 c bd E (R := iprop(held c arg3 fullShare QN ∗ held c arg9 fullShare s.sa)) cn cc ak av pre s.kc Q s.sc s.sb s.vc s.x
    (by unfold hold; iintro ⟨H2, H3, H7, H8, H9, H10, H11, H12, H13⟩; iframe)
    (by unfold hold goBC; iintro ⟨⟨H3, H9⟩, H12, H2, H11, H10, H13, H7, H8⟩; iframe)

end Rows

theorem wp_first (s : St F) : HOLD s ⊢ wpA 𝒱 c bd E defs (all8 (first arg12 arg2 arg9)) fun _ => HOLD (firstF Q s) := by
  have key := wp_all8 𝒱 c bd E (defs := defs) (I := fun N : Vec F S8x1024x256 .f32 => HOLD { s with sa := N })
    (p := first arg12 arg2 arg9) (g := fun hh sb N => headF s.kc Q hh sb 3 (atK0 hh) N) (by
      intro hh sb N
      have e : (first arg12 arg2 arg9 hh sb : Act F PUnit) = chainHead arg12 arg2 arg9 hh sb 3 (atK0 hh) := rfl
      rw [e]
      unfold hold
      iintro ⟨H2, H3, H7, H8, H9, H10, H11, H12, H13⟩
      iapply (wp_head 𝒱 c bd E arg12 arg2 arg9 hh sb 3 (atK0 hh) s.kc Q N)
      isplitl [H12]; · iexact H12
      isplitl [H2]; · iexact H2
      isplitl [H9]; · iexact H9
      iintro H12 H2 H9
      iframe) s.sa
  exact key

/-- A loop of the body: its trips as functions of the state. -/
theorem wp_loop (l : Scf.Loop 32) (hok : Scf.OK l.lb l.ub l.st) (p : Fin l.trips → Act F PUnit) (g : Fin l.trips → St F → St F)
    (h : ∀ t s, HOLD s ⊢ wpA 𝒱 c bd E defs (p t) fun _ => HOLD (g t s)) (s : St F) :
    HOLD s ⊢ wpA 𝒱 c bd E defs (Scf.Loop.for l hok ⟨⟩ fun t _ => p t) fun _ => HOLD (upto l.trips g s l.trips) := by
  refine .trans ?_ (Scf.wp_for _ _ _ l.lb l.ub l.st hok ⟨⟩ (fun t _ => p t) (fun j _ => HOLD (upto l.trips g s j)) ?_)
  · iintro H
    isplitl [H]
    · iexact H
    · iintro %_ H; iexact H
  · intro t _
    have := h t (upto l.trips g s t.val)
    rw [← upto_succ l.trips g s t] at this
    exact this

/-- A loop over no trip. -/
theorem wp_loop0 (l : Scf.Loop 32) (hok : Scf.OK l.lb l.ub l.st) (h0 : l.trips = 0) (p : Fin l.trips → Act F PUnit) (s : St F) :
    HOLD s ⊢ wpA 𝒱 c bd E defs (Scf.Loop.for l hok ⟨⟩ fun t _ => p t) fun _ => HOLD s := by
  have := wp_loop 𝒱 c bd E (defs := defs) arg2 arg3 arg7 arg8 arg9 arg10 arg11 arg12 arg13 Q QN l hok p (fun _ s => s)
    (fun t => absurd t.isLt (by omega)) s
  have e : ∀ j, upto l.trips (fun _ s => s) s j = s := by
    intro j
    induction j with
    | zero => rfl
    | succ j ih => show (if h : j < l.trips then _ else _) = _; split <;> exact ih
  rw [e] at this
  exact this

theorem wp_evenTrip (h2 : k0_cond2 i = 1#1) (t : Fin (k0_t1_loop i).trips) (s : St F) :
    HOLD s ⊢ wpA 𝒱 c bd E defs (evenTrip i arg2 arg7 arg8 arg9 arg10 arg12 arg13 h2 t) fun _ => HOLD (evenTripF i h2 Q t s) := by
  unfold evenTrip evenTripF
  rw [wpA_bind]
  exact (wp_goAB 𝒱 c bd E arg2 arg3 arg7 arg8 arg9 arg10 arg11 arg12 arg13 Q QN (fun _ => 3) (fun _ => 3) _ _ (fun _ => id) s).trans
    (wp_mono _ _ _ fun _ => wp_goBA 𝒱 c bd E arg2 arg3 arg7 arg8 arg9 arg10 arg11 arg12 arg13 Q QN (fun _ => 3) (fun _ => 3) _ _ (fun _ => id) _)

theorem wp_oddTrip (h3 : k0_cond3 i = 1#1) (t : Fin (k0_t3_loop i).trips) (s : St F) :
    HOLD s ⊢ wpA 𝒱 c bd E defs (oddTrip i arg2 arg7 arg8 arg10 arg11 arg12 arg13 h3 t) fun _ => HOLD (oddTripF i h3 Q t s) := by
  unfold oddTrip oddTripF
  rw [wpA_bind]
  exact (wp_goCB 𝒱 c bd E arg2 arg3 arg7 arg8 arg9 arg10 arg11 arg12 arg13 Q QN (fun _ => 3) (fun _ => 3) _ _ (fun _ => id) s).trans
    (wp_mono _ _ _ fun _ => wp_goBC 𝒱 c bd E arg2 arg3 arg7 arg8 arg9 arg10 arg11 arg12 arg13 Q QN (fun _ => 3) (fun _ => 3) _ _ (fun _ => id) _)

theorem wp_even (h2 : k0_cond2 i = 1#1) (s : St F) :
    HOLD s ⊢ wpA 𝒱 c bd E defs (even i arg2 harg2 arg3 harg3 arg4 harg4 arg5 harg5 arg6 harg6 arg7 harg7 arg8 harg8 arg9 harg9 arg10 harg10 arg11 harg11 arg12 harg12 arg13 harg13 h2)
      fun _ => HOLD (evenF i h2 Q QN s) := by
  unfold even evenF evenLoop evenRem
  simp only [wpA_bind]
  refine (wp_loop 𝒱 c bd E arg2 arg3 arg7 arg8 arg9 arg10 arg11 arg12 arg13 Q QN (k0_t1_loop i) (k0_t1_ok i h2) _ (evenTripF i h2 Q)
    (fun t s => wp_evenTrip i 𝒱 c bd E arg2 arg3 arg7 arg8 arg9 arg10 arg11 arg12 arg13 Q QN h2 t s) s).trans (wp_mono _ _ _ fun _ => ?_)
  refine (wp_loop0 𝒱 c bd E arg2 arg3 arg7 arg8 arg9 arg10 arg11 arg12 arg13 Q QN (k0_t2_loop i) (k0_t2_ok i h2) (trips2 i) _ _).trans
    (wp_mono _ _ _ fun _ => ?_)
  exact wp_goAC 𝒱 c bd E arg2 arg3 arg7 arg8 arg9 arg10 arg11 arg12 arg13 Q QN (fun _ => 3) id _ _ masked _

theorem wp_odd (h3 : k0_cond3 i = 1#1) (s : St F) :
    HOLD s ⊢ wpA 𝒱 c bd E defs (odd i arg2 harg2 arg3 harg3 arg4 harg4 arg5 harg5 arg6 harg6 arg7 harg7 arg8 harg8 arg9 harg9 arg10 harg10 arg11 harg11 arg12 harg12 arg13 harg13 h3)
      fun _ => HOLD (oddF i h3 Q QN s) := by
  unfold odd oddF oddLoop oddRem
  simp only [wpA_bind]
  refine (wp_loop 𝒱 c bd E arg2 arg3 arg7 arg8 arg9 arg10 arg11 arg12 arg13 Q QN (k0_t3_loop i) (k0_t3_ok i h3) _ (oddTripF i h3 Q)
    (fun t s => wp_oddTrip i 𝒱 c bd E arg2 arg3 arg7 arg8 arg9 arg10 arg11 arg12 arg13 Q QN h3 t s) s).trans (wp_mono _ _ _ fun _ => ?_)
  refine (wp_loop0 𝒱 c bd E arg2 arg3 arg7 arg8 arg9 arg10 arg11 arg12 arg13 Q QN (k0_t4_loop i) (k0_t4_ok i h3) (trips4 i) _ _).trans
    (wp_mono _ _ _ fun _ => ?_)
  refine (wp_goCB 𝒱 c bd E arg2 arg3 arg7 arg8 arg9 arg10 arg11 arg12 arg13 Q QN id (fun _ => 3) _ _ (fun _ => id) _).trans (wp_mono _ _ _ fun _ => ?_)
  exact wp_goBA' 𝒱 c bd E arg2 arg3 arg7 arg8 arg9 arg10 arg11 arg12 arg13 Q QN (fun _ => 3) id _ _ masked _

theorem wp_begin (KB : Vec F S2x1024x128 .bf16) (VB : Vec F S2x80x1024 .bf16) (s : St F) :
    iprop(HOLD s ∗ held c arg4 fullShare KB ∗ held c arg5 fullShare VB)
      ⊢ wpA 𝒱 c bd E defs (begin_ i arg4 arg5 arg7 arg8 arg12 harg12 arg13 harg13)
        fun _ => iprop(HOLD (beginF i KB VB s) ∗ held c arg4 fullShare KB ∗ held c arg5 fullShare VB) := by
  unfold begin_ hold beginF
  simp only [wpA_bind]
  iintro ⟨⟨H2, H3, H7, H8, H9, H10, H11, H12, H13⟩, H4, H5⟩
  iapply (wp_ld 𝒱 c bd E arg7 _ fullShare s.m); isplitl [H7]; · iexact H7
  iintro H7
  iapply (wp_st 𝒱 c bd E arg7 _ s.m); isplitl [H7]; · iexact H7
  iintro H7
  iapply (wp_ld 𝒱 c bd E arg8 _ fullShare s.acc); isplitl [H8]; · iexact H8
  iintro H8
  iapply (wp_st 𝒱 c bd E arg8 _ s.acc); isplitl [H8]; · iexact H8
  iintro H8
  iapply (wp_ld 𝒱 c bd E arg4 _ fullShare KB); isplitl [H4]; · iexact H4
  iintro H4
  iapply (wp_ld 𝒱 c bd E arg12 _ fullShare s.kc); isplitl [H12]; · iexact H12
  iintro H12
  iapply (wp_stRaw 𝒱 c bd E arg12 (atKC i) s.kc); isplitl [H12]; · iexact H12
  iintro H12
  iapply (wp_ld 𝒱 c bd E arg5 _ fullShare VB); isplitl [H5]; · iexact H5
  iintro H5
  iapply (wp_ld 𝒱 c bd E arg13 _ fullShare s.vc); isplitl [H13]; · iexact H13
  iintro H13
  iapply (wp_stRaw 𝒱 c bd E arg13 (atVC i) s.vc); isplitl [H13]; · iexact H13
  iintro H13
  iframe

theorem wp_finish (s : St F) (O : Vec F S1024x128 .f32) :
    iprop(HOLD s ∗ held c arg6 fullShare O) ⊢ wpA 𝒱 c bd E defs (finish arg6 arg8) fun _ => iprop(HOLD s ∗ held c arg6 fullShare (outF s.acc O)) := by
  unfold finish readOut hold outF
  simp only [wpA_bind]
  iintro ⟨⟨H2, H3, H7, H8, H9, H10, H11, H12, H13⟩, H6⟩
  iapply (wp_ld 𝒱 c bd E arg8 (atO 0) fullShare s.acc); isplitl [H8]; · iexact H8
  iintro H8
  iapply (wp_ld 𝒱 c bd E arg8 (atL 0) fullShare s.acc); isplitl [H8]; · iexact H8
  iintro H8
  iapply (wp_ld 𝒱 c bd E arg8 (atO 1) fullShare s.acc); isplitl [H8]; · iexact H8
  iintro H8
  iapply (wp_ld 𝒱 c bd E arg8 (atL 1) fullShare s.acc); isplitl [H8]; · iexact H8
  iintro H8
  rw [wpA, wp_pure]
  imodintro
  iapply (wp_ld 𝒱 c bd E arg6 atOut fullShare O); isplitl [H6]; · iexact H6
  iintro H6
  iapply (wp_st 𝒱 c bd E arg6 atOut O); isplitl [H6]; · iexact H6
  iintro H6
  iframe

/-- A part of the body that may run or not. -/
theorem wp_dite {C : Prop} [Decidable C] {p : C → Act F PUnit} {g : C → St F} {s : St F} {R : sProp 𝕄G}
    (h : ∀ hc, R ⊢ wpA 𝒱 c bd E defs (p hc) fun _ => HOLD (g hc)) (h' : R ⊢ HOLD s) :
    R ⊢ wpA 𝒱 c bd E defs (if hc : C then p hc else pure ⟨⟩) fun _ => HOLD (if hc : C then g hc else s) := by
  by_cases hc : C
  · rw [dif_pos hc, dif_pos hc]; exact h hc
  · rw [dif_neg hc, dif_neg hc, wpA, wp_pure]
    refine h'.trans ?_
    iintro H; imodintro; iexact H

/-- The body. -/
theorem wp_body (KB : Vec F S2x1024x128 .bf16) (VB : Vec F S2x80x1024 .bf16) (s : St F) (O : Vec F S1024x128 .f32) :
    iprop(HOLD s ∗ held c arg4 fullShare KB ∗ held c arg5 fullShare VB ∗ held c arg6 fullShare O)
      ⊢ wpA 𝒱 c bd E defs (body i arg2 harg2 arg3 harg3 arg4 harg4 arg5 harg5 arg6 harg6 arg7 harg7 arg8 harg8 arg9 harg9 arg10 harg10 arg11 harg11 arg12 harg12 arg13 harg13)
        fun _ => iprop(HOLD (bodyF i Q QN KB VB s) ∗ held c arg4 fullShare KB ∗ held c arg5 fullShare VB
          ∗ held c arg6 fullShare (outF (bodyF i Q QN KB VB s).acc O)) := by
  unfold body bodyF
  simp only [wpA_bind]
  have a1 : ∀ s, HOLD s ⊢ wpA 𝒱 c bd E defs (if h1 : k0_cond1 i = 1#1 then all8 (first arg12 arg2 arg9) else pure ⟨⟩)
      fun _ => HOLD (if k0_cond1 i = 1#1 then firstF Q s else s) := fun s =>
    wp_dite 𝒱 c bd E arg2 arg3 arg7 arg8 arg9 arg10 arg11 arg12 arg13 Q QN (g := fun _ => firstF Q s) (fun _ => wp_first 𝒱 c bd E arg2 arg3 arg7 arg8 arg9 arg10 arg11 arg12 arg13 Q QN s) .rfl
  have a2 := fun s => wp_dite 𝒱 c bd E (defs := defs) arg2 arg3 arg7 arg8 arg9 arg10 arg11 arg12 arg13 Q QN (C := k0_cond2 i = 1#1)
    (fun h2 => wp_even i 𝒱 c bd E arg2 harg2 arg3 harg3 arg4 harg4 arg5 harg5 arg6 harg6 arg7 harg7 arg8 harg8 arg9 harg9 arg10 harg10 arg11 harg11 arg12 harg12 arg13 harg13 Q QN h2 s) .rfl
  have a3 := fun s => wp_dite 𝒱 c bd E (defs := defs) arg2 arg3 arg7 arg8 arg9 arg10 arg11 arg12 arg13 Q QN (C := k0_cond3 i = 1#1)
    (fun h3 => wp_odd i 𝒱 c bd E arg2 harg2 arg3 harg3 arg4 harg4 arg5 harg5 arg6 harg6 arg7 harg7 arg8 harg8 arg9 harg9 arg10 harg10 arg11 harg11 arg12 harg12 arg13 harg13 Q QN h3 s) .rfl
  iintro ⟨H, H4, H5, H6⟩
  iapply (wp_wand_r _ _ _)
  isplitl [H H4 H5]
  · iapply (wp_begin i 𝒱 c bd E arg2 arg3 arg4 arg5 arg7 arg8 arg9 arg10 arg11 arg12 harg12 arg13 harg13 Q QN KB VB s)
    iframe
  iintro %_ ⟨H, H4, H5⟩
  iapply (wp_wand_r _ _ _)
  isplitl [H]
  · iapply (a1 _) $$ H
  iintro %_ H
  iapply (wp_wand_r _ _ _)
  isplitl [H]
  · iapply (a2 _) $$ H
  iintro %_ H
  iapply (wp_wand_r _ _ _)
  isplitl [H]
  · iapply (a3 _) $$ H
  iintro %_ H
  iapply (wp_wand_r _ _ _)
  isplitl [H H6]
  · iapply (wp_finish 𝒱 c bd E arg2 arg3 arg6 arg7 arg8 arg9 arg10 arg11 arg12 arg13 Q QN _ O)
    isplitl [H]
    · iexact H
    · iexact H6
  iintro %_ ⟨H, H6⟩
  iframe

end Wp

end Cert.KernelIdeal.Fox
-- ==== Proof.Run.lean ====
/- The call, run: at every grid point the body turns what the scratch buffers hold into `bodyF` of it; an invariant of
   those contents that every point keeps, and whatever it says of the output block, hold of the whole run. -/
module

public import proofs.«01_k».proof.Proof.StructEq
public import proofs.«01_k».proof.Proof.Effect
public import proofs.«01_k».proof.Proof.Gen.KernelIdeal.Frame
public import Idealize.ShloMosaic.Lib.Pipeline.Frame
public import Idealize.ShloMosaic.Lib.Pipeline.ArrRel
public import Idealize.ShloMosaic.Lib.Tactic

@[expose] public section

set_option maxRecDepth 16384

noncomputable section

namespace Cert.KernelIdeal.Fox

open Idealize.ShloMosaic Idealize.ShloMosaic.TcCoe Idealize.ShloMosaic.Tactic Idealize.SL.Sem
open Idealize.SL Idealize.SL.RA Idealize.SL.BI
open Idealize.SL.BI.BIBase Idealize.SL.BI.Laws Idealize.SL.ProofMode
open scoped Idealize.SL.BI
open Idealize.ShloMosaic.Pipeline (RDat)
open Cert.KernelIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The four input blocks at a grid point: the queries, the next block's queries, the keys, the values. -/
abbrev qB (c : Dev nD) (t : Fin cfg0.N) : Vec F S2x128x1024 .bf16 := iblk m c 0 t
abbrev qnB (c : Dev nD) (t : Fin cfg0.N) : Vec F S2x128x1024 .bf16 := iblk m c 1 t
abbrev kB (c : Dev nD) (t : Fin cfg0.N) : Vec F S2x1024x128 .bf16 := iblk m c 2 t
abbrev vB (c : Dev nD) (t : Fin cfg0.N) : Vec F S2x80x1024 .bf16 := iblk m c 3 t

/-- The body's effect at a grid point of core `c`. -/
abbrev stepF (c : Dev nD) (t : Fin cfg0.N) (s : St F) : St F :=
  bodyF (grid0.coords t) (qB m c t) (qnB m c t) (kB m c t) (vB m c t) s

section Data

variable (I : Dev nD → Fin (cfg0.N + 1) → St F → Prop) (P : Dev nD → Fin cfg0.N → Vec F S1024x128 .f32 → Prop)

/-- What a point leaves in a window's staging buffer: an input as it was, the output with the property `P`. -/
def leaves (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, t, _, X => P c t X
  | ⟨_ + 5, h⟩, _, _, _ => absurd h (by show ¬ _ < 5; omega)

/-- The scratch buffers whole, at a state's contents. -/
abbrev scr (c : Dev nD) (s : St F) : sProp 𝕄G :=
  iprop(held c (Memref.whole cc0_scratch0) fullShare s.m ∗ held c (Memref.whole cc0_scratch1) fullShare s.acc
    ∗ held c (Memref.whole cc0_scratch2) fullShare s.sa ∗ held c (Memref.whole cc0_scratch3) fullShare s.sb
    ∗ held c (Memref.whole cc0_scratch4) fullShare s.sc ∗ held c (Memref.whole cc0_scratch5) fullShare s.kc
    ∗ held c (Memref.whole cc0_scratch6) fullShare s.vc)

/-- Between two points: the scratch buffers at contents with the invariant, and the generator register at anything. -/
def between (c : Dev nD) (t : Fin (cfg0.N + 1)) : sProp 𝕄G :=
  iprop((∃ s : St F, ⌜I c t s⌝ ∗ scr c s) ∗ ∃ r, prngReg c r)

/-- The proof data. -/
def rdat (c : Dev nD) : RDat τ (Elt F) Unit ℕ (UR sig nD τ) ℕ cfg0 c where
  A w := V m c (Pipeline.arrRef spec0 w)
  after := leaves P c
  Φ := between I c
  q := Pipeline.shareOf spec0
  owed _ := 0

theorem rdat_A (c : Dev nD) (w : Fin cfg0.W) : (rdat m I P c).A w = V m c (Pipeline.arrRef spec0 w) := by dsimp only [rdat]

variable {m I P}

/-- An input window is handed its block. -/
theorem finds0 {c : Dev nD} {t : Fin cfg0.N} {Y} (h : (rdat m I P c).Finds 0 t Y) : Y = qB m c t := by
  obtain ⟨d, hd⟩ := (rdat m I P c).finds_in_eq_fetched 0 rfl (fun _ _ _ => rfl) (fun _ _ _ h => h) t Y h
  exact hd.trans (by unfold RDat.fetched RDat.blockOf qB iblk; rw [rdat_A]; try rfl)
theorem finds1 {c : Dev nD} {t : Fin cfg0.N} {Y} (h : (rdat m I P c).Finds 1 t Y) : Y = qnB m c t := by
  obtain ⟨d, hd⟩ := (rdat m I P c).finds_in_eq_fetched 1 rfl (fun _ _ _ => rfl) (fun _ _ _ h => h) t Y h
  exact hd.trans (by unfold RDat.fetched RDat.blockOf qnB iblk; rw [rdat_A]; try rfl)
theorem finds2 {c : Dev nD} {t : Fin cfg0.N} {Y} (h : (rdat m I P c).Finds 2 t Y) : Y = kB m c t := by
  obtain ⟨d, hd⟩ := (rdat m I P c).finds_in_eq_fetched 2 rfl (fun _ _ _ => rfl) (fun _ _ _ h => h) t Y h
  exact hd.trans (by unfold RDat.fetched RDat.blockOf kB iblk; rw [rdat_A]; try rfl)
theorem finds3 {c : Dev nD} {t : Fin cfg0.N} {Y} (h : (rdat m I P c).Finds 3 t Y) : Y = vB m c t := by
  obtain ⟨d, hd⟩ := (rdat m I P c).finds_in_eq_fetched 3 rfl (fun _ _ _ => rfl) (fun _ _ _ h => h) t Y h
  exact hd.trans (by unfold RDat.fetched RDat.blockOf vB iblk; rw [rdat_A]; try rfl)

/-- The body table's row at the point is the body as `bodyAt0` spells it. -/
theorem defs_row (t : Fin cfg0.N) : defs₀ (F := F) .tc cfg0.body (cfg0.bodyArgs t (cfg0.slots t)) = bodyAt0 t := by
  unfold defs₀; rw [Defs.onTc_tc]

variable (hstep : ∀ c t s, I c t.castSucc s → I c t.succ (stepF m c t s) ∧ ∀ O, P c t (outF (stepF m c t s).acc O))

include hstep in
/-- One point. -/
theorem point (c : Dev nD) (t : Fin cfg0.N) (O : Vec F S1024x128 .f32) :
    iprop(between I c t.castSucc ∗ (rdat m I P c).owesAt () t.castSucc
        ∗ held c (win0_0.stage (cfg0.slots t 0)) fullShare (qB m c t) ∗ held c (win0_1.stage (cfg0.slots t 1)) fullShare (qnB m c t)
        ∗ held c (win0_2.stage (cfg0.slots t 2)) fullShare (kB m c t) ∗ held c (win0_3.stage (cfg0.slots t 3)) fullShare (vB m c t)
        ∗ held c (win0_4.stage (cfg0.slots t 4)) fullShare O)
      ⊢ wp frame (wpE (defs₀ (F := F)) Variants.none (c : Thread nD τ) none) Set.univ (bodyAt0 t) fun _ =>
        iprop(between I c t.succ ∗ (rdat m I P c).owesAt () t.castSucc
          ∗ (∃ X, ⌜X = qB m c t⌝ ∗ held c (win0_0.stage (cfg0.slots t 0)) fullShare X)
          ∗ (∃ X, ⌜X = qnB m c t⌝ ∗ held c (win0_1.stage (cfg0.slots t 1)) fullShare X)
          ∗ (∃ X, ⌜X = kB m c t⌝ ∗ held c (win0_2.stage (cfg0.slots t 2)) fullShare X)
          ∗ (∃ X, ⌜X = vB m c t⌝ ∗ held c (win0_3.stage (cfg0.slots t 3)) fullShare X)
          ∗ (∃ X, ⌜P c t X⌝ ∗ held c (win0_4.stage (cfg0.slots t 4)) fullShare X)) := by
  unfold between bodyAt0
  rw [cc0_fox_body]
  iintro ⟨⟨⟨%s, %hs, S0, S1, S2, S3, S4, S5, S6⟩, Hg⟩, HO, W0, W1, W2, W3, W4⟩
  have hb := hstep c t s hs
  have hw := wp_body (grid0.coords t) Variants.none c none Set.univ (defs := defs₀) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (qB m c t) (qnB m c t) (kB m c t) (vB m c t) s O
  unfold hold wpA at hw
  iapply (wp_wand_r _ _ _)
  isplitl [S0 S1 S2 S3 S4 S5 S6 W0 W1 W2 W3 W4]
  · iapply hw
    iframe
  iintro %_ ⟨⟨W0, W1, S0, S1, S2, S3, S4, S5, S6⟩, W2, W3, W4⟩
  isplitl [S0 S1 S2 S3 S4 S5 S6 Hg]
  · isplitl [S0 S1 S2 S3 S4 S5 S6]
    · iexists (stepF m c t s)
      isplitr
      · ipureintro; exact hb.1
      unfold scr stepF
      iframe
    · iexact Hg
  isplitl [HO]; · iexact HO
  isplitl [W0]; · iexists _; isplitr; (ipureintro; rfl); iexact W0
  isplitl [W1]; · iexists _; isplitr; (ipureintro; rfl); iexact W1
  isplitl [W2]; · iexists _; isplitr; (ipureintro; rfl); iexact W2
  isplitl [W3]; · iexists _; isplitr; (ipureintro; rfl); iexact W3
  iexists _; isplitr; (ipureintro; exact hb.2 O); iexact W4

include hstep in
theorem obligation (c : Dev nD) : (rdat m I P c).BodyObligation (defs₀ (F := F)) Variants.none () Set.univ := fun t Y hY => by
  have h0 := finds0 (hY 0)
  have h1 := finds1 (hY 1)
  have h2 := finds2 (hY 2)
  have h3 := finds3 (hY 3)
  rw [bigSep_W0, bigSep_W0, defs_row, h0, h1, h2, h3]
  exact triple_restated (point hstep c t (Y 4)) rfl .rfl fun _ => .rfl

end Data

section Launch

variable {m}
variable {I : Dev nD → Fin (cfg0.N + 1) → St F → Prop} {P : Dev nD → Fin cfg0.N → Vec F S1024x128 .f32 → Prop}

/-- What the region starts from gives the scratch buffers at some contents. -/
theorem start (h0 : ∀ c s, I c 0 s) (c : Dev nD) :
    (Pipeline.ΦA spec0 c : sProp 𝕄G) ⊢ between I c 0 := by
  unfold Pipeline.ΦA between
  rw [scopedRest0_eq]
  iintro ⟨⟨⟨%f0, S0⟩, ⟨%f1, S1⟩, ⟨%f2, S2⟩, ⟨%f3, S3⟩, ⟨%f4, S4⟩, ⟨%f5, S5⟩, ⟨%f6, S6⟩⟩, Hg⟩
  isplitr [Hg]
  · iexists (⟨f0, f1, f2, f3, f4, f5, f6⟩ : St F)
    isplitr
    · ipureintro; exact h0 c _
    unfold scr held
    simp only [owns_whole]
    iframe
  · iexact Hg

/-- And they are given back at whatever they hold. -/
theorem stop (c : Dev nD) (t : Fin (cfg0.N + 1)) :
    between I c t ⊢ (Pipeline.ΦA spec0 c : sProp 𝕄G) := by
  unfold Pipeline.ΦA between
  rw [scopedRest0_eq]
  unfold scr held
  simp only [owns_whole]
  iintro ⟨⟨%s, -, S0, S1, S2, S3, S4, S5, S6⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  · iexact Hg

set_option backward.isDefEq.respectTransparency.types false in
/-- The run, for an invariant that every point keeps. -/
theorem run (h0 : ∀ c s, I c 0 s)
    (hstep : ∀ c t s, I c t.castSucc s → I c t.succ (stepF m c t s) ∧ ∀ O, P c t (outF (stepF m c t s).acc O)) :
    θ_run defs (onTc (τ := τ) (main (F := F))) (s₀ m ρ)
      (fun r => Pipeline.RDat.FramePost (cfgs 0) (rdat m I P) (V m) r ∧ r.2.sem = fun _ => 0) :=
  Pipeline.RDat.θ_run_frame_track_shared (Q' := _) cfgs (0 : Fin 1) launch₀0 defs₀ Variants.none (rdat m I P) m ρ main
    (hbody := fun c => obligation hstep c) (hq := fun _ _ _ => rfl)
    (howed := fun _ _ => rfl) (V := V m) (hmain := hmain m Variants.none) (hA := rdat_A m I P)
    (hin := fun c => start h0 c) (hout := fun c => stop c _)

/-- What the arguments hold after the run. -/
theorem args_of {r : PUnit × MemSt nD τ sig (Elt F)} (h : Pipeline.RDat.FramePost (cfgs 0) (rdat m I P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 1 rfl).trans ((rdat_A m I P c 1).trans (V_main_arg0 m c)),
    (h.arr_in c 2 rfl).trans ((rdat_A m I P c 2).trans (V_main_arg1 m c)),
    (h.arr_in c 3 rfl).trans ((rdat_A m I P c 3).trans (V_main_arg2 m c))⟩

/-- THE FRAME: from any memory with zero counters every execution terminates, leaving the arguments and every counter as they were. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of h.1 c, h.2⟩)
    (run (m := m) ρ (I := fun _ _ _ => True) (P := fun _ _ _ => True) (fun _ _ => trivial) fun _ _ _ _ => ⟨trivial, fun _ => trivial⟩)

end Launch

end Cert.KernelIdeal.Fox
-- ==== Proof.Softmax.lean ====
/- The running softmax in base 2 over the extended reals: scores seen so far, their greatest, and the weighted sums
   that are rescaled as the greatest grows. -/
module

public import Idealize.ShloMosaic.Lib.Pointwise
public import Idealize.ShloMosaic.Lib.IdealHost

@[expose] public section

set_option maxRecDepth 16384

noncomputable section

namespace Cert.Softmax

open Idealize.ShloMosaic Finset

/-- The greatest of the first `n` scores; `⊥` of none. -/
def top (σ : ℕ → EReal) (n : ℕ) : EReal := (range n).sup σ

/-- The first `n` values, each weighted by `2^(score - greatest score)`. -/
def wsum (σ v : ℕ → EReal) (n : ℕ) : EReal := ∑ r ∈ range n, v r * Ideal.exp2 (σ r - top σ n)

theorem exp2_nonneg (x : EReal) : 0 ≤ Ideal.exp2 x := by
  induction x using EReal.rec with
  | bot => simp
  | coe r => rw [Ideal.exp2_coe]; exact_mod_cast (Real.rpow_nonneg (by norm_num) r)
  | top => simp

theorem exp2_ne_top {x : EReal} (h : x ≠ ⊤) : Ideal.exp2 x ≠ ⊤ := by
  induction x using EReal.rec with
  | bot => simp
  | coe r => rw [Ideal.exp2_coe]; exact EReal.coe_ne_top _
  | top => exact absurd rfl h

theorem sub_ne_top {a b : EReal} (ha : a ≠ ⊤) (hab : a ≤ b) (hb : b ≠ ⊤) : a - b ≠ ⊤ := by
  induction a using EReal.rec with
  | bot => rw [EReal.bot_sub]; exact bot_ne_top
  | top => exact absurd rfl ha
  | coe r =>
    induction b using EReal.rec with
    | bot => exact absurd hab (by simp)
    | top => exact absurd rfl hb
    | coe s => rw [← EReal.coe_sub]; exact EReal.coe_ne_top _

/-- Weights compose. -/
theorem exp2_trans {a b c : EReal} (hab : a ≤ b) (hbc : b ≤ c) (hc : c ≠ ⊤) :
    Ideal.exp2 (b - c) * Ideal.exp2 (a - b) = Ideal.exp2 (a - c) := by
  induction a using EReal.rec with
  | bot => rw [EReal.bot_sub, EReal.bot_sub]; simp
  | top => exact absurd (top_le_iff.1 (hab.trans hbc)) hc
  | coe r =>
    induction b using EReal.rec with
    | bot => exact absurd hab (by simp)
    | top => exact absurd (top_le_iff.1 hbc) hc
    | coe s =>
      induction c using EReal.rec with
      | bot => exact absurd hbc (by simp)
      | top => exact absurd rfl hc
      | coe t =>
        rw [← EReal.coe_sub, ← EReal.coe_sub, ← EReal.coe_sub, Ideal.exp2_coe, Ideal.exp2_coe, Ideal.exp2_coe, ← EReal.coe_mul]
        congr 1
        show (2 : ℝ) ^ (s - t) * (2 : ℝ) ^ (r - s) = (2 : ℝ) ^ (r - t)
        rw [← Real.rpow_add (by norm_num)]
        congr 1; ring

/-- A nonnegative finite factor goes under a sum. -/
theorem mul_sum_of {ι : Type} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih => rw [sum_insert hi, sum_insert hi, EReal.left_distrib_of_nonneg_of_ne_top h0 ht, ih]

section

variable (σ v : ℕ → EReal)

theorem top_zero : top σ 0 = ⊥ := rfl
theorem wsum_zero : wsum σ v 0 = 0 := rfl

theorem le_top {r n : ℕ} (h : r < n) : σ r ≤ top σ n := le_sup (f := σ) (mem_range.2 h)

theorem top_mono {n n' : ℕ} (h : n ≤ n') : top σ n ≤ top σ n' := sup_mono (range_mono h)

theorem top_ne_top (hσ : ∀ r, σ r ≠ ⊤) (n : ℕ) : top σ n ≠ ⊤ := by
  refine ne_of_lt ((Finset.sup_lt_iff bot_lt_top).2 fun r _ => lt_top_iff_ne_top.2 (hσ r))

theorem top_add (n w : ℕ) : top σ (n + w) = max (top σ n) ((univ : Finset (Fin w)).sup fun r => σ (n + r.val)) := by
  apply le_antisymm
  · refine Finset.sup_le fun r hr => ?_
    rcases lt_or_ge r n with h | h
    · exact (le_top σ h).trans (le_max_left _ _)
    · refine le_trans ?_ (le_max_right _ _)
      have hr' : r < n + w := mem_range.1 hr
      have := le_sup (f := fun r : Fin w => σ (n + r.val)) (mem_univ ⟨r - n, by omega⟩)
      simpa [show n + (r - n) = r by omega] using this
  · refine max_le (top_mono σ (by omega)) (Finset.sup_le fun r _ => le_top σ (by omega))

/-- One step: the sums so far are rescaled, and `w` keys added. -/
theorem step (hσ : ∀ r, σ r ≠ ⊤) (n w : ℕ) :
    Ideal.exp2 (top σ n - top σ (n + w)) * wsum σ v n + ∑ r : Fin w, v (n + r.val) * Ideal.exp2 (σ (n + r.val) - top σ (n + w))
      = wsum σ v (n + w) := by
  have hm : top σ n ≤ top σ (n + w) := top_mono σ (by omega)
  have ht := top_ne_top σ hσ (n + w)
  unfold wsum
  rw [sum_range_add (n := n) (m := w), mul_sum_of _ _ (exp2_nonneg _) (exp2_ne_top (sub_ne_top (top_ne_top σ hσ n) hm ht)),
    Finset.sum_range (n := w)]
  congr 1
  refine sum_congr rfl fun r hr => ?_
  rw [mul_left_comm, exp2_trans (le_top σ (mem_range.1 hr)) hm ht]

/-- Keys that are not seen change nothing. -/
theorem top_ext {n n' : ℕ} (h : n ≤ n') (hb : ∀ r, n ≤ r → r < n' → σ r = ⊥) : top σ n' = top σ n := by
  refine le_antisymm (Finset.sup_le fun r hr => ?_) (top_mono σ h)
  rcases lt_or_ge r n with h' | h'
  · exact le_top σ h'
  · rw [hb r h' (mem_range.1 hr)]; exact bot_le

theorem wsum_ext {n n' : ℕ} (h : n ≤ n') (hb : ∀ r, n ≤ r → r < n' → σ r = ⊥) : wsum σ v n' = wsum σ v n := by
  unfold wsum
  rw [top_ext σ h hb]
  refine (sum_subset (range_mono h) fun r hr hr' => ?_).symm
  rw [hb r (by simpa using hr') (mem_range.1 hr), EReal.bot_sub]; simp

/-- The denominator: positive and finite. -/
theorem denom (hσ : ∀ r, σ r ≠ ⊤) {n : ℕ} (hn : 0 < n) (h0 : σ 0 ≠ ⊥) :
    ∃ l : ℝ, 0 < l ∧ wsum σ (fun _ => 1) n = (l : EReal) := by
  have hne : top σ n ≠ ⊥ := fun h => h0 (le_bot_iff.1 (h ▸ le_top σ hn))
  obtain ⟨r, hr, hmax⟩ := Finset.exists_mem_eq_sup (range n) ⟨0, mem_range.2 hn⟩ σ
  have hpos : 0 < wsum σ (fun _ => 1) n := by
    refine lt_of_lt_of_le ?_ (single_le_sum (f := fun r => (1 : EReal) * Ideal.exp2 (σ r - top σ n)) (fun i _ => ?_) hr)
    · have e : σ r = top σ n := hmax.symm
      simp only [one_mul, e]
      rw [← EReal.coe_toReal (top_ne_top σ hσ n) hne, ← EReal.coe_sub, sub_self, Ideal.exp2_coe]
      have : (0 : ℝ) < Real.rpow 2 0 := by norm_num
      exact_mod_cast this
    · simpa using exp2_nonneg _
  have hfin : wsum σ (fun _ => 1) n ≠ ⊤ := by
    unfold wsum
    refine Finset.sum_induction _ (fun x : EReal => x ≠ ⊤) (fun a b ha hb => EReal.add_ne_top ha hb) (by simp) fun i hi => ?_
    rw [one_mul]
    exact exp2_ne_top (sub_ne_top (hσ i) (le_top σ (mem_range.1 hi)) (top_ne_top σ hσ n))
  refine ⟨(wsum σ (fun _ => 1) n).toReal, ?_, (EReal.coe_toReal hfin (ne_bot_of_gt hpos)).symm⟩
  exact EReal.toReal_pos hpos hfin

theorem div_pos_coe {l : ℝ} (h : 0 < l) (x : EReal) : Ideal.div x (l : EReal) = x * ((1 / l : ℝ) : EReal) :=
  Ideal.div_coe h.ne' x

/-- The quotient of the sums is the sum over normalised weights. -/
theorem quot (hσ : ∀ r, σ r ≠ ⊤) {n : ℕ} (hn : 0 < n) (h0 : σ 0 ≠ ⊥) :
    Ideal.div (wsum σ v n) (wsum σ (fun _ => 1) n)
      = ∑ r ∈ range n, Ideal.div (Ideal.exp2 (σ r - top σ n)) (wsum σ (fun _ => 1) n) * v r := by
  obtain ⟨l, hl, e⟩ := denom σ hσ hn h0
  rw [e, div_pos_coe hl, mul_comm]
  have hp : (0 : ℝ) ≤ 1 / l := by positivity
  unfold wsum
  rw [mul_sum_of _ _ (by exact_mod_cast hp) (EReal.coe_ne_top _)]
  refine sum_congr rfl fun r _ => ?_
  rw [div_pos_coe hl]
  ac_rfl

end

/-- A power of two, through the natural exponential and logarithm. -/
theorem exp_log2 {x : EReal} (h : x ≠ ⊤) : Ideal.exp (x * Ideal.log ((2 : ℝ) : EReal)) = Ideal.exp2 x := by
  have hl : Ideal.log ((2 : ℝ) : EReal) = ((Real.log 2 : ℝ) : EReal) := by
    rw [Ideal.log_coe, if_neg (by norm_num)]
  rw [hl]
  have hp : 0 < Real.log 2 := Real.log_pos (by norm_num)
  induction x using EReal.rec with
  | bot => rw [EReal.bot_mul_coe_of_pos hp]; simp
  | top => exact absurd rfl h
  | coe r =>
    rw [← EReal.coe_mul, Ideal.exp_coe, Ideal.exp2_coe]
    congr 1
    show Real.exp (r * Real.log 2) = (2 : ℝ) ^ r
    rw [Real.rpow_def_of_pos (by norm_num), mul_comm]

end Cert.Softmax
-- ==== Proof.Spec.lean ====
/- What the call computes, of its three operands: masked scores in base 2, their softmax, and the values it averages. -/
module

public import proofs.«01_k».proof.KernelIdeal
public import proofs.«01_k».proof.Proof.Softmax
public import Idealize.ShloMosaic.Lib.Pointwise

@[expose] public section

noncomputable section

namespace Cert.Spec

open Idealize.ShloMosaic Finset Cert.Softmax
open Cert.KernelIdeal (S8x128x16384 S8x16384x128 S8x80x16384)

/-- The keys by head, position and dimension; nothing is read beyond the last position. -/
def key (Kg : FVec Ideal S8x16384x128 .bf16) (h : Fin 8) (k : ℕ) (d : Fin 128) : EReal :=
  if hk : k < 16384 then Kg (ix3 h ⟨k, hk⟩ d) else 0

/-- The values by head, row and position. -/
def value (Vg : FVec Ideal S8x80x16384 .bf16) (h : Fin 8) (e : Fin 80) (k : ℕ) : EReal :=
  if hk : k < 16384 then Vg (ix3 h e ⟨k, hk⟩) else 0

/-- The product of a query and a key. -/
def dot (Qg : FVec Ideal S8x128x16384 .bf16) (Kg : FVec Ideal S8x16384x128 .bf16) (h : Fin 8) (q : Fin 16384) (k : ℕ) : EReal :=
  ∑ d : Fin 128, key Kg h k d * Qg (ix3 h d q)

/-- The score: a query sees the keys up to its own position. -/
def score (Qg : FVec Ideal S8x128x16384 .bf16) (Kg : FVec Ideal S8x16384x128 .bf16) (h : Fin 8) (q : Fin 16384) (k : ℕ) : EReal :=
  if k ≤ q.val then dot Qg Kg h q k else ⊥

/-- The attention. -/
def att (Qg : FVec Ideal S8x128x16384 .bf16) (Kg : FVec Ideal S8x16384x128 .bf16) (Vg : FVec Ideal S8x80x16384 .bf16)
    (h : Fin 8) (q : Fin 16384) (d : Fin 64) : EReal :=
  ∑ k ∈ range 16384, Ideal.div (Ideal.exp2 (score Qg Kg h q k - top (score Qg Kg h q) 16384)) (wsum (score Qg Kg h q) (fun _ => 1) 16384)
    * value Vg h ⟨d.val, by omega⟩ k

/-- The operands the claim is about: finite queries and keys, and ones in the row of the values after the head dimension. -/
structure Ok (Qg : FVec Ideal S8x128x16384 .bf16) (Kg : FVec Ideal S8x16384x128 .bf16) (Vg : FVec Ideal S8x80x16384 .bf16) : Prop where
  q : ∀ j, ∃ x : ℝ, Qg j = (x : EReal)
  k : ∀ j, ∃ x : ℝ, Kg j = (x : EReal)
  v : ∀ h k, Vg (ix3 h 64 k) = 1

variable {Qg : FVec Ideal S8x128x16384 .bf16} {Kg : FVec Ideal S8x16384x128 .bf16} {Vg : FVec Ideal S8x80x16384 .bf16}

theorem key_real (h : Ok Qg Kg Vg) (hh : Fin 8) (k : ℕ) (d : Fin 128) : ∃ x : ℝ, key Kg hh k d = (x : EReal) := by
  unfold key; split
  · exact h.k _
  · exact ⟨0, rfl⟩

/-- A sum of products of reals is real. -/
theorem sum_real {n : ℕ} (f g : Fin n → EReal) (hf : ∀ d, ∃ x : ℝ, f d = (x : EReal)) (hg : ∀ d, ∃ x : ℝ, g d = (x : EReal)) :
    ∃ x : ℝ, ∑ d, f d * g d = (x : EReal) := by
  refine Finset.sum_induction _ (fun y : EReal => ∃ x : ℝ, y = (x : EReal)) ?_ ⟨0, rfl⟩ fun d _ => ?_
  · rintro _ _ ⟨a, rfl⟩ ⟨b, rfl⟩; exact ⟨a + b, (EReal.coe_add a b).symm⟩
  · obtain ⟨a, ha⟩ := hf d
    obtain ⟨b, hb⟩ := hg d
    exact ⟨a * b, by rw [ha, hb, EReal.coe_mul]⟩

theorem dot_real (h : Ok Qg Kg Vg) (hh : Fin 8) (q : Fin 16384) (k : ℕ) : ∃ x : ℝ, dot Qg Kg hh q k = (x : EReal) :=
  sum_real _ _ (key_real h hh k) fun _ => h.q _

theorem score_ne_top (h : Ok Qg Kg Vg) (hh : Fin 8) (q : Fin 16384) (k : ℕ) : score Qg Kg hh q k ≠ ⊤ := by
  unfold score; split
  · obtain ⟨x, hx⟩ := dot_real h hh q k; rw [hx]; exact EReal.coe_ne_top x
  · exact bot_ne_top

theorem score_zero (h : Ok Qg Kg Vg) (hh : Fin 8) (q : Fin 16384) : score Qg Kg hh q 0 ≠ ⊥ := by
  unfold score; rw [if_pos (Nat.zero_le _)]
  obtain ⟨x, hx⟩ := dot_real h hh q 0; rw [hx]; exact EReal.coe_ne_bot x

theorem value_one (h : Ok Qg Kg Vg) (hh : Fin 8) {k : ℕ} (hk : k < 16384) : value Vg hh 64 k = 1 := by
  unfold value; rw [dif_pos hk]; exact h.v hh _

/-- Running sums over all the keys a query sees, divided, are the attention. -/
theorem att_of (h : Ok Qg Kg Vg) (hh : Fin 8) (q : Fin 16384) (d : Fin 64) {n : ℕ} (hn : q.val < n) (hn' : n ≤ 16384) :
    Ideal.div (wsum (score Qg Kg hh q) (value Vg hh ⟨d.val, by omega⟩) n) (wsum (score Qg Kg hh q) (value Vg hh 64) n) = att Qg Kg Vg hh q d := by
  have hb : ∀ r, n ≤ r → r < 16384 → score Qg Kg hh q r = ⊥ := fun r h1 _ => by unfold score; rw [if_neg (by omega)]
  rw [← wsum_ext (score Qg Kg hh q) (value Vg hh ⟨d.val, by omega⟩) hn' hb, ← wsum_ext (score Qg Kg hh q) (value Vg hh 64) hn' hb]
  have h1 : wsum (score Qg Kg hh q) (value Vg hh 64) 16384 = wsum (score Qg Kg hh q) (fun _ => 1) 16384 :=
    sum_congr rfl fun r hr => by rw [value_one h hh (mem_range.1 hr)]
  rw [h1, quot _ _ (score_ne_top h hh q) (by omega) (score_zero h hh q)]
  rfl

end Cert.Spec
-- ==== Proof.PreRead.lean ====
/- The precondition, read: the printed conditions on the operands are `Ok`. -/
module

public import proofs.«01_k».proof.Defs
public import proofs.«01_k».proof.Proof.Spec
public import Idealize.ShloMosaic.Lib.ReduceAll

@[expose] public section

set_option maxRecDepth 16384

noncomputable section

namespace Cert.Pre_operands

open Idealize.ShloMosaic

/-- The shape facts the precondition states. -/
instance facts : Cert.Pre_operands.Facts where
  bitsLt_bf16_f32 := by decide
  bcast_S_S8x128x16384 := by decide
  reducesTo_S8x128x16384_S_d0_1_2 := by decide
  h_S_ := by decide
  bcast_S_S8x16384x128 := by decide
  reducesTo_S8x16384x128_S_d0_1_2 := by decide
  slices_S8x80x16384_S8x1x16384_0_64_0 := by decide
  shapeCasts_S8x1x16384_S8x16384 := by decide
  bcast_S_S8x16384 := by decide
  reducesTo_S8x16384_S_d0_1 := by decide

instance : Subsingleton S_.Idx := ⟨fun a b => funext fun d => d.elim0⟩

theorem ofBits_inf : Ideal.ofBits .f32 0x7F800000#32 = ⊤ := by simp [Ideal.ofBits, Ideal.ieee]

/-- What is less than infinity in absolute value is real. -/
theorem real_of_abs {x : EReal} (h : max x (-x) < ⊤) : ∃ r : ℝ, x = (r : EReal) := by
  induction x using EReal.rec with
  | bot => simp at h
  | coe r => exact ⟨r, rfl⟩
  | top => simp at h

theorem of_bit {p : Prop} [Decidable p] (h : BitVec.ofBool (decide p) = 1#1) : p := by
  by_contra hp
  rw [decide_eq_false hp] at h
  exact absurd h (by decide)

theorem ok_of {Qg : FVec Ideal S8x128x16384 .bf16} {Kg : FVec Ideal S8x16384x128 .bf16} {Vg : FVec Ideal S8x80x16384 .bf16}
    (h : fn (F := Ideal) Qg Kg Vg = fun _ => 1#1) : Cert.Spec.Ok Qg Kg Vg := by
  have h0 := congrFun h (Shape.Idx.first Facts.h_S_)
  simp only [fn, andi, IntOp.andi_eq_one] at h0
  obtain ⟨⟨hq, hk⟩, hv⟩ := h0
  refine ⟨fun j => ?_, fun j => ?_, fun hh k => ?_⟩
  · have := Host.reduce_andi_all _ _ _ _ _ hq j
    idx_vars j
    pointwise at this
    have := of_bit this
    rw [ofBits_inf] at this
    exact real_of_abs this
  · have := Host.reduce_andi_all _ _ _ _ _ hk j
    idx_vars j
    pointwise at this
    have := of_bit this
    rw [ofBits_inf] at this
    exact real_of_abs this
  · have := Host.reduce_andi_all _ _ _ _ _ hv (ix2 hh k)
    pointwise at this
    exact of_bit this

end Cert.Pre_operands
-- ==== Proof.Chain.lean ====
/- What a chain step computes over the extended reals, entry by entry. -/
module

public import proofs.«01_k».proof.Proof.Effect
public import proofs.«01_k».proof.Proof.Softmax
public import Idealize.ShloMosaic.Lib.WordCmp

@[expose] public section

set_option maxRecDepth 16384

noncomputable section

namespace Cert.KernelIdeal.Fox

open Idealize.ShloMosaic Idealize.ShloMosaic.TcCoe Idealize.SL.Sem Facts₀ Facts Finset

/-! ## Scores -/

/-- A score: a key against a query, over the lanes. -/
theorem score_at : (sb : Fin 4) → (k : FVec Ideal ⟨3, ![1, nk sb, 128]⟩ .bf16) → (q : FVec Ideal S1x128x256 .bf16) →
    (r : Fin (nk sb)) → (c : Fin 256) →
    (score (F := Ideal) sb k q : FVec Ideal ⟨3, ![1, nk sb, 256]⟩ .f32) (ix3 0 r c) = ∑ d : Fin 128, k (ix3 0 r d) * q (ix3 0 d c)
  | 0, k, q, r, c => by
      change FVec Ideal S1x256x128 .bf16 at k; change Fin 256 at r; show score256 (F := Ideal) k q (ix3 0 r c) = _
      pointwise [score256]
  | 1, k, q, r, c => by
      change FVec Ideal S1x512x128 .bf16 at k; change Fin 512 at r; show score512 (F := Ideal) k q (ix3 0 r c) = _
      pointwise [score512]
  | 2, k, q, r, c => by
      change FVec Ideal S1x768x128 .bf16 at k; change Fin 768 at r; show score768 (F := Ideal) k q (ix3 0 r c) = _
      pointwise [score768]
  | 3, k, q, r, c => by
      change FVec Ideal S1x1024x128 .bf16 at k; change Fin 1024 at r; show score1024 (F := Ideal) k q (ix3 0 r c) = _
      pointwise [score1024]

/-! ## The greatest score -/

/-- The greatest over twice as many rows, of which the halves are compared first. -/
theorem sup_halves {n N : ℕ} (f : Fin N → EReal) (h : N = n + n) (g : Fin n → EReal)
    (hg : ∀ r : Fin n, g r = max (f ⟨r.val, by omega⟩) (f ⟨n + r.val, by omega⟩)) :
    (univ : Finset (Fin n)).sup g = (univ : Finset (Fin N)).sup f := by
  apply le_antisymm
  · refine Finset.sup_le fun r _ => ?_
    rw [hg]
    exact max_le (le_sup (f := f) (mem_univ _)) (le_sup (f := f) (mem_univ _))
  · refine Finset.sup_le fun r _ => ?_
    rcases lt_or_ge r.val n with hr | hr
    · refine le_trans ?_ (le_sup (f := g) (mem_univ ⟨r.val, hr⟩))
      rw [hg]; exact le_max_left _ _
    · refine le_trans ?_ (le_sup (f := g) (mem_univ ⟨r.val - n, by omega⟩))
      rw [hg]
      have e : (⟨n + (r.val - n), by omega⟩ : Fin N) = r := Fin.ext (by show n + (r.val - n) = r.val; omega)
      rw [e]; exact le_max_right _ _

theorem ofBits_negInf : Ideal.ofBits .f32 0xFF800000#32 = ⊥ := by
  simp [Ideal.ofBits, Ideal.ieee]

/-- A reduction that starts from the least value. -/
theorem fold_max_eq {n : ℕ} (f : Fin n → EReal) : (univ : Finset (Fin n)).fold max (Ideal.ofBits .f32 0xFF800000#32) f = univ.sup f := by
  rw [ofBits_negInf]; rfl

theorem max8_at (v : FVec Ideal S8x256 .f32) (c : Fin 256) : max8 (F := Ideal) v (ix2 0 c) = (univ : Finset (Fin 8)).sup fun r => v (ix2 r c) := by
  pointwise [max8]
  exact fold_max_eq _

theorem max256_at (v : FVec Ideal S256x256 .f32) (c : Fin 256) : max256 (F := Ideal) v (ix2 0 c) = (univ : Finset (Fin 256)).sup fun r => v (ix2 r c) := by
  have h8 (d : FVec Ideal S16x256 .f32) : ((univ : Finset (Fin 8)).sup fun r => maximumf (extractStridedSlice S8x256 ![0, 0] d slices_S16x256_o0_0_S8x256) (extractStridedSlice S8x256 ![8, 0] d slices_S16x256_o8_0_S8x256) (ix2 r c))
      = univ.sup fun r : Fin 16 => d (ix2 r c) :=
    sup_halves (n := 8) (fun r : Fin 16 => d (ix2 r c)) rfl _ fun r => by pointwise
  have h16 (d : FVec Ideal S32x256 .f32) : ((univ : Finset (Fin 16)).sup fun r => maximumf (extractStridedSlice S16x256 ![0, 0] d slices_S32x256_o0_0_S16x256) (extractStridedSlice S16x256 ![16, 0] d slices_S32x256_o16_0_S16x256) (ix2 r c))
      = univ.sup fun r : Fin 32 => d (ix2 r c) :=
    sup_halves (n := 16) (fun r : Fin 32 => d (ix2 r c)) rfl _ fun r => by pointwise
  have h32 (d : FVec Ideal S64x256 .f32) : ((univ : Finset (Fin 32)).sup fun r => maximumf (extractStridedSlice S32x256 ![0, 0] d slices_S64x256_o0_0_S32x256) (extractStridedSlice S32x256 ![32, 0] d slices_S64x256_o32_0_S32x256) (ix2 r c))
      = univ.sup fun r : Fin 64 => d (ix2 r c) :=
    sup_halves (n := 32) (fun r : Fin 64 => d (ix2 r c)) rfl _ fun r => by pointwise
  have h64 (d : FVec Ideal S128x256 .f32) : ((univ : Finset (Fin 64)).sup fun r => maximumf (extractStridedSlice S64x256 ![0, 0] d slices_S128x256_o0_0_S64x256) (extractStridedSlice S64x256 ![64, 0] d slices_S128x256_o64_0_S64x256) (ix2 r c))
      = univ.sup fun r : Fin 128 => d (ix2 r c) :=
    sup_halves (n := 64) (fun r : Fin 128 => d (ix2 r c)) rfl _ fun r => by pointwise
  have h128 (d : FVec Ideal S256x256 .f32) : ((univ : Finset (Fin 128)).sup fun r => maximumf (extractStridedSlice S128x256 ![0, 0] d slices_S256x256_o0_0_S128x256) (extractStridedSlice S128x256 ![128, 0] d slices_S256x256_o128_0_S128x256) (ix2 r c))
      = univ.sup fun r : Fin 256 => d (ix2 r c) :=
    sup_halves (n := 128) (fun r : Fin 256 => d (ix2 r c)) rfl _ fun r => by pointwise
  unfold max256
  rw [max8_at]
  exact (h8 _).trans <| (h16 _).trans <| (h32 _).trans <| (h64 _).trans <| h128 _

theorem max512_at (v : FVec Ideal S512x256 .f32) (c : Fin 256) : max512 (F := Ideal) v (ix2 0 c) = (univ : Finset (Fin 512)).sup fun r => v (ix2 r c) := by
  have h256 (d : FVec Ideal S512x256 .f32) : ((univ : Finset (Fin 256)).sup fun r => maximumf (extractStridedSlice S256x256 ![0, 0] d slices_S512x256_o0_0_S256x256) (extractStridedSlice S256x256 ![256, 0] d slices_S512x256_o256_0_S256x256) (ix2 r c))
      = univ.sup fun r : Fin 512 => d (ix2 r c) :=
    sup_halves (n := 256) (fun r : Fin 512 => d (ix2 r c)) rfl _ fun r => by pointwise
  unfold max512
  rw [max256_at]
  exact h256 _

theorem max1024_at (v : FVec Ideal S1024x256 .f32) (c : Fin 256) : max1024 (F := Ideal) v (ix2 0 c) = (univ : Finset (Fin 1024)).sup fun r => v (ix2 r c) := by
  have h512 (d : FVec Ideal S1024x256 .f32) : ((univ : Finset (Fin 512)).sup fun r => maximumf (extractStridedSlice S512x256 ![0, 0] d slices_S1024x256_o0_0_S512x256) (extractStridedSlice S512x256 ![512, 0] d slices_S1024x256_o512_0_S512x256) (ix2 r c))
      = univ.sup fun r : Fin 1024 => d (ix2 r c) :=
    sup_halves (n := 512) (fun r : Fin 1024 => d (ix2 r c)) rfl _ fun r => by pointwise
  unfold max1024
  rw [max512_at]
  exact h512 _

theorem max24_at (v : FVec Ideal S24x256 .f32) (c : Fin 256) :
    shapeCast S1x256 (multiReduction .maximumf [0] S256 v 0xFF800000#32 reduces_S24x256_S256 (.inl rfl) rfl) shapeCasts_S256_S1x256 (ix2 0 c)
      = (univ : Finset (Fin 24)).sup fun r => v (ix2 r c) := by
  pointwise
  exact fold_max_eq _

theorem max768_at (v : FVec Ideal S768x256 .f32) (c : Fin 256) : max768 (F := Ideal) v (ix2 0 c) = (univ : Finset (Fin 768)).sup fun r => v (ix2 r c) := by
  have h24 (d : FVec Ideal S48x256 .f32) : ((univ : Finset (Fin 24)).sup fun r => maximumf (extractStridedSlice S24x256 ![0, 0] d slices_S48x256_o0_0_S24x256) (extractStridedSlice S24x256 ![24, 0] d slices_S48x256_o24_0_S24x256) (ix2 r c))
      = univ.sup fun r : Fin 48 => d (ix2 r c) :=
    sup_halves (n := 24) (fun r : Fin 48 => d (ix2 r c)) rfl _ fun r => by pointwise
  have h48 (d : FVec Ideal S96x256 .f32) : ((univ : Finset (Fin 48)).sup fun r => maximumf (extractStridedSlice S48x256 ![0, 0] d slices_S96x256_o0_0_S48x256) (extractStridedSlice S48x256 ![48, 0] d slices_S96x256_o48_0_S48x256) (ix2 r c))
      = univ.sup fun r : Fin 96 => d (ix2 r c) :=
    sup_halves (n := 48) (fun r : Fin 96 => d (ix2 r c)) rfl _ fun r => by pointwise
  have h96 (d : FVec Ideal S192x256 .f32) : ((univ : Finset (Fin 96)).sup fun r => maximumf (extractStridedSlice S96x256 ![0, 0] d slices_S192x256_o0_0_S96x256) (extractStridedSlice S96x256 ![96, 0] d slices_S192x256_o96_0_S96x256) (ix2 r c))
      = univ.sup fun r : Fin 192 => d (ix2 r c) :=
    sup_halves (n := 96) (fun r : Fin 192 => d (ix2 r c)) rfl _ fun r => by pointwise
  have h192 (d : FVec Ideal S384x256 .f32) : ((univ : Finset (Fin 192)).sup fun r => maximumf (extractStridedSlice S192x256 ![0, 0] d slices_S384x256_o0_0_S192x256) (extractStridedSlice S192x256 ![192, 0] d slices_S384x256_o192_0_S192x256) (ix2 r c))
      = univ.sup fun r : Fin 384 => d (ix2 r c) :=
    sup_halves (n := 192) (fun r : Fin 384 => d (ix2 r c)) rfl _ fun r => by pointwise
  have h384 (d : FVec Ideal S768x256 .f32) : ((univ : Finset (Fin 384)).sup fun r => maximumf (extractStridedSlice S384x256 ![0, 0] d slices_S768x256_o0_0_S384x256) (extractStridedSlice S384x256 ![384, 0] d slices_S768x256_o384_0_S384x256) (ix2 r c))
      = univ.sup fun r : Fin 768 => d (ix2 r c) :=
    sup_halves (n := 384) (fun r : Fin 768 => d (ix2 r c)) rfl _ fun r => by pointwise
  unfold max768
  refine (max24_at _ c).trans ?_
  exact (h24 _).trans <| (h48 _).trans <| (h96 _).trans <| (h192 _).trans <| h384 _

/-- The greatest score of a query is that of its column. -/
theorem rowMax_at : (sb : Fin 4) → (s : FVec Ideal ⟨2, ![nk sb, 256]⟩ .f32) → (c : Fin 256) →
    rowMax (F := Ideal) sb s (ix2 0 c) = (univ : Finset (Fin (nk sb))).sup fun r => s (ix2 r c)
  | 0, s, c => max256_at s c
  | 1, s, c => max512_at s c
  | 2, s, c => max768_at s c
  | 3, s, c => max1024_at s c

/-! ## The mask -/

theorem κ_mask : κ "mask" = some ⊥ := rfl

theorem maskC_eq : maskC (F := Ideal) = (⊥ : EReal) := by
  unfold maskC
  exact IdealRules.named_const.ideal_named_scalar (φ := .f32) κ "mask" 0xF149F2CA#32 ⊥ κ_mask

/-- A selection by the causal mask. -/
theorem sle_select {a b k : ℕ} (ha : a < 2 ^ 20) (hb : b < 2 ^ 20) (hk : k < 2 ^ 20) (x y : EReal) :
    Scalar.select (IntOp.cmpi CmpIPredicate.sle (BitVec.ofNat 32 a) (IntOp.addi (BitVec.ofNat 32 b) (BitVec.ofNat 32 k))) x y
      = if a ≤ k + b then x else y := by
  have e : IntOp.addi (BitVec.ofNat 32 b) (BitVec.ofNat 32 k) = BitVec.ofNat 32 (k + b) := by
    show BitVec.ofNat 32 b + BitVec.ofNat 32 k = _
    rw [← BitVec.ofNat_add, Nat.add_comm]
  rw [e]
  word_cmp

/-- The masked scores. -/
theorem masked_at : (sb : Fin 4) → (s : FVec Ideal ⟨2, ![nk sb, 256]⟩ .f32) → (r : Fin (nk sb)) → (c : Fin 256) →
    (masked (F := Ideal) sb s : FVec Ideal ⟨2, ![nk sb, 256]⟩ .f32) (ix2 r c) = if r.val ≤ 256 * sb.val + c.val then s (ix2 r c) else ⊥
  | 0, s, r, c => by
      change FVec Ideal S256x256 .f32 at s; change Fin 256 at r
      show (masked (F := Ideal) 0 s : FVec Ideal S256x256 .f32) (ix2 r c) = if r.val ≤ 0 + c.val then s (ix2 r c) else ⊥
      pointwise [masked]
      rw [maskC_eq]
      exact (sle_select (a := r.val) (b := c.val) (k := 0) (by omega) (by omega) (by omega) _ _).trans (by rw [Nat.zero_add])
  | 1, s, r, c => by
      change FVec Ideal S512x256 .f32 at s; change Fin 512 at r
      show (masked (F := Ideal) 1 s : FVec Ideal S512x256 .f32) (ix2 r c) = if r.val ≤ 256 + c.val then s (ix2 r c) else ⊥
      pointwise [masked]
      rw [maskC_eq]
      exact sle_select (a := r.val) (b := c.val) (k := 256) (by omega) (by omega) (by omega) _ _
  | 2, s, r, c => by
      change FVec Ideal S768x256 .f32 at s; change Fin 768 at r
      show (masked (F := Ideal) 2 s : FVec Ideal S768x256 .f32) (ix2 r c) = if r.val ≤ 512 + c.val then s (ix2 r c) else ⊥
      pointwise [masked]
      rw [maskC_eq]
      exact sle_select (a := r.val) (b := c.val) (k := 512) (by omega) (by omega) (by omega) _ _
  | 3, s, r, c => by
      change FVec Ideal S1024x256 .f32 at s; change Fin 1024 at r
      show (masked (F := Ideal) 3 s : FVec Ideal S1024x256 .f32) (ix2 r c) = if r.val ≤ 768 + c.val then s (ix2 r c) else ⊥
      pointwise [masked]
      rw [maskC_eq]
      exact sle_select (a := r.val) (b := c.val) (k := 768) (by omega) (by omega) (by omega) _ _

/-! ## The weighted values -/

/-- The weights applied to the values. -/
theorem pv_at : (sb : Fin 4) → (s : FVec Ideal ⟨2, ![nk sb, 256]⟩ .f32) → (m : FVec Ideal S1x256 .f32) → (v : FVec Ideal ⟨3, ![1, 80, nk sb]⟩ .bf16) →
    (e : Fin 80) → (c : Fin 256) →
    pv (F := Ideal) sb s m v (ix2 e c) = ∑ r : Fin (nk sb), v (ix3 0 e r) * Ideal.exp2 (s (ix2 r c) - m (ix2 0 c))
  | 0, s, m, v, e, c => by
      change FVec Ideal S256x256 .f32 at s; change FVec Ideal S1x80x256 .bf16 at v
      show pv256 (F := Ideal) s m v (ix2 e c) = ∑ r : Fin 256, v (ix3 0 e r) * Ideal.exp2 (s (ix2 r c) - m (ix2 0 c))
      pointwise [pv256]
      rfl
  | 1, s, m, v, e, c => by
      change FVec Ideal S512x256 .f32 at s; change FVec Ideal S1x80x512 .bf16 at v
      show pv512 (F := Ideal) s m v (ix2 e c) = ∑ r : Fin 512, v (ix3 0 e r) * Ideal.exp2 (s (ix2 r c) - m (ix2 0 c))
      pointwise [pv512]
      rfl
  | 2, s, m, v, e, c => by
      change FVec Ideal S768x256 .f32 at s; change FVec Ideal S1x80x768 .bf16 at v
      show pv768 (F := Ideal) s m v (ix2 e c) = ∑ r : Fin 768, v (ix3 0 e r) * Ideal.exp2 (s (ix2 r c) - m (ix2 0 c))
      pointwise [pv768]
      rfl
  | 3, s, m, v, e, c => by
      change FVec Ideal S1024x256 .f32 at s; change FVec Ideal S1x80x1024 .bf16 at v
      show pv1024 (F := Ideal) s m v (ix2 e c) = ∑ r : Fin 1024, v (ix3 0 e r) * Ideal.exp2 (s (ix2 r c) - m (ix2 0 c))
      pointwise [pv1024]
      rfl

/-! ## What is stored back -/

theorem newMax_at (sb : Fin 4) (s : FVec Ideal ⟨2, ![nk sb, 256]⟩ .f32) (m : FVec Ideal S1x1x256 .f32) (c : Fin 256) :
    newMax (F := Ideal) sb s m (ix2 0 c) = max (m (ix3 0 0 c)) ((univ : Finset (Fin (nk sb))).sup fun r => s (ix2 r c)) := by
  unfold newMax
  pointwise
  rw [rowMax_at]

theorem mNext_at (sb : Fin 4) (s : FVec Ideal ⟨2, ![nk sb, 256]⟩ .f32) (m : FVec Ideal S1x1x256 .f32) (c : Fin 256) :
    (mNext (F := Ideal) sb s m : FVec Ideal S1x1x256 .f32) (ix3 0 0 c) = max (m (ix3 0 0 c)) ((univ : Finset (Fin (nk sb))).sup fun r => s (ix2 r c)) := by
  unfold mNext
  pointwise
  exact newMax_at sb s m c

theorem aNext_at (sb : Fin 4) (s : FVec Ideal ⟨2, ![nk sb, 256]⟩ .f32) (v : FVec Ideal ⟨3, ![1, 80, nk sb]⟩ .bf16)
    (m : FVec Ideal S1x1x256 .f32) (a : FVec Ideal S1x80x256 .f32) (e : Fin 80) (c : Fin 256) :
    (aNext (F := Ideal) sb s v m a : FVec Ideal S1x80x256 .f32) (ix3 0 e c)
      = Ideal.exp2 (m (ix3 0 0 c) - newMax (F := Ideal) sb s m (ix2 0 c)) * a (ix3 0 e c)
        + ∑ r : Fin (nk sb), v (ix3 0 e r) * Ideal.exp2 (s (ix2 r c) - newMax (F := Ideal) sb s m (ix2 0 c)) := by
  unfold aNext
  pointwise
  rw [pv_at]
  rfl

end Cert.KernelIdeal.Fox
-- ==== Proof.Rows.lean ====
/- A row of eight chain steps over the extended reals: the scores it leaves and the running softmax of each query. -/
module

public import proofs.«01_k».proof.Proof.Chain

@[expose] public section

set_option maxRecDepth 16384

noncomputable section

namespace Cert.KernelIdeal.Fox

open Idealize.ShloMosaic Idealize.ShloMosaic.TcCoe Idealize.SL.Sem Facts₀ Facts Finset
open Cert.Softmax

/-! ## Boxes at an index -/

section Boxes

variable {s : Shape} {e : EltTy} {z : Fin s.rank → ℕ}

/-- A read of a box. -/
theorem win_eq (X : Vec Ideal s e) (a : At s z) (j : (⟨s.rank, z⟩ : Shape).Idx) (i : s.Idx)
    (h : ∀ d, (i d).val = a.off d + (j d).val) : win X a j = X i := by
  unfold win VecWindow.window
  refine congrArg X (funext fun d => Fin.ext ?_)
  have e : ((Rect.unit a.off z a.inb).emb j d).val = a.off d + 1 * (j d).val := rfl
  rw [h d, e, Nat.one_mul]

/-- Inside a box just written. -/
theorem into_in (X : Vec Ideal s e) (a : At s z) (w : Vec Ideal ⟨s.rank, z⟩ e) (j : (⟨s.rank, z⟩ : Shape).Idx) (i : s.Idx)
    (h : ∀ d, (i d).val = a.off d + (j d).val) : into X a w i = w j := by
  have hin : ∀ d, a.off d ≤ (i d).val ∧ (i d).val < a.off d + z d := fun d => by
    have := (j d).isLt
    have hs : (⟨s.rank, z⟩ : Shape).size d = z d := rfl
    have := h d
    omega
  unfold into VecWindow.put
  rw [dif_pos hin]
  refine congrArg w (funext fun d => Fin.ext ?_)
  show (i d).val - a.off d = (j d).val
  have := h d
  omega

/-- Outside a box just written. -/
theorem into_out (X : Vec Ideal s e) (a : At s z) (w : Vec Ideal ⟨s.rank, z⟩ e) (i : s.Idx) (d : Fin s.rank)
    (h : (i d).val < a.off d ∨ a.off d + z d ≤ (i d).val) : into X a w i = X i := by
  unfold into VecWindow.put
  rw [dif_neg fun hin => by have := hin d; omega]

end Boxes

/-- The column of query `c` of sub-block `sb`. -/
def col (sb : Fin 4) (c : Fin 256) : Fin 1024 := ⟨256 * sb.val + c.val, by omega⟩

/-- The score buffer's layer of a chain. -/
def chn (hh : Fin 2) (sb : Fin 4) : Fin 8 := ⟨4 * hh.val + sb.val, by omega⟩

theorem nk_le (c : Fin 4) : nk c ≤ 1024 := by have := c.isLt; unfold nk; omega

/-- A row of a score buffer, among the first `nk c`. -/
def row {c : Fin 4} (r : Fin (nk c)) : Fin 1024 := ⟨r.val, lt_of_lt_of_le r.isLt (nk_le c)⟩

theorem ix3_at {a b c : ℕ} (x : Fin a) (y : Fin b) (w : Fin c) (P : Fin 3 → ℕ → Prop) (h0 : P 0 x.val) (h1 : P 1 y.val) (h2 : P 2 w.val) :
    ∀ d : Fin 3, P d ((ix3 x y w : (⟨3, ![a, b, c]⟩ : Shape).Idx) d).val
  | 0 => h0
  | 1 => h1
  | 2 => h2

/-- What eight steps in a row leave, seen by one of them: the others do not touch it. -/
theorem fold8_obs {σ β : Type} (g : Fin 2 → Fin 4 → σ → σ) (o : Fin 2 → Fin 4 → σ → β) (u : Fin 2 → Fin 4 → β → β)
    (hne : ∀ hh sb hh' sb' s, ¬ (hh' = hh ∧ sb' = sb) → o hh sb (g hh' sb' s) = o hh sb s)
    (heq : ∀ hh sb s, o hh sb (g hh sb s) = u hh sb (o hh sb s)) (hh : Fin 2) (sb : Fin 4) (s : σ) :
    o hh sb (fold8 g s) = u hh sb (o hh sb s) := by
  unfold fold8
  match hh, sb with
  | 0, 0 => rw [hne, hne, hne, hne, hne, hne, hne, heq] <;> decide
  | 0, 1 => rw [hne, hne, hne, hne, hne, hne, heq, hne] <;> decide
  | 0, 2 => rw [hne, hne, hne, hne, hne, heq, hne, hne] <;> decide
  | 0, 3 => rw [hne, hne, hne, hne, heq, hne, hne, hne] <;> decide
  | 1, 0 => rw [hne, hne, hne, heq, hne, hne, hne, hne] <;> decide
  | 1, 1 => rw [hne, hne, heq, hne, hne, hne, hne, hne] <;> decide
  | 1, 2 => rw [hne, heq, hne, hne, hne, hne, hne, hne] <;> decide
  | 1, 3 => rw [heq, hne, hne, hne, hne, hne, hne, hne] <;> decide

/-! ## The scores a row leaves -/

/-- A score buffer holds, of each chain, the scores of the keys from `base` on, as many as `w` says. -/
def Scored (B : FVec Ideal S8x1024x256 .f32) (σ : Fin 2 → Fin 1024 → ℕ → EReal) (base : ℕ) (w : Fin 4 → Fin 4) : Prop :=
  ∀ hh sb (r : Fin (nk (w sb))) (c : Fin 256), B (ix3 (chn hh sb) (row r) c) = σ hh (col sb c) (base + r.val)

/-- The score of a query and a key. -/
def raw (Q : FVec Ideal S2x128x1024 .bf16) (kf : Fin 2 → ℕ → Fin 128 → EReal) (hh : Fin 2) (q : Fin 1024) (k : ℕ) : EReal :=
  ∑ d : Fin 128, kf hh k d * Q (ix3 hh d q)

section

variable (K : FVec Ideal S2x16384x128 .bf16) (Q : FVec Ideal S2x128x1024 .bf16) (cn : Fin 4 → Fin 4)
  (ak : (hh : Fin 2) → (sb : Fin 4) → At S2x16384x128 ![1, nk (cn sb), 128]) (N : FVec Ideal S8x1024x256 .f32)

theorem headF_in (hh : Fin 2) (sb : Fin 4) (r : Fin (nk (cn sb))) (c : Fin 256) :
    (headF (F := Ideal) K Q hh sb (cn sb) (ak hh sb) N : FVec Ideal S8x1024x256 .f32) (ix3 (chn hh sb) (row r) c)
      = ∑ d : Fin 128, (win (F := Ideal) (e := .bf16) K (ak hh sb) : FVec Ideal ⟨3, ![1, nk (cn sb), 128]⟩ .bf16) (ix3 0 r d) * Q (ix3 hh d (col sb c)) := by
  unfold headF
  refine (into_in _ _ _ (ix3 0 r c : (⟨3, ![1, nk (cn sb), 256]⟩ : Shape).Idx) _ ?_).trans ?_
  · refine ix3_at _ _ _ (fun d n => n = (atS hh sb (cn sb)).off d + _) ?_ ?_ ?_
    · show 4 * hh.val + sb.val = 4 * hh.val + sb.val + 0; omega
    · show r.val = 0 + r.val; omega
    · show c.val = 0 + c.val; omega
  · refine (score_at (cn sb) _ _ r c).trans (sum_congr rfl fun d _ => ?_)
    congr 1
    refine win_eq _ _ _ _ (ix3_at _ _ _ (fun a n => n = (atQ hh sb).off a + _) ?_ ?_ ?_)
    · show hh.val = hh.val + 0; omega
    · show d.val = 0 + d.val; omega
    · show 256 * sb.val + c.val = 256 * sb.val + c.val; rfl

theorem headF_out (hh : Fin 2) (sb : Fin 4) (hh' : Fin 2) (sb' : Fin 4) (h : ¬ (hh' = hh ∧ sb' = sb)) (r : Fin 1024) (c : Fin 256) :
    (headF (F := Ideal) K Q hh' sb' (cn sb') (ak hh' sb') N : FVec Ideal S8x1024x256 .f32) (ix3 (chn hh sb) r c) = N (ix3 (chn hh sb) r c) := by
  unfold headF
  refine into_out _ _ _ _ 0 ?_
  show 4 * hh.val + sb.val < 4 * hh'.val + sb'.val ∨ 4 * hh'.val + sb'.val + 1 ≤ 4 * hh.val + sb.val
  have h1 : ¬ (hh'.val = hh.val ∧ sb'.val = sb.val) := fun e => h ⟨Fin.ext e.1, Fin.ext e.2⟩
  omega

/-- The scores after a row. -/
theorem rowN_scored (kf : Fin 2 → ℕ → Fin 128 → EReal) (base : ℕ)
    (hK : ∀ hh sb (r : Fin (nk (cn sb))) (d : Fin 128),
      (win (F := Ideal) (e := .bf16) K (ak hh sb) : FVec Ideal ⟨3, ![1, nk (cn sb), 128]⟩ .bf16) (ix3 0 r d) = kf hh (base + r.val) d) :
    Scored (rowN (F := Ideal) K Q cn ak N) (raw Q kf) base cn := by
  intro hh sb r c
  have key := fold8_obs (fun hh sb => headF (F := Ideal) K Q hh sb (cn sb) (ak hh sb))
    (fun hh sb (N : FVec Ideal S8x1024x256 .f32) (r : Fin 1024) (c : Fin 256) => if r.val < nk (cn sb) then N (ix3 (chn hh sb) r c) else 0)
    (fun hh sb _ r c => if r.val < nk (cn sb) then raw Q kf hh (col sb c) (base + r.val) else 0)
    (by
      intro hh sb hh' sb' s h
      funext r c
      show (if _ then _ else _) = (if _ then _ else _)
      rw [headF_out K Q cn ak s hh sb hh' sb' h])
    (by
      intro hh sb s
      funext r c
      show (if _ then _ else _) = (if _ then _ else _)
      by_cases hr : r.val < nk (cn sb)
      · rw [if_pos hr, if_pos hr]
        refine (headF_in K Q cn ak s hh sb ⟨r.val, hr⟩ c).trans ?_
        unfold raw
        exact sum_congr rfl fun d _ => by rw [hK]
      · rw [if_neg hr, if_neg hr])
    hh sb N
  have := congrFun (congrFun key (row r)) c
  exact (if_pos (c := (row r).val < nk (cn sb)) r.isLt).symm.trans (this.trans (if_pos (c := (row r).val < nk (cn sb)) r.isLt))

end

/-! ## The running softmax after a row -/

/-- Of every query, the running maximum and sums are those of its first `n` keys. -/
def Online (x : MA Ideal) (σ : Fin 2 → Fin 1024 → ℕ → EReal) (v : Fin 2 → Fin 80 → ℕ → EReal) (n : Fin 4 → ℕ) : Prop :=
  ∀ hh sb (c : Fin 256), (x.1 : FVec Ideal S2x1x1024 .f32) (ix3 hh 0 (col sb c)) = top (σ hh (col sb c)) (n sb)
    ∧ ∀ e : Fin 80, (x.2 : FVec Ideal S2x80x1024 .f32) (ix3 hh e (col sb c)) = wsum (σ hh (col sb c)) (v hh e) (n sb)

/-- One query's running pair, after `w` more keys. -/
def upd (w : ℕ) (s : ℕ → EReal) (v : Fin 80 → ℕ → EReal) (p : EReal × (Fin 80 → EReal)) : EReal × (Fin 80 → EReal) :=
  let m := max p.1 ((univ : Finset (Fin w)).sup fun r => s r.val)
  (m, fun e => Ideal.exp2 (p.1 - m) * p.2 e + ∑ r : Fin w, v e r.val * Ideal.exp2 (s r.val - m))

/-- One query's running pair. -/
def pairAt (x : MA Ideal) (hh : Fin 2) (q : Fin 1024) : EReal × (Fin 80 → EReal) :=
  ((x.1 : FVec Ideal S2x1x1024 .f32) (ix3 hh 0 q), fun e => (x.2 : FVec Ideal S2x80x1024 .f32) (ix3 hh e q))

section

variable (C : FVec Ideal S8x1024x256 .f32) (V : FVec Ideal S2x80x16384 .bf16) (cc : Fin 4 → Fin 4)
  (av : (hh : Fin 2) → (sb : Fin 4) → At S2x80x16384 ![1, 80, nk (cc sb)])
  (pre : (sb : Fin 4) → Vec Ideal ⟨2, ![nk (cc sb), 256]⟩ .f32 → Vec Ideal ⟨2, ![nk (cc sb), 256]⟩ .f32)

theorem flat_at (S : FVec Ideal S1x1024x256 .f32) (r : Fin 1024) (c : Fin 256) :
    (flat (F := Ideal) S : FVec Ideal S1024x256 .f32) (ix2 r c) = S (ix3 0 r c) := by
  show shapeCast S1024x256 S shapeCasts_S1x1024x256_S1024x256 (ix2 r c) = _
  pointwise

/-- A chain's current scores. -/
theorem cur_at (hh : Fin 2) (sb : Fin 4) (k : Fin 4) (r : Fin (nk k)) (c : Fin 256) :
    (cur (F := Ideal) C hh sb k : FVec Ideal ⟨2, ![nk k, 256]⟩ .f32) (ix2 r c) = C (ix3 (chn hh sb) (row r) c) := by
  unfold cur
  refine (win_eq _ _ _ (ix2 (row r) c : S1024x256.Idx) fun d => ?_).trans ?_
  · match d with
    | 0 => show r.val = 0 + r.val; omega
    | 1 => show c.val = 0 + c.val; omega
  · refine (flat_at _ (row r) c).trans (win_eq _ _ _ _ (ix3_at _ _ _ (fun d n => n = (atS hh sb 3).off d + _) ?_ ?_ ?_))
    · show 4 * hh.val + sb.val = 4 * hh.val + sb.val + 0; omega
    · show r.val = 0 + r.val; omega
    · show c.val = 0 + c.val; omega

theorem tailF_in (x : MA Ideal) (hh : Fin 2) (sb : Fin 4) (c : Fin 256) (s : ℕ → EReal) (v : Fin 80 → ℕ → EReal)
    (hs : ∀ r : Fin (nk (cc sb)), (pre sb (cur (F := Ideal) C hh sb (cc sb)) : FVec Ideal ⟨2, ![nk (cc sb), 256]⟩ .f32) (ix2 r c) = s r.val)
    (hv : ∀ (e : Fin 80) (r : Fin (nk (cc sb))), (win (F := Ideal) (e := .bf16) V (av hh sb) : FVec Ideal ⟨3, ![1, 80, nk (cc sb)]⟩ .bf16) (ix3 0 e r) = v e r.val) :
    pairAt (tailF (F := Ideal) C V hh sb (cc sb) (av hh sb) (pre sb) x) hh (col sb c) = upd (nk (cc sb)) s v (pairAt x hh (col sb c)) := by
  have hm : (win (F := Ideal) x.1 (atM hh sb) : FVec Ideal S1x1x256 .f32) (ix3 0 0 c) = (x.1 : FVec Ideal S2x1x1024 .f32) (ix3 hh 0 (col sb c)) := by
    refine win_eq _ _ _ _ (ix3_at _ _ _ (fun d n => n = (atM hh sb).off d + _) ?_ ?_ ?_)
    · show hh.val = hh.val + 0; omega
    · rfl
    · rfl
  have hn : newMax (F := Ideal) (cc sb) (pre sb (cur (F := Ideal) C hh sb (cc sb))) (win (F := Ideal) x.1 (atM hh sb)) (ix2 0 c)
      = max ((x.1 : FVec Ideal S2x1x1024 .f32) (ix3 hh 0 (col sb c))) ((univ : Finset (Fin (nk (cc sb)))).sup fun r => s r.val) := by
    refine (newMax_at (cc sb) _ _ c).trans ?_
    rw [hm]
    congr 1
    exact Finset.sup_congr rfl fun r _ => hs r
  unfold tailF pairAt upd
  refine Prod.ext ?_ (funext fun e => ?_)
  · refine (into_in _ _ _ (ix3 0 0 c : S1x1x256.Idx) _ (ix3_at _ _ _ (fun d n => n = (atM hh sb).off d + _) ?_ ?_ ?_)).trans ?_
    · show hh.val = hh.val + 0; omega
    · rfl
    · rfl
    · refine (mNext_at (cc sb) _ _ c).trans ?_
      exact (newMax_at (cc sb) _ _ c).symm.trans hn
  · refine (into_in _ _ _ (ix3 0 e c : S1x80x256.Idx) _ (ix3_at _ _ _ (fun d n => n = (atA hh sb).off d + _) ?_ ?_ ?_)).trans ?_
    · show hh.val = hh.val + 0; omega
    · show e.val = 0 + e.val; omega
    · rfl
    · refine (aNext_at (cc sb) _ _ _ _ e c).trans ?_
      rw [hn, hm]
      have ha : (win (F := Ideal) x.2 (atA hh sb) : FVec Ideal S1x80x256 .f32) (ix3 0 e c) = (x.2 : FVec Ideal S2x80x1024 .f32) (ix3 hh e (col sb c)) := by
        refine win_eq _ _ _ _ (ix3_at _ _ _ (fun d n => n = (atA hh sb).off d + _) ?_ ?_ ?_)
        · show hh.val = hh.val + 0; omega
        · show e.val = 0 + e.val; omega
        · rfl
      rw [ha]
      congr 1
      exact sum_congr rfl fun r _ => by rw [hs, hv]

theorem tailF_out (x : MA Ideal) (hh : Fin 2) (sb : Fin 4) (hh' : Fin 2) (sb' : Fin 4) (h : ¬ (hh' = hh ∧ sb' = sb)) (c : Fin 256) :
    pairAt (tailF (F := Ideal) C V hh' sb' (cc sb') (av hh' sb') (pre sb') x) hh (col sb c) = pairAt x hh (col sb c) := by
  have hq : hh'.val ≠ hh.val ∨ sb'.val ≠ sb.val := by
    by_contra hc; push Not at hc; exact h ⟨Fin.ext hc.1, Fin.ext hc.2⟩
  have hc : (col sb c).val = 256 * sb.val + c.val := rfl
  unfold tailF pairAt
  refine Prod.ext ?_ (funext fun e => ?_)
  · rcases hq with hq | hq
    · refine into_out _ _ _ _ 0 ?_
      show hh.val < hh'.val ∨ hh'.val + 1 ≤ hh.val; omega
    · refine into_out _ _ _ _ 2 ?_
      show (col sb c).val < 256 * sb'.val ∨ 256 * sb'.val + 256 ≤ (col sb c).val; omega
  · rcases hq with hq | hq
    · refine into_out _ _ _ _ 0 ?_
      show hh.val < hh'.val ∨ hh'.val + 1 ≤ hh.val; omega
    · refine into_out _ _ _ _ 2 ?_
      show (col sb c).val < 256 * sb'.val ∨ 256 * sb'.val + 256 ≤ (col sb c).val; omega

/-- The running softmax after a row: from `n` keys to as many more as each chain takes. -/
theorem rowX_online (x : MA Ideal) (σ : Fin 2 → Fin 1024 → ℕ → EReal) (v : Fin 2 → Fin 80 → ℕ → EReal) (n : ℕ) (hσ : ∀ hh q r, σ hh q r ≠ ⊤)
    (hx : Online x σ v fun _ => n)
    (hs : ∀ hh sb (c : Fin 256) (r : Fin (nk (cc sb))),
      (pre sb (cur (F := Ideal) C hh sb (cc sb)) : FVec Ideal ⟨2, ![nk (cc sb), 256]⟩ .f32) (ix2 r c) = σ hh (col sb c) (n + r.val))
    (hv : ∀ hh sb (e : Fin 80) (r : Fin (nk (cc sb))),
      (win (F := Ideal) (e := .bf16) V (av hh sb) : FVec Ideal ⟨3, ![1, 80, nk (cc sb)]⟩ .bf16) (ix3 0 e r) = v hh e (n + r.val)) :
    Online (rowX (F := Ideal) C V cc av pre x) σ v fun sb => n + nk (cc sb) := by
  have key := fold8_obs (fun hh sb => tailF (F := Ideal) C V hh sb (cc sb) (av hh sb) (pre sb))
    (fun hh sb x (c : Fin 256) => pairAt x hh (col sb c))
    (fun hh sb p c => upd (nk (cc sb)) (fun r => σ hh (col sb c) (n + r)) (fun e r => v hh e (n + r)) (p c))
    (by
      intro hh sb hh' sb' s h
      funext c
      exact tailF_out C V cc av pre s hh sb hh' sb' h c)
    (by
      intro hh sb s
      funext c
      exact tailF_in C V cc av pre s hh sb c _ _ (fun r => hs hh sb c r) (fun e r => hv hh sb e r))
  intro hh sb c
  have e := congrFun (key hh sb x) c
  have h1 := (hx hh sb c).1
  have h2 := (hx hh sb c).2
  have e0 : pairAt x hh (col sb c) = (top (σ hh (col sb c)) n, fun e => wsum (σ hh (col sb c)) (v hh e) n) := Prod.ext h1 (funext h2)
  have em : top (σ hh (col sb c)) (n + nk (cc sb)) = max (top (σ hh (col sb c)) n) ((univ : Finset (Fin (nk (cc sb)))).sup fun r => σ hh (col sb c) (n + r.val)) :=
    top_add _ n _
  simp only [e0] at e
  unfold upd at e
  simp only [← em] at e
  refine ⟨congrArg Prod.fst e, fun i => (congrFun (congrArg Prod.snd e) i).trans ?_⟩
  exact step _ _ (hσ hh (col sb c)) n (nk (cc sb))

end

end Cert.KernelIdeal.Fox
-- ==== Proof.Body.lean ====
/- The body over the extended reals: the caches grow by a block, every query of the block gets its running softmax over
   all the keys it sees, and the scores of the next block's queries against the first keys are left behind. -/
module

public import proofs.«01_k».proof.Proof.Rows

@[expose] public section

set_option maxRecDepth 16384

noncomputable section

namespace Cert.KernelIdeal.Fox

open Idealize.ShloMosaic Idealize.ShloMosaic.TcCoe Idealize.SL.Sem Facts₀ Facts Finset
open Cert.Softmax

/-! ## The guards, the loops and the places in closed form -/

theorem cond1_iff : ∀ i : grid0.Coords, k0_cond1 i = 1#1 ↔ (i 1).val = 0 := by decide +kernel
theorem cond2_iff : ∀ i : grid0.Coords, k0_cond2 i = 1#1 ↔ (i 1).val % 2 = 0 := by decide +kernel
theorem cond3_iff : ∀ i : grid0.Coords, k0_cond3 i = 1#1 ↔ (i 1).val % 2 = 1 := by decide +kernel
theorem trips1 : ∀ i : grid0.Coords, (k0_t1_loop i).trips = (i 1).val / 2 := by decide +kernel
theorem trips3 : ∀ i : grid0.Coords, (k0_t3_loop i).trips = (i 1).val / 2 := by decide +kernel
theorem coord_lt : ∀ i : grid0.Coords, (i 1).val < 16 := by decide +kernel

theorem off3 : ∀ (i : grid0.Coords) (t : Fin (k0_t1_loop i).trips), k0_off3 i t = ![0, 1024 * (2 * t.val + 1), 0] := by decide +kernel
theorem off4 : ∀ (i : grid0.Coords) (t : Fin (k0_t1_loop i).trips), k0_off4 i t = ![0, 0, 1024 * (2 * t.val)] := by decide +kernel
theorem off5 : ∀ (i : grid0.Coords) (t : Fin (k0_t1_loop i).trips), k0_off5 i t = ![1, 1024 * (2 * t.val + 1), 0] := by decide +kernel
theorem off6 : ∀ (i : grid0.Coords) (t : Fin (k0_t1_loop i).trips), k0_off6 i t = ![1, 0, 1024 * (2 * t.val)] := by decide +kernel
theorem off7 : ∀ (i : grid0.Coords) (t : Fin (k0_t1_loop i).trips), k0_off7 i t = ![0, 1024 * (2 * t.val + 1 + 1), 0] := by decide +kernel
theorem off8 : ∀ (i : grid0.Coords) (t : Fin (k0_t1_loop i).trips), k0_off8 i t = ![0, 0, 1024 * (2 * t.val + 1)] := by decide +kernel
theorem off9 : ∀ (i : grid0.Coords) (t : Fin (k0_t1_loop i).trips), k0_off9 i t = ![1, 1024 * (2 * t.val + 1 + 1), 0] := by decide +kernel
theorem off10 : ∀ (i : grid0.Coords) (t : Fin (k0_t1_loop i).trips), k0_off10 i t = ![1, 0, 1024 * (2 * t.val + 1)] := by decide +kernel
theorem off27 : ∀ (i : grid0.Coords) (t : Fin (k0_t3_loop i).trips), k0_off27 i t = ![0, 1024 * (2 * t.val + 1), 0] := by decide +kernel
theorem off28 : ∀ (i : grid0.Coords) (t : Fin (k0_t3_loop i).trips), k0_off28 i t = ![0, 0, 1024 * (2 * t.val)] := by decide +kernel
theorem off29 : ∀ (i : grid0.Coords) (t : Fin (k0_t3_loop i).trips), k0_off29 i t = ![1, 1024 * (2 * t.val + 1), 0] := by decide +kernel
theorem off30 : ∀ (i : grid0.Coords) (t : Fin (k0_t3_loop i).trips), k0_off30 i t = ![1, 0, 1024 * (2 * t.val)] := by decide +kernel
theorem off31 : ∀ (i : grid0.Coords) (t : Fin (k0_t3_loop i).trips), k0_off31 i t = ![0, 1024 * (2 * t.val + 1 + 1), 0] := by decide +kernel
theorem off32 : ∀ (i : grid0.Coords) (t : Fin (k0_t3_loop i).trips), k0_off32 i t = ![0, 0, 1024 * (2 * t.val + 1)] := by decide +kernel
theorem off33 : ∀ (i : grid0.Coords) (t : Fin (k0_t3_loop i).trips), k0_off33 i t = ![1, 1024 * (2 * t.val + 1 + 1), 0] := by decide +kernel
theorem off34 : ∀ (i : grid0.Coords) (t : Fin (k0_t3_loop i).trips), k0_off34 i t = ![1, 0, 1024 * (2 * t.val + 1)] := by decide +kernel
theorem off44 : ∀ i : grid0.Coords, k0_cond3 i = 1#1 → k0_off44 i = ![0, 0, 1024 * ((i 1).val - 1)] := by decide +kernel
theorem off49 : ∀ i : grid0.Coords, k0_cond3 i = 1#1 → k0_off49 i = ![1, 0, 1024 * ((i 1).val - 1)] := by decide +kernel

theorem pick_eq {a b : Fin 3 → ℕ} {x y : ℕ} (ha : a = ![0, x, y]) (hb : b = ![1, x, y]) (hh : Fin 2) : pick a b hh = ![hh.val, x, y] := by
  fin_cases hh
  · exact ha
  · exact hb

theorem lastV2_off (i : grid0.Coords) (h : k0_cond2 i = 1#1) : (hh : Fin 2) → (sb : Fin 4) → (lastV2 i h hh sb).off = ![hh.val, 0, 1024 * (i 1).val]
  | 0, 0 => Gen.k0_off19_eq i
  | 0, 1 => Gen.k0_off20_eq i
  | 0, 2 => Gen.k0_off21_eq i
  | 0, 3 => Gen.k0_off22_eq i
  | 1, 0 => Gen.k0_off23_eq i
  | 1, 1 => Gen.k0_off24_eq i
  | 1, 2 => Gen.k0_off25_eq i
  | 1, 3 => Gen.k0_off26_eq i

theorem lastV3_off (i : grid0.Coords) (h : k0_cond3 i = 1#1) : (hh : Fin 2) → (sb : Fin 4) → (lastV3 i h hh sb).off = ![hh.val, 0, 1024 * (i 1).val]
  | 0, 0 => Gen.k0_off53_eq i
  | 0, 1 => Gen.k0_off54_eq i
  | 0, 2 => Gen.k0_off55_eq i
  | 0, 3 => Gen.k0_off56_eq i
  | 1, 0 => Gen.k0_off57_eq i
  | 1, 1 => Gen.k0_off58_eq i
  | 1, 2 => Gen.k0_off59_eq i
  | 1, 3 => Gen.k0_off60_eq i

theorem diagK_off (i : grid0.Coords) (h : k0_cond3 i = 1#1) : (hh : Fin 2) → (sb : Fin 4) → (diagK i h hh sb).off = ![hh.val, 1024 * (i 1).val, 0]
  | 0, 0 => Gen.k0_off43_eq i
  | 0, 1 => Gen.k0_off45_eq i
  | 0, 2 => Gen.k0_off46_eq i
  | 0, 3 => Gen.k0_off47_eq i
  | 1, 0 => Gen.k0_off48_eq i
  | 1, 1 => Gen.k0_off50_eq i
  | 1, 2 => Gen.k0_off51_eq i
  | 1, 3 => Gen.k0_off52_eq i

/-! ## The caches -/

/-- The cache of keys holds the first `n`. -/
def CachedK (K : FVec Ideal S2x16384x128 .bf16) (kf : Fin 2 → ℕ → Fin 128 → EReal) (n : ℕ) : Prop :=
  ∀ hh (k : Fin 16384) d, k.val < n → K (ix3 hh k d) = kf hh k.val d

/-- The cache of values holds the first `n`. -/
def CachedV (V : FVec Ideal S2x80x16384 .bf16) (vf : Fin 2 → Fin 80 → ℕ → EReal) (n : ℕ) : Prop :=
  ∀ hh e (k : Fin 16384), k.val < n → V (ix3 hh e k) = vf hh e k.val

theorem winK_at {K : FVec Ideal S2x16384x128 .bf16} {kf : Fin 2 → ℕ → Fin 128 → EReal} {n : ℕ} (hK : CachedK K kf n) {c : Fin 4}
    (a : At S2x16384x128 ![1, nk c, 128]) (hh : Fin 2) (base : ℕ) (ha : a.off = ![hh.val, base, 0]) (hn : base + nk c ≤ n) (hn' : n ≤ 16384)
    (r : Fin (nk c)) (d : Fin 128) :
    (win (F := Ideal) (e := .bf16) K a : FVec Ideal ⟨3, ![1, nk c, 128]⟩ .bf16) (ix3 0 r d) = kf hh (base + r.val) d := by
  have hr := r.isLt
  refine (win_eq _ _ _ (ix3 hh ⟨base + r.val, by omega⟩ d) (ix3_at _ _ _ (fun d n => n = a.off d + _) ?_ ?_ ?_)).trans
    (hK hh ⟨base + r.val, by omega⟩ d (by show base + r.val < n; omega))
  · rw [ha]; show hh.val = hh.val + 0; omega
  · rw [ha]; rfl
  · rw [ha]; show d.val = 0 + d.val; omega

theorem winV_at {V : FVec Ideal S2x80x16384 .bf16} {vf : Fin 2 → Fin 80 → ℕ → EReal} {n : ℕ} (hV : CachedV V vf n) {c : Fin 4}
    (a : At S2x80x16384 ![1, 80, nk c]) (hh : Fin 2) (base : ℕ) (ha : a.off = ![hh.val, 0, base]) (hn : base + nk c ≤ n) (hn' : n ≤ 16384)
    (e : Fin 80) (r : Fin (nk c)) :
    (win (F := Ideal) (e := .bf16) V a : FVec Ideal ⟨3, ![1, 80, nk c]⟩ .bf16) (ix3 0 e r) = vf hh e (base + r.val) := by
  have hr := r.isLt
  refine (win_eq _ _ _ (ix3 hh e ⟨base + r.val, by omega⟩) (ix3_at _ _ _ (fun d n => n = a.off d + _) ?_ ?_ ?_)).trans
    (hV hh e ⟨base + r.val, by omega⟩ (by show base + r.val < n; omega))
  · rw [ha]; show hh.val = hh.val + 0; omega
  · rw [ha]; show e.val = 0 + e.val; omega
  · rw [ha]; rfl

section Body

variable (kf : Fin 2 → ℕ → Fin 128 → EReal) (vf : Fin 2 → Fin 80 → ℕ → EReal)

/-- The scores of block `n` of queries, `⊥` where the key comes after the query. -/
def seen (Q : FVec Ideal S2x128x1024 .bf16) (n : ℕ) (hh : Fin 2) (q : Fin 1024) (k : ℕ) : EReal :=
  if k ≤ 1024 * n + q.val then raw Q kf hh q k else ⊥

variable {kf vf} {Q QN : FVec Ideal S2x128x1024 .bf16} {n : ℕ} (hn : n < 16) (hfin : ∀ hh q k, raw Q kf hh q k ≠ ⊤)
  {K : FVec Ideal S2x16384x128 .bf16} {V : FVec Ideal S2x80x16384 .bf16} {C N : FVec Ideal S8x1024x256 .f32} {x : MA Ideal}
  (hK : CachedK K kf (1024 * (n + 1))) (hV : CachedV V vf (1024 * (n + 1)))

include hfin in
theorem seen_ne_top (hh : Fin 2) (q : Fin 1024) (k : ℕ) : seen kf Q n hh q k ≠ ⊤ := by
  unfold seen; split
  · exact hfin hh q k
  · exact bot_ne_top

theorem nk3 : nk 3 = 1024 := rfl

include hn hK in
/-- New scores of a block of keys. -/
theorem scored_row (j : ℕ) (cn : Fin 4 → Fin 4) (hj : j ≤ n) (ak : (hh : Fin 2) → (sb : Fin 4) → At S2x16384x128 ![1, nk (cn sb), 128])
    (hak : ∀ hh sb, (ak hh sb).off = ![hh.val, 1024 * j, 0]) : Scored (rowN (F := Ideal) K Q cn ak N) (raw Q kf) (1024 * j) cn :=
  rowN_scored K Q cn ak N kf (1024 * j) fun hh sb r d => winK_at hK (ak hh sb) hh (1024 * j) (hak hh sb) (by have := nk_le (cn sb); omega) (by omega) r d

include hn hfin hV in
/-- A block of keys before the diagonal, finished. -/
theorem online_row (j : ℕ) (hj : j + 1 ≤ n) (hC : Scored C (raw Q kf) (1024 * j) fun _ => 3) (hx : Online x (seen kf Q n) vf fun _ => 1024 * j)
    (av : (hh : Fin 2) → (sb : Fin 4) → At S2x80x16384 ![1, 80, nk 3]) (hav : ∀ hh sb, (av hh sb).off = ![hh.val, 0, 1024 * j]) :
    Online (rowX (F := Ideal) C V (fun _ => 3) av (fun _ => id) x) (seen kf Q n) vf fun _ => 1024 * (j + 1) := by
  have := rowX_online C V (fun _ => 3) av (fun _ => id) x (seen kf Q n) vf (1024 * j) (seen_ne_top hfin) hx
    (fun hh sb c r => (cur_at C hh sb 3 r c).trans ((hC hh sb r c).trans (by
      have hr : r.val < 1024 := r.isLt
      unfold seen; rw [if_pos (by omega)])))
    (fun hh sb e r => winV_at hV (av hh sb) hh (1024 * j) (hav hh sb) (by rw [nk3]; omega) (by omega) e r)
  exact this

include hn hfin hV in
/-- The diagonal block, finished as far as each sub-block of queries sees it. -/
theorem online_diag (hC : Scored C (raw Q kf) (1024 * n) id) (hx : Online x (seen kf Q n) vf fun _ => 1024 * n)
    (av : (hh : Fin 2) → (sb : Fin 4) → At S2x80x16384 ![1, 80, nk sb]) (hav : ∀ hh sb, (av hh sb).off = ![hh.val, 0, 1024 * n]) :
    Online (rowX (F := Ideal) C V id av masked x) (seen kf Q n) vf fun sb => 1024 * n + nk sb :=
  rowX_online C V id av masked x (seen kf Q n) vf (1024 * n) (seen_ne_top hfin) hx
    (fun hh sb c r => (masked_at sb _ r c).trans (by
      have hq : (col sb c).val = 256 * sb.val + c.val := rfl
      unfold seen
      rw [hq]
      by_cases h : r.val ≤ 256 * sb.val + c.val
      · rw [if_pos h, if_pos (by omega)]
        exact (cur_at C hh sb sb r c).trans (hC hh sb r c)
      · rw [if_neg h, if_neg (by omega)]))
    (fun hh sb e r => winV_at hV (av hh sb) hh (1024 * n) (hav hh sb) (by have := nk_le sb; show 1024 * n + nk sb ≤ _; omega) (by omega) e r)

/-- A score buffer with all the scores of a block has those the diagonal needs. -/
theorem Scored.diag (hC : Scored C (raw Q kf) (1024 * n) fun _ => 3) : Scored C (raw Q kf) (1024 * n) id := fun hh sb r c =>
  hC hh sb ⟨r.val, lt_of_lt_of_le r.isLt (nk_le sb)⟩ c

/-- In the middle of a block: `j` blocks of keys are finished, and block `j` is scored. -/
structure Mid (kf : Fin 2 → ℕ → Fin 128 → EReal) (vf : Fin 2 → Fin 80 → ℕ → EReal) (Q : FVec Ideal S2x128x1024 .bf16) (n : ℕ)
    (s : St Ideal) (C : FVec Ideal S8x1024x256 .f32) (j : ℕ) (w : Fin 4 → Fin 4) : Prop where
  k : CachedK s.kc kf (1024 * (n + 1))
  v : CachedV s.vc vf (1024 * (n + 1))
  sc : Scored C (raw Q kf) (1024 * j) w
  on : Online s.x (seen kf Q n) vf fun _ => 1024 * j

/-- After a block. -/
structure Fin_ (kf : Fin 2 → ℕ → Fin 128 → EReal) (vf : Fin 2 → Fin 80 → ℕ → EReal) (Q QN : FVec Ideal S2x128x1024 .bf16) (n : ℕ)
    (s : St Ideal) (C : FVec Ideal S8x1024x256 .f32) : Prop where
  k : CachedK s.kc kf (1024 * (n + 1))
  v : CachedV s.vc vf (1024 * (n + 1))
  sc : Scored C (raw QN kf) 0 fun _ => 3
  on : Online s.x (seen kf Q n) vf fun sb => 1024 * n + nk sb

theorem atK0_off (hh : Fin 2) : (atK0 hh).off = ![hh.val, 1024 * 0, 0] := rfl

end Body

section Phases

variable {kf : Fin 2 → ℕ → Fin 128 → EReal} {vf : Fin 2 → Fin 80 → ℕ → EReal} {Q QN : FVec Ideal S2x128x1024 .bf16}
  (i : grid0.Coords) (hfin : ∀ hh q k, raw Q kf hh q k ≠ ⊤)

include hfin in
theorem evenTrip_mid (h2 : k0_cond2 i = 1#1) (t : Fin (k0_t1_loop i).trips) (s : St Ideal) (h : Mid kf vf Q (i 1).val s s.sa (2 * t.val) fun _ => 3) :
    Mid kf vf Q (i 1).val (evenTripF (F := Ideal) i h2 Q t s) (evenTripF (F := Ideal) i h2 Q t s).sa (2 * (t.val + 1)) fun _ => 3 := by
  have hn := coord_lt i
  have ht : t.val < (i 1).val / 2 := lt_of_lt_of_eq t.isLt (trips1 i)
  have sb := scored_row (N := s.sb) hn h.k (2 * t.val + 1) (fun _ => 3) (by omega)
    (fun hh _ => atK 3 (pick (k0_off3 i t) (k0_off5 i t) hh) (pick_inb (k0_off3_inb i t h2) (k0_off5_inb i t h2) hh)) (Q := Q)
    (fun hh _ => pick_eq (off3 i t) (off5 i t) hh)
  have on := online_row hn hfin h.v (2 * t.val) (by omega) h.sc h.on
    (fun hh _ => atV 3 (pick (k0_off4 i t) (k0_off6 i t) hh) (pick_inb (k0_off4_inb i t h2) (k0_off6_inb i t h2) hh))
    (fun hh _ => pick_eq (off4 i t) (off6 i t) hh)
  have sa := scored_row (N := s.sa) hn h.k (2 * t.val + 1 + 1) (fun _ => 3) (by omega)
    (fun hh _ => atK 3 (pick (k0_off7 i t) (k0_off9 i t) hh) (pick_inb (k0_off7_inb i t h2) (k0_off9_inb i t h2) hh)) (Q := Q)
    (fun hh _ => pick_eq (off7 i t) (off9 i t) hh)
  have on' := online_row hn hfin h.v (2 * t.val + 1) (by omega) sb on
    (fun hh _ => atV 3 (pick (k0_off8 i t) (k0_off10 i t) hh) (pick_inb (k0_off8_inb i t h2) (k0_off10_inb i t h2) hh))
    (fun hh _ => pick_eq (off8 i t) (off10 i t) hh)
  exact ⟨h.k, h.v, sa, on'⟩

include hfin in
theorem oddTrip_mid (h3 : k0_cond3 i = 1#1) (t : Fin (k0_t3_loop i).trips) (s : St Ideal) (h : Mid kf vf Q (i 1).val s s.sc (2 * t.val) fun _ => 3) :
    Mid kf vf Q (i 1).val (oddTripF (F := Ideal) i h3 Q t s) (oddTripF (F := Ideal) i h3 Q t s).sc (2 * (t.val + 1)) fun _ => 3 := by
  have hn := coord_lt i
  have ht : t.val < (i 1).val / 2 := lt_of_lt_of_eq t.isLt (trips3 i)
  have sb := scored_row (N := s.sb) hn h.k (2 * t.val + 1) (fun _ => 3) (by omega)
    (fun hh _ => atK 3 (pick (k0_off27 i t) (k0_off29 i t) hh) (pick_inb (k0_off27_inb i t h3) (k0_off29_inb i t h3) hh)) (Q := Q)
    (fun hh _ => pick_eq (off27 i t) (off29 i t) hh)
  have on := online_row hn hfin h.v (2 * t.val) (by omega) h.sc h.on
    (fun hh _ => atV 3 (pick (k0_off28 i t) (k0_off30 i t) hh) (pick_inb (k0_off28_inb i t h3) (k0_off30_inb i t h3) hh))
    (fun hh _ => pick_eq (off28 i t) (off30 i t) hh)
  have sc := scored_row (N := s.sc) hn h.k (2 * t.val + 1 + 1) (fun _ => 3) (by omega)
    (fun hh _ => atK 3 (pick (k0_off31 i t) (k0_off33 i t) hh) (pick_inb (k0_off31_inb i t h3) (k0_off33_inb i t h3) hh)) (Q := Q)
    (fun hh _ => pick_eq (off31 i t) (off33 i t) hh)
  have on' := online_row hn hfin h.v (2 * t.val + 1) (by omega) sb on
    (fun hh _ => atV 3 (pick (k0_off32 i t) (k0_off34 i t) hh) (pick_inb (k0_off32_inb i t h3) (k0_off34_inb i t h3) hh))
    (fun hh _ => pick_eq (off32 i t) (off34 i t) hh)
  exact ⟨h.k, h.v, sc, on'⟩

/-- A property every step keeps holds after any number of them. -/
theorem upto_ind {σ : Type} {n : ℕ} (g : Fin n → σ → σ) (s : σ) (J : ℕ → σ → Prop) (h0 : J 0 s) (hs : ∀ t s, J t.val s → J (t.val + 1) (g t s)) :
    ∀ j, j ≤ n → J j (upto n g s j)
  | 0, _ => h0
  | j + 1, h => by rw [upto_succ n g s ⟨j, h⟩]; exact hs ⟨j, h⟩ _ (upto_ind g s J h0 hs j (by omega))

include hfin in
theorem even_fin (h2 : k0_cond2 i = 1#1) (s : St Ideal) (h : Mid kf vf Q (i 1).val s s.sa 0 fun _ => 3) :
    Fin_ kf vf Q QN (i 1).val (evenF (F := Ideal) i h2 Q QN s) (evenF (F := Ideal) i h2 Q QN s).sc := by
  have hn := coord_lt i
  have hp := (cond2_iff i).1 h2
  have hl := upto_ind (evenTripF (F := Ideal) i h2 Q) s (fun j s => Mid kf vf Q (i 1).val s s.sa (2 * j) fun _ => 3) h
    (fun t s h => evenTrip_mid i hfin h2 t s h) (k0_t1_loop i).trips le_rfl
  have e : 2 * (k0_t1_loop i).trips = (i 1).val := by rw [trips1 i]; omega
  rw [e] at hl
  exact ⟨hl.k, hl.v, scored_row hn hl.k 0 (fun _ => 3) (by omega) (fun hh _ => atK0 hh) (fun hh _ => atK0_off hh),
    online_diag hn hfin hl.v hl.sc.diag hl.on (fun hh sb => lastV2 i h2 hh sb) (lastV2_off i h2)⟩

include hfin in
/-- The last block before the diagonal of an odd block, with the diagonal's scores. -/
theorem oddLast_mid (h3 : k0_cond3 i = 1#1) (s : St Ideal) (h : Mid kf vf Q (i 1).val s s.sc ((i 1).val - 1) fun _ => 3)
    (ak : (hh : Fin 2) → (sb : Fin 4) → At S2x16384x128 ![1, nk (id sb), 128]) (av : (hh : Fin 2) → (sb : Fin 4) → At S2x80x16384 ![1, 80, nk 3])
    (hak : ∀ hh sb, (ak hh sb).off = ![hh.val, 1024 * (i 1).val, 0]) (hav : ∀ hh sb, (av hh sb).off = ![hh.val, 0, 1024 * ((i 1).val - 1)]) :
    Mid kf vf Q (i 1).val (goCB (F := Ideal) Q id (fun _ => 3) ak av (fun _ => id) s)
      (goCB (F := Ideal) Q id (fun _ => 3) ak av (fun _ => id) s).sb (i 1).val id := by
  have hn := coord_lt i
  have hp := (cond3_iff i).1 h3
  have sb := scored_row (N := s.sb) (Q := Q) hn h.k (i 1).val id le_rfl ak hak
  have on := online_row hn hfin h.v ((i 1).val - 1) (by omega) h.sc h.on av hav
  have e1 : (i 1).val - 1 + 1 = (i 1).val := by omega
  rw [e1] at on
  exact ⟨h.k, h.v, sb, on⟩

include hfin in
/-- The diagonal of an odd block. -/
theorem oddDiag_fin (s : St Ideal) (h : Mid kf vf Q (i 1).val s s.sb (i 1).val id) (av : (hh : Fin 2) → (sb : Fin 4) → At S2x80x16384 ![1, 80, nk (id sb)])
    (hav : ∀ hh sb, (av hh sb).off = ![hh.val, 0, 1024 * (i 1).val]) :
    Fin_ kf vf Q QN (i 1).val (goBA (F := Ideal) QN (fun _ => 3) id (fun hh _ => atK0 hh) av masked s)
      (goBA (F := Ideal) QN (fun _ => 3) id (fun hh _ => atK0 hh) av masked s).sa := by
  have hn := coord_lt i
  have sa := scored_row (N := s.sa) (Q := QN) hn h.k 0 (fun _ => 3) (by omega) (fun hh _ => atK0 hh) (fun hh _ => atK0_off hh)
  have on := online_diag hn hfin h.v h.sc h.on av hav
  exact ⟨h.k, h.v, sa, on⟩

include hfin in
theorem odd_fin (h3 : k0_cond3 i = 1#1) (s : St Ideal) (h : Mid kf vf Q (i 1).val s s.sc 0 fun _ => 3) :
    Fin_ kf vf Q QN (i 1).val (oddF (F := Ideal) i h3 Q QN s) (oddF (F := Ideal) i h3 Q QN s).sa := by
  have hp := (cond3_iff i).1 h3
  have hl := upto_ind (oddTripF (F := Ideal) i h3 Q) s (fun j s => Mid kf vf Q (i 1).val s s.sc (2 * j) fun _ => 3) h
    (fun t s h => oddTrip_mid i hfin h3 t s h) (k0_t3_loop i).trips le_rfl
  have e : 2 * (k0_t3_loop i).trips = (i 1).val - 1 := by rw [trips3 i]; omega
  rw [e] at hl
  unfold oddF
  generalize upto (k0_t3_loop i).trips (oddTripF (F := Ideal) i h3 Q) s (k0_t3_loop i).trips = s' at hl ⊢
  have hm := oddLast_mid i hfin h3 s' hl (fun hh sb => diagK i h3 hh sb)
    (fun hh _ => atV 3 (pick (k0_off44 i) (k0_off49 i) hh) (pick_inb (k0_off44_inb i h3) (k0_off49_inb i h3) hh))
    (diagK_off i h3) (fun hh _ => pick_eq (off44 i h3) (off49 i h3) hh)
  exact oddDiag_fin i hfin _ hm (fun hh sb => lastV3 i h3 hh sb) (lastV3_off i h3)

/-! ## The beginning -/

variable {KB : FVec Ideal S2x1024x128 .bf16} {VB : FVec Ideal S2x80x1024 .bf16} (s : St Ideal)

theorem begin_online : Online (beginF (F := Ideal) i KB VB s).x (seen kf Q (i 1).val) vf fun _ => 1024 * 0 := by
  intro hh sb c
  refine ⟨?_, fun e => ?_⟩
  · refine (into_in _ _ _ (ix3 hh 0 (col sb c) : S2x1x1024.Idx) _ fun d => ?_).trans ?_
    · show _ = (![0, 0, 0] : Fin 3 → ℕ) _ + _
      have : ∀ b : Fin 3, (![0, 0, 0] : Fin 3 → ℕ) b = 0 := by decide
      rw [this, Nat.zero_add]
    · show shapeCast S2x1x1024 (broadcast S2x1x1024 (maskC (F := Ideal)) : FVec Ideal S2x1x1024 .f32) shapeCasts_S2x1x1024_S2x1x1024 (ix3 hh 0 (col sb c)) = _
      pointwise
      exact maskC_eq
  · refine (into_in _ _ _ (ix3 hh e (col sb c) : S2x80x1024.Idx) _ fun d => ?_).trans ?_
    · show _ = (![0, 0, 0] : Fin 3 → ℕ) _ + _
      have : ∀ b : Fin 3, (![0, 0, 0] : Fin 3 → ℕ) b = 0 := by decide
      rw [this, Nat.zero_add]
    · show shapeCast S2x80x1024 (broadcast S2x80x1024 (Scalar.ofBits .f32 0x00000000#32 : Ideal .f32) : FVec Ideal S2x80x1024 .f32) shapeCasts_S2x80x1024_S2x80x1024 (ix3 hh e (col sb c)) = _
      pointwise
      rfl

theorem begin_k (h : CachedK s.kc kf (1024 * (i 1).val)) (hKB : ∀ hh (r : Fin 1024) d, KB (ix3 hh r d) = kf hh (1024 * (i 1).val + r.val) d) :
    CachedK (beginF (F := Ideal) i KB VB s).kc kf (1024 * ((i 1).val + 1)) := by
  intro hh k d hk
  have ho := Gen.k0_off1_eq i
  by_cases hlt : k.val < 1024 * (i 1).val
  · refine (into_out _ _ _ _ 1 ?_).trans (h hh k d hlt)
    left
    show k.val < k0_off1 i 1
    rw [ho]; exact hlt
  · refine (into_in _ _ _ (ix3 hh ⟨k.val - 1024 * (i 1).val, by omega⟩ d : S2x1024x128.Idx) _ (ix3_at _ _ _ (fun d n => n = k0_off1 i d + _) ?_ ?_ ?_)).trans ?_
    · rw [ho]; show hh.val = 0 + hh.val; omega
    · rw [ho]; show k.val = 1024 * (i 1).val + (k.val - 1024 * (i 1).val); omega
    · rw [ho]; show d.val = 0 + d.val; omega
    · have e1 : (win (F := Ideal) (e := .bf16) KB (all3 (s := S2x1024x128) rfl h_S2x1024x128) : FVec Ideal S2x1024x128 .bf16) = KB := by
        funext j
        refine win_eq _ _ _ _ fun d => ?_
        show _ = (![0, 0, 0] : Fin 3 → ℕ) _ + _
        have : ∀ b : Fin 3, (![0, 0, 0] : Fin 3 → ℕ) b = 0 := by decide
        rw [this, Nat.zero_add]
      show shapeCast S2x1024x128 (win (F := Ideal) (e := .bf16) KB (all3 (s := S2x1024x128) rfl h_S2x1024x128) : FVec Ideal S2x1024x128 .bf16) shapeCasts_S2x1024x128_S2x1024x128 (ix3 hh ⟨k.val - 1024 * (i 1).val, _⟩ d) = _
      rw [e1]
      pointwise
      refine (hKB hh _ d).trans ?_
      show kf hh (1024 * (i 1).val + (k.val - 1024 * (i 1).val)) d = _
      rw [Nat.add_sub_cancel' (by omega)]

theorem begin_v (h : CachedV s.vc vf (1024 * (i 1).val)) (hVB : ∀ hh e (r : Fin 1024), VB (ix3 hh e r) = vf hh e (1024 * (i 1).val + r.val)) :
    CachedV (beginF (F := Ideal) i KB VB s).vc vf (1024 * ((i 1).val + 1)) := by
  intro hh e k hk
  have ho := Gen.k0_off2_eq i
  by_cases hlt : k.val < 1024 * (i 1).val
  · refine (into_out _ _ _ _ 2 ?_).trans (h hh e k hlt)
    left
    show k.val < k0_off2 i 2
    rw [ho]; exact hlt
  · refine (into_in _ _ _ (ix3 hh e ⟨k.val - 1024 * (i 1).val, by omega⟩ : S2x80x1024.Idx) _ (ix3_at _ _ _ (fun d n => n = k0_off2 i d + _) ?_ ?_ ?_)).trans ?_
    · rw [ho]; show hh.val = 0 + hh.val; omega
    · rw [ho]; show e.val = 0 + e.val; omega
    · rw [ho]; show k.val = 1024 * (i 1).val + (k.val - 1024 * (i 1).val); omega
    · have e1 : (win (F := Ideal) (e := .bf16) VB (all3 (s := S2x80x1024) rfl h_S2x80x1024) : FVec Ideal S2x80x1024 .bf16) = VB := by
        funext j
        refine win_eq _ _ _ _ fun d => ?_
        show _ = (![0, 0, 0] : Fin 3 → ℕ) _ + _
        have : ∀ b : Fin 3, (![0, 0, 0] : Fin 3 → ℕ) b = 0 := by decide
        rw [this, Nat.zero_add]
      show shapeCast S2x80x1024 (win (F := Ideal) (e := .bf16) VB (all3 (s := S2x80x1024) rfl h_S2x80x1024) : FVec Ideal S2x80x1024 .bf16) shapeCasts_S2x80x1024_S2x80x1024 (ix3 hh e ⟨k.val - 1024 * (i 1).val, _⟩) = _
      rw [e1]
      pointwise
      refine (hVB hh e _).trans ?_
      show vf hh e (1024 * (i 1).val + (k.val - 1024 * (i 1).val)) = _
      rw [Nat.add_sub_cancel' (by omega)]

include hfin in
/-- THE BODY: the caches, the handed-over scores and the running softmax after it. -/
theorem body_fin (hk : CachedK s.kc kf (1024 * (i 1).val)) (hv : CachedV s.vc vf (1024 * (i 1).val))
    (hKB : ∀ hh (r : Fin 1024) d, KB (ix3 hh r d) = kf hh (1024 * (i 1).val + r.val) d)
    (hVB : ∀ hh e (r : Fin 1024), VB (ix3 hh e r) = vf hh e (1024 * (i 1).val + r.val))
    (hs : (i 1).val ≠ 0 → Scored (if (i 1).val % 2 = 0 then s.sa else s.sc) (raw Q kf) 0 fun _ => 3) :
    Fin_ kf vf Q QN (i 1).val (bodyF (F := Ideal) i Q QN KB VB s)
      (if (i 1).val % 2 = 0 then (bodyF (F := Ideal) i Q QN KB VB s).sc else (bodyF (F := Ideal) i Q QN KB VB s).sa) := by
  have bk := begin_k (KB := KB) (VB := VB) i s hk hKB
  have bv := begin_v (KB := KB) (VB := VB) i s hv hVB
  have bo := begin_online (kf := kf) (vf := vf) (Q := Q) (KB := KB) (VB := VB) i s
  have hn := coord_lt i
  unfold bodyF
  by_cases hp : (i 1).val % 2 = 0
  · have h2 := (cond2_iff i).2 hp
    have h3 : ¬ k0_cond3 i = 1#1 := fun h => by have := (cond3_iff i).1 h; omega
    simp only [dif_pos h2, dif_neg h3, if_pos hp] at hs ⊢
    refine even_fin i hfin h2 _ ?_
    by_cases h0 : (i 1).val = 0
    · rw [if_pos ((cond1_iff i).2 h0)]
      exact ⟨bk, bv, scored_row hn bk 0 (fun _ => 3) (by omega) (fun hh _ => atK0 hh) (fun hh _ => atK0_off hh), bo⟩
    · rw [if_neg fun h => h0 ((cond1_iff i).1 h)]
      exact ⟨bk, bv, hs h0, bo⟩
  · have h2 : ¬ k0_cond2 i = 1#1 := fun h => hp ((cond2_iff i).1 h)
    have h3 := (cond3_iff i).2 (by omega)
    have h1 : ¬ k0_cond1 i = 1#1 := fun h => by have := (cond1_iff i).1 h; omega
    simp only [dif_neg h2, dif_pos h3, if_neg hp, if_neg h1] at hs ⊢
    exact odd_fin i hfin h3 _ ⟨bk, bv, hs (by omega), bo⟩

end Phases

end Cert.KernelIdeal.Fox
-- ==== Proof.Value.lean ====
/- The call's result: every grid point keeps the caches and the handed-over scores, and writes the attention of its block. -/
module

public import proofs.«01_k».proof.Proof.Body
public import proofs.«01_k».proof.Proof.Run
public import proofs.«01_k».proof.Proof.Spec
public import Idealize.ShloMosaic.Lib.Pipeline.ValueKit

@[expose] public section

set_option maxRecDepth 16384

noncomputable section

namespace Cert.KernelIdeal.Fox

open Idealize.ShloMosaic Idealize.ShloMosaic.TcCoe Idealize.SL.Sem Finset
open Idealize.ShloMosaic.Pipeline (RDat Dat)
open Cert.KernelIdeal.Gen
open Cert.Softmax
open Cert.Spec (key value dot att Ok)

/-! ## The output block -/

/-- The column of the output block: a head of the pair, and a dimension. -/
def lane (hh : Fin 2) (d : Fin 64) : Fin 128 := ⟨64 * hh.val + d.val, by omega⟩

theorem winO_at (a : FVec Ideal S2x80x1024 .f32) (hh : Fin 2) (d : Fin 64) (r : Fin 1024) :
    (win (F := Ideal) (e := .f32) a (atO hh) : FVec Ideal S1x64x1024 .f32) (ix3 0 d r) = a (ix3 hh ⟨d.val, by omega⟩ r) :=
  win_eq _ _ _ _ (ix3_at _ _ _ (fun d n => n = (atO hh).off d + _) (show hh.val = hh.val + 0 by omega) (show d.val = 0 + d.val by omega) (show r.val = 0 + r.val by omega))

theorem winL_at (a : FVec Ideal S2x80x1024 .f32) (hh : Fin 2) (r : Fin 1024) :
    (win (F := Ideal) (e := .f32) a (atL hh) : FVec Ideal S1x1x1024 .f32) (ix3 0 0 r) = a (ix3 hh 64 r) :=
  win_eq _ _ _ _ (ix3_at _ _ _ (fun d n => n = (atL hh).off d + _) (show hh.val = hh.val + 0 by omega) (show 64 = 64 + 0 by omega) (show r.val = 0 + r.val by omega))

theorem quot_at (n : FVec Ideal S1x64x1024 .f32) (l : FVec Ideal S1x1x1024 .f32) (d : Fin 64) (r : Fin 1024) :
    quot (F := Ideal) n l (ix2 d r) = Ideal.div (n (ix3 0 d r)) (l (ix3 0 0 r)) := by
  pointwise [quot]

theorem outOf_at (n0 n1 : FVec Ideal S1x64x1024 .f32) (l0 l1 : FVec Ideal S1x1x1024 .f32) (hh : Fin 2) (d : Fin 64) (r : Fin 1024) :
    outOf (F := Ideal) n0 l0 n1 l1 (ix2 (lane hh d) r) = if hh = 0 then quot (F := Ideal) n0 l0 (ix2 d r) else quot (F := Ideal) n1 l1 (ix2 d r) := by
  pointwise [outOf]
  have hl : (lane hh d).val = 64 * hh.val + d.val := rfl
  by_cases h : hh.val = 0
  · rw [dif_pos (by omega), if_pos (Fin.ext h)]
    exact congrArg (fun x => quot (F := Ideal) n0 l0 (ix2 x r)) (Fin.ext (show (lane hh d).val = d.val by omega))
  · rw [dif_neg (by omega), if_neg fun e => h (congrArg Fin.val e)]
    exact congrArg (fun x => quot (F := Ideal) n1 l1 (ix2 x r)) (Fin.ext (show (lane hh d).val - 64 = d.val by omega))

theorem outF_at (a : FVec Ideal S2x80x1024 .f32) (O : FVec Ideal S1024x128 .f32) (hh : Fin 2) (d : Fin 64) (r : Fin 1024) :
    (outF (F := Ideal) a O : FVec Ideal S1024x128 .f32) (ix2 r (lane hh d)) = Ideal.div (a (ix3 hh ⟨d.val, by omega⟩ r)) (a (ix3 hh 64 r)) := by
  unfold outF
  refine (into_in _ _ _ (ix2 r (lane hh d) : S1024x128.Idx) _ fun d => ?_).trans ?_
  · show _ = (![0, 0] : Fin 2 → ℕ) _ + _
    have : ∀ b : Fin 2, (![0, 0] : Fin 2 → ℕ) b = 0 := by decide
    rw [this, Nat.zero_add]
  · pointwise
    rw [outOf_at]
    have h0 := quot_at (win (F := Ideal) (e := .f32) a (atO 0)) (win (F := Ideal) (e := .f32) a (atL 0)) d r
    have h1 := quot_at (win (F := Ideal) (e := .f32) a (atO 1)) (win (F := Ideal) (e := .f32) a (atL 1)) d r
    rw [h0, h1, winO_at, winL_at, winO_at, winL_at]
    fin_cases hh
    · rfl
    · rfl

/-! ## The blocks -/

theorem idx : ∀ t : Fin cfg0.N, win0_0.index t = ![(grid0.coords t 0).val, 0, (grid0.coords t 1).val]
    ∧ win0_1.index t = ![(grid0.coords t 0).val, 0, min ((grid0.coords t 1).val + 1) 15]
    ∧ win0_2.index t = ![(grid0.coords t 0).val, (grid0.coords t 1).val, 0]
    ∧ win0_3.index t = ![(grid0.coords t 0).val, 0, (grid0.coords t 1).val]
    ∧ win0_4.index t = ![(grid0.coords t 1).val, (grid0.coords t 0).val] := (by decide +kernel : ∀ t : Fin grid0.N, _)

theorem pair_lt : ∀ t : Fin cfg0.N, (grid0.coords t 0).val < 4 := (by decide +kernel : ∀ t : Fin grid0.N, _)
theorem blk_lt : ∀ t : Fin cfg0.N, (grid0.coords t 1).val < 16 := (by decide +kernel : ∀ t : Fin grid0.N, _)
theorem next_blk : ∀ t : Fin cfg0.N, ∀ h : t.val + 1 < 64, (grid0.coords ⟨t.val + 1, h⟩ 1).val ≠ 0 →
    (grid0.coords ⟨t.val + 1, h⟩ 0).val = (grid0.coords t 0).val ∧ (grid0.coords ⟨t.val + 1, h⟩ 1).val = (grid0.coords t 1).val + 1 :=
  (by decide +kernel : ∀ t : Fin grid0.N, _)
theorem first_blk : (grid0.coords (⟨0, by decide⟩ : Fin cfg0.N) 1).val = 0 := by decide +kernel

/-- A head of the pair `p`. -/
def hd (p : ℕ) (hh : Fin 2) : Fin 8 := ⟨(2 * p + hh.val) % 8, by omega⟩

/-- A query of the block `n`. -/
def pos (n : ℕ) (r : Fin 1024) : Fin 16384 := ⟨(1024 * n + r.val) % 16384, by omega⟩

section Blocks

variable (m : (ℓ : Loc nD τ sig) → Buf (Elt Ideal) ℓ)

abbrev QG (c : Dev nD) : FVec Ideal S8x128x16384 .bf16 := m ((c.tc : Thread nD τ).loc main_arg0)
abbrev KG (c : Dev nD) : FVec Ideal S8x16384x128 .bf16 := m ((c.tc : Thread nD τ).loc main_arg1)
abbrev VG (c : Dev nD) : FVec Ideal S8x80x16384 .bf16 := m ((c.tc : Thread nD τ).loc main_arg2)

theorem qB_at (c : Dev nD) (t : Fin cfg0.N) (hh : Fin 2) (d : Fin 128) (r : Fin 1024) :
    (qB m c t : FVec Ideal S2x128x1024 .bf16) (ix3 hh d r) = QG m c (ix3 (hd (grid0.coords t 0).val hh) d (pos (grid0.coords t 1).val r)) := by
  have hp := pair_lt t
  have hb := blk_lt t
  unfold hd pos
  blk_ext [iblk, V, idx t]

theorem qnB_at (c : Dev nD) (t : Fin cfg0.N) (hh : Fin 2) (d : Fin 128) (r : Fin 1024) :
    (qnB m c t : FVec Ideal S2x128x1024 .bf16) (ix3 hh d r) = QG m c (ix3 (hd (grid0.coords t 0).val hh) d (pos (min ((grid0.coords t 1).val + 1) 15) r)) := by
  have hp := pair_lt t
  have hb := blk_lt t
  unfold hd pos
  blk_ext [iblk, V, idx t]

theorem kB_at (c : Dev nD) (t : Fin cfg0.N) (hh : Fin 2) (r : Fin 1024) (d : Fin 128) :
    (kB m c t : FVec Ideal S2x1024x128 .bf16) (ix3 hh r d) = key (KG m c) (hd (grid0.coords t 0).val hh) (1024 * (grid0.coords t 1).val + r.val) d := by
  have hp := pair_lt t
  have hb := blk_lt t
  unfold key hd
  rw [dif_pos (by omega)]
  blk_ext [iblk, V, idx t]

theorem vB_at (c : Dev nD) (t : Fin cfg0.N) (hh : Fin 2) (e : Fin 80) (r : Fin 1024) :
    (vB m c t : FVec Ideal S2x80x1024 .bf16) (ix3 hh e r) = value (VG m c) (hd (grid0.coords t 0).val hh) e (1024 * (grid0.coords t 1).val + r.val) := by
  have hp := pair_lt t
  have hb := blk_lt t
  unfold value hd
  rw [dif_pos (by omega)]
  blk_ext [iblk, V, idx t]

/-! ## The invariant -/

/-- The keys and the values of the head pair `p`. -/
def kf (c : Dev nD) (p : ℕ) (hh : Fin 2) : ℕ → Fin 128 → EReal := key (KG m c) (hd p hh)
def vf (c : Dev nD) (p : ℕ) (hh : Fin 2) : Fin 80 → ℕ → EReal := value (VG m c) (hd p hh)

theorem raw_qB (c : Dev nD) (t : Fin cfg0.N) : raw (qB m c t) (kf m c (grid0.coords t 0).val)
    = fun hh q k => dot (QG m c) (KG m c) (hd (grid0.coords t 0).val hh) (pos (grid0.coords t 1).val q) k := by
  funext hh q k
  unfold raw dot kf
  exact sum_congr rfl fun d _ => congrArg _ (qB_at m c t hh d q)

theorem raw_qnB (c : Dev nD) (t : Fin cfg0.N) : raw (qnB m c t) (kf m c (grid0.coords t 0).val)
    = fun hh q k => dot (QG m c) (KG m c) (hd (grid0.coords t 0).val hh) (pos (min ((grid0.coords t 1).val + 1) 15) q) k := by
  funext hh q k
  unfold raw dot kf
  exact sum_congr rfl fun d _ => congrArg _ (qnB_at m c t hh d q)

theorem seen_eq (c : Dev nD) (t : Fin cfg0.N) (hh : Fin 2) (q : Fin 1024) : seen (kf m c (grid0.coords t 0).val) (qB m c t) (grid0.coords t 1).val hh q
    = Cert.Spec.score (QG m c) (KG m c) (hd (grid0.coords t 0).val hh) (pos (grid0.coords t 1).val q) := by
  have hb := blk_lt t
  funext k
  unfold seen Cert.Spec.score
  rw [raw_qB]
  exact if_congr (by show _ ↔ k ≤ (1024 * (grid0.coords t 1).val + q.val) % 16384; rw [Nat.mod_eq_of_lt (by omega)]) rfl rfl

/-- What a point that is not its pair's first finds: the blocks before it cached, and its queries' scores against the first keys. -/
structure Ready (c : Dev nD) (t : Fin cfg0.N) (s : St Ideal) : Prop where
  k : CachedK s.kc (kf m c (grid0.coords t 0).val) (1024 * (grid0.coords t 1).val)
  v : CachedV s.vc (vf m c (grid0.coords t 0).val) (1024 * (grid0.coords t 1).val)
  sc : Scored (if (grid0.coords t 1).val % 2 = 0 then s.sa else s.sc) (raw (qB m c t) (kf m c (grid0.coords t 0).val)) 0 fun _ => 3

/-- Between two points. -/
def Inv (c : Dev nD) (t : Fin (cfg0.N + 1)) (s : St Ideal) : Prop :=
  ∀ t' : Fin cfg0.N, t'.val = t.val → (grid0.coords t' 1).val ≠ 0 → Ready m c t' s

/-- What a point leaves in the output block. -/
def Post (c : Dev nD) (t : Fin cfg0.N) (X : FVec Ideal S1024x128 .f32) : Prop :=
  ∀ (r : Fin 1024) (hh : Fin 2) (d : Fin 64),
    X (ix2 r (lane hh d)) = att (QG m c) (KG m c) (VG m c) (hd (grid0.coords t 0).val hh) (pos (grid0.coords t 1).val r) d

theorem col_of (r : Fin 1024) : ∃ sb c, r = col sb c :=
  ⟨⟨r.val / 256, by omega⟩, ⟨r.val % 256, by omega⟩, Fin.ext (show r.val = 256 * (r.val / 256) + r.val % 256 by omega)⟩

/-- One point keeps the invariant and writes its block. -/
theorem hstep (ok : ∀ c, Ok (QG m c) (KG m c) (VG m c)) (c : Dev nD) (t : Fin cfg0.N) (s : St Ideal) (h : Inv m c t.castSucc s) :
    Inv m c t.succ (stepF m c t s) ∧ ∀ O, Post m c t (outF (F := Ideal) (stepF m c t s).acc O) := by
  have hb := blk_lt t
  have hfin : ∀ hh q k, raw (qB m c t) (kf m c (grid0.coords t 0).val) hh q k ≠ ⊤ := fun hh q k => by
    rw [raw_qB]
    obtain ⟨x, hx⟩ := Cert.Spec.dot_real (ok c) (hd (grid0.coords t 0).val hh) (pos (grid0.coords t 1).val q) k
    exact fun e => EReal.coe_ne_top x (hx.symm.trans e)
  have hr : (grid0.coords t 1).val ≠ 0 → Ready m c t s := h t rfl
  have hk : CachedK s.kc (kf m c (grid0.coords t 0).val) (1024 * (grid0.coords t 1).val) := by
    by_cases h0 : (grid0.coords t 1).val = 0
    · intro hh k d hlt; rw [h0] at hlt; exact absurd hlt (Nat.not_lt_zero _)
    · exact (hr h0).k
  have hv : CachedV s.vc (vf m c (grid0.coords t 0).val) (1024 * (grid0.coords t 1).val) := by
    by_cases h0 : (grid0.coords t 1).val = 0
    · intro hh e k hlt; rw [h0] at hlt; exact absurd hlt (Nat.not_lt_zero _)
    · exact (hr h0).v
  have f := body_fin (QN := qnB m c t) (grid0.coords t) hfin s hk hv (kB_at m c t) (vB_at m c t) fun h0 => (hr h0).sc
  refine ⟨fun t' ht' h0 => ?_, fun O r hh d => ?_⟩
  · have e : t' = ⟨t.val + 1, by have := t'.isLt; have e : t'.val = t.val + 1 := ht'; omega⟩ := Fin.ext ht'
    have hlt : t.val + 1 < 64 := by have := t'.isLt; have e : t'.val = t.val + 1 := ht'; have : cfg0.N = 64 := Gen.N_0; omega
    have hn := next_blk t hlt
    have e' : (⟨t.val + 1, hlt⟩ : Fin cfg0.N) = t' := Fin.ext ht'.symm
    rw [e'] at hn
    obtain ⟨n0, n1⟩ := hn h0
    have hb' := blk_lt t'
    refine ⟨?_, ?_, ?_⟩
    · rw [n0, n1]; exact f.k
    · rw [n0, n1]; exact f.v
    · have hs := f.sc
      rw [raw_qnB] at hs
      rw [raw_qB, n0, n1]
      have em : min ((grid0.coords t 1).val + 1) 15 = (grid0.coords t 1).val + 1 := by omega
      rw [em] at hs
      have eb : (if (grid0.coords t 1).val % 2 = 0 then (stepF m c t s).sc else (stepF m c t s).sa)
          = if ((grid0.coords t 1).val + 1) % 2 = 0 then (stepF m c t s).sa else (stepF m c t s).sc := by
        by_cases hp : (grid0.coords t 1).val % 2 = 0
        · rw [if_pos hp, if_neg (by omega)]
        · rw [if_neg hp, if_pos (by omega)]
      rw [← eb]
      exact hs
  · obtain ⟨sb, cc, rfl⟩ := col_of r
    have ho := (f.on hh sb cc).2
    rw [outF_at]
    refine (congrArg₂ Ideal.div (ho _) (ho _)).trans ?_
    rw [seen_eq]
    have hsb := sb.isLt
    have hcc := cc.isLt
    have hq : (pos (grid0.coords t 1).val (col sb cc)).val = 1024 * (grid0.coords t 1).val + (256 * sb.val + cc.val) :=
      Nat.mod_eq_of_lt (show 1024 * (grid0.coords t 1).val + (256 * sb.val + cc.val) < 16384 by omega)
    have hnk : nk sb = 256 * (sb.val + 1) := rfl
    exact Cert.Spec.att_of (n := 1024 * (grid0.coords t 1).val + nk sb) (ok c) _ _ d (by omega) (by omega)

theorem Post.at {m : (ℓ : Loc nD τ sig) → Buf (Elt Ideal) ℓ} {c : Dev nD} {t : Fin cfg0.N} {X : FVec Ideal S1024x128 .f32} (h : Post m c t X)
    (x : Fin 1024) (y : Fin 128) : X (ix2 x y) = att (QG m c) (KG m c) (VG m c) (hd (grid0.coords t 0).val ⟨y.val / 64, by omega⟩)
      (pos (grid0.coords t 1).val x) ⟨y.val % 64, by omega⟩ := by
  have e : y = lane ⟨y.val / 64, by omega⟩ ⟨y.val % 64, by omega⟩ := Fin.ext (show y.val = 64 * (y.val / 64) + y.val % 64 by omega)
  exact (congrArg (fun y => X (ix2 x y)) e).trans (h x _ _)

/-! ## The whole result -/

theorem att_congr (Qg : FVec Ideal S8x128x16384 .bf16) (Kg : FVec Ideal S8x16384x128 .bf16) (Vg : FVec Ideal S8x80x16384 .bf16)
    {h h' : Fin 8} {q q' : Fin 16384} {d d' : Fin 64} (eh : h = h') (eq : q = q') (ed : d = d') : att Qg Kg Vg h q d = att Qg Kg Vg h' q' d' := by
  subst eh; subst eq; subst ed; rfl

/-- The result array. -/
def result (c : Dev nD) : FVec Ideal S16384x512 .f32 := fun j =>
  att (QG m c) (KG m c) (VG m c) ⟨(j 1).val / 64 % 8, by omega⟩ ⟨(j 0).val % 16384, by omega⟩ ⟨(j 1).val % 64, by omega⟩

theorem value_run (ok : ∀ c, Ok (QG m c) (KG m c) (VG m c)) (ρ : Dev nD → PrngReg) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, args_of h.1 c⟩)
    (run (m := m) ρ (I := Inv m) (P := Post m)
      (fun c s t' ht' h0 => absurd (by have e : t' = ⟨0, by decide⟩ := Fin.ext ht'; rw [e]; exact first_blk) h0) (hstep m ok))
  obtain ⟨after, hl, ha⟩ := h.1.exists_exact c
  refine (ha 4).trans (Dat.arrAt_eq_of_covers ((rdat m (Inv m) (Post m) c).withAfter after) 4 (result m c) (by decide +kernel : (cfg0.win 4).Covers) fun t hf y => ?_)
  have hp : Post m c t (after 4 t) := (hl 4 t hf).choose_spec.2
  have hb := blk_lt t
  have hpr := pair_lt t
  blk_simp
  refine (congrArg (after 4 t) (eq_ix2 (y : S1024x128.Idx))).trans ((hp.at _ _).trans ?_)
  unfold result
  have y0 : (y 0).val < 1024 := (y 0).isLt
  have y1 : (y 1).val < 128 := (y 1).isLt
  have e0 : ((win0_4.blk t).view.emb y 0).val = (grid0.coords t 1).val * 1024 + (y 0).val := by blk_simp [idx t]
  have e1 : ((win0_4.blk t).view.emb y 1).val = (grid0.coords t 0).val * 128 + (y 1).val := by blk_simp [idx t]
  refine att_congr _ _ _ (Fin.ext ?_) (Fin.ext ?_) (Fin.ext ?_)
  · show (2 * (grid0.coords t 0).val + (y 1).val / 64) % 8 = ((win0_4.blk t).view.emb y 1).val / 64 % 8
    rw [e1]; omega
  · show (1024 * (grid0.coords t 1).val + (y 0).val) % 16384 = ((win0_4.blk t).view.emb y 0).val % 16384
    rw [e0]; omega
  · show (y 1).val % 64 = ((win0_4.blk t).view.emb y 1).val % 64
    rw [e1]; omega

end Blocks

end Cert.KernelIdeal.Fox
-- ==== Proof.RefRead.lean ====
/- The reference, read: its result at a query, a head and a dimension is the attention of `Spec`. -/
module

public import proofs.«01_k».proof.Proof.Spec
public import proofs.«01_k».proof.Proof.Gen.ReferenceIdeal.Read
public import Idealize.ShloMosaic.Lib.WordCmp

@[expose] public section

set_option maxRecDepth 16384

noncomputable section

namespace Cert.ReferenceIdeal.Read

open Idealize.ShloMosaic Finset Cert.Softmax
open Cert.Spec (score dot key value att Ok)

variable (Qg : FVec Ideal S8x128x16384 .bf16) (Kg : FVec Ideal S8x16384x128 .bf16) (Vg : FVec Ideal S8x80x16384 .bf16)

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by simp [Ideal.ofBits, Ideal.ieee]

/-- Positions are small enough to be compared as words. -/
theorem le_bit (q k : Fin 16384) : IntOp.cmpi .sle (BitVec.ofNat 32 k.val) (BitVec.ofNat 32 q.val) = BitVec.ofBool (decide (k.val ≤ q.val)) := by
  have hk : (BitVec.ofNat 32 k.val).toInt = k.val := by
    have := k.isLt
    rw [BitVec.toInt_eq_toNat_of_lt (by rw [BitVec.toNat_ofNat]; omega), BitVec.toNat_ofNat]; omega
  have hq : (BitVec.ofNat 32 q.val).toInt = q.val := by
    have := q.isLt
    rw [BitVec.toInt_eq_toNat_of_lt (by rw [BitVec.toNat_ofNat]; omega), BitVec.toNat_ofNat]; omega
  show BitVec.ofBool (BitVec.sle _ _) = _
  unfold BitVec.sle
  rw [hk, hq]
  congr 1
  exact decide_eq_decide.2 (by omega)

theorem select_bit {p : Prop} [Decidable p] (a b : EReal) : Scalar.select (BitVec.ofBool (decide p)) a b = if p then a else b := by
  by_cases h : p
  · rw [decide_eq_true h, if_pos h]; rfl
  · rw [decide_eq_false h, if_neg h]; rfl

/-- The product of a query and a key. -/
theorem v4_at (h : Fin 8) (q k : Fin 16384) : val_main_v4 (F := Ideal) Qg Kg (ix3 h q k) = dot Qg Kg h q k.val := by
  rw [val_main_v4_apply]
  refine sum_congr rfl fun d _ => ?_
  have e1 : lidx_main_v4 (ix3 h q k) d = ix3 h d q := by idx_ext
  have e2 : ridx_main_v4 (ix3 h q k) d = ix3 h k d := by idx_ext
  rw [e1, e2]
  unfold key
  rw [dif_pos k.isLt]
  exact mul_comm (Qg (ix3 h d q) : EReal) (Kg (ix3 h k d))

/-- The masked score. -/
theorem v11_at (h : Fin 8) (q k : Fin 16384) : val_main_v11 (F := Ideal) Qg Kg (ix3 h q k) = score Qg Kg h q k.val := by
  rw [val_main_v11_apply, v4_at, val_main_call0_v1_apply, val_main_v10_apply, val_main_v8_apply, val_main_v9_apply, val_main_v6_apply,
    val_main_v7_apply, val_main_v5_apply, val_main_v5_apply, val_main_call0_v2_apply]
  refine (congrArg (fun b => Scalar.select b _ _) (le_bit q k)).trans ((select_bit _ _).trans ?_)
  unfold score
  exact if_congr Iff.rfl rfl ofBits_bot

theorem sup_range {n : ℕ} (f : ℕ → EReal) : (univ : Finset (Fin n)).sup (fun r => f r.val) = (range n).sup f := by
  refine le_antisymm (Finset.sup_le fun r _ => le_sup (f := f) (mem_range.2 r.isLt)) (Finset.sup_le fun r hr => ?_)
  exact le_sup (f := fun r : Fin n => f r.val) (mem_univ (⟨r, mem_range.1 hr⟩ : Fin n))

/-- The greatest score. -/
theorem v12_at (h : Fin 8) (q : Fin 16384) : val_main_v12 (F := Ideal) Qg Kg (ix2 h q) = top (score Qg Kg h q) 16384 := by
  have e : val_main_v12 (F := Ideal) Qg Kg (ix2 h q) = (univ : Finset (Fin 16384)).sup fun k => val_main_v11 (F := Ideal) Qg Kg (ix3 h q k) := by
    unfold val_main_v12 val_main_cst_0
    generalize val_main_v11 (F := Ideal) Qg Kg = y
    pointwise
    rw [ofBits_bot]; rfl
  rw [e]
  simp only [v11_at]
  exact sup_range _

theorem top_ne (ok : Ok Qg Kg Vg) (h : Fin 8) (q : Fin 16384) : top (score Qg Kg h q) 16384 ≠ ⊤ := top_ne_top _ (Cert.Spec.score_ne_top ok h q) _

/-- The weight of a key. -/
theorem v19_at (ok : Ok Qg Kg Vg) (h : Fin 8) (q k : Fin 16384) :
    val_main_v19 (F := Ideal) Qg Kg (ix3 h q k) = Ideal.exp2 (score Qg Kg h q k.val - top (score Qg Kg h q) 16384) := by
  have e14 : val_main_v14 (F := Ideal) Qg Kg (ix3 h q k) = top (score Qg Kg h q) 16384 := by
    rw [val_main_v14_apply, val_main_v13_apply]
    refine Eq.trans (congrArg _ ?_) (v12_at Qg Kg h q)
    idx_ext
  have e15 : val_main_v15 (F := Ideal) Qg Kg (ix3 h q k) = score Qg Kg h q k.val - top (score Qg Kg h q) 16384 := by
    rw [val_main_v15_apply, v11_at, e14]; rfl
  have e17 : val_main_v17 (F := Ideal) (ix3 h q k) = Ideal.log ((2 : ℝ) : EReal) := by
    rw [val_main_v17_apply, val_main_v16_apply, val_main_cst_1_apply]
    exact congrArg Ideal.log ofBits_two
  rw [val_main_v19_apply, val_main_v18_apply, e15, e17]
  exact exp_log2 (sub_ne_top (Cert.Spec.score_ne_top ok h q _) (le_top _ k.isLt) (top_ne Qg Kg Vg ok h q))

/-- The sum of the weights. -/
theorem v20_at (ok : Ok Qg Kg Vg) (h : Fin 8) (q : Fin 16384) : val_main_v20 (F := Ideal) Qg Kg (ix2 h q) = wsum (score Qg Kg h q) (fun _ => 1) 16384 := by
  rw [val_main_v20_apply, val_main_cst_2_apply]
  refine (congrArg₂ (· + ·) Ideal.ofBits_zero_f32 rfl).trans ((zero_add _).trans ?_)
  unfold wsum
  rw [Finset.sum_range]
  refine sum_congr rfl fun k _ => ?_
  rw [one_mul, ← v19_at Qg Kg Vg ok h q k]
  refine congrArg _ ?_
  idx_ext

/-- The normalised weight. -/
theorem v23_at (ok : Ok Qg Kg Vg) (h : Fin 8) (q k : Fin 16384) : val_main_v23 (F := Ideal) Qg Kg (ix3 h q k)
    = Ideal.div (Ideal.exp2 (score Qg Kg h q k.val - top (score Qg Kg h q) 16384)) (wsum (score Qg Kg h q) (fun _ => 1) 16384) := by
  have e22 : val_main_v22 (F := Ideal) Qg Kg (ix3 h q k) = wsum (score Qg Kg h q) (fun _ => 1) 16384 := by
    rw [val_main_v22_apply, val_main_v21_apply]
    refine Eq.trans (congrArg _ ?_) (v20_at Qg Kg Vg ok h q)
    idx_ext
  rw [val_main_v23_apply, v19_at Qg Kg Vg ok, e22]
  rfl

/-- The weighted values. -/
theorem v24_at (ok : Ok Qg Kg Vg) (h : Fin 8) (d : Fin 64) (q : Fin 16384) : val_main_v24 (F := Ideal) Qg Kg Vg (ix3 h d q) = att Qg Kg Vg h q d := by
  rw [val_main_v24_apply]
  unfold att
  rw [Finset.sum_range]
  refine sum_congr rfl fun k _ => ?_
  have e1 : ridx_main_v24 (ix3 h d q) k = ix3 h q k := by idx_ext
  have e2 : val_main_v3 (F := Ideal) Vg (lidx_main_v24 (ix3 h d q) k) = value Vg h ⟨d.val, by omega⟩ k.val := by
    rw [val_main_v3_apply, val_main_v2_apply]
    unfold value
    rw [dif_pos k.isLt]
    refine congrArg Vg ?_
    idx_ext
  rw [e1, e2, v23_at Qg Kg Vg ok]
  exact mul_comm _ _

/-- The reference's result. -/
theorem v26_at (ok : Ok Qg Kg Vg) (q : Fin 16384) (h : Fin 8) (d : Fin 64) (col : Fin 512) (hc : col.val = 64 * h.val + d.val) :
    val_main_v26 (F := Ideal) Qg Kg Vg (ix2 q col) = att Qg Kg Vg h q d := by
  rw [val_main_v26_apply, val_main_v25_apply, ← v24_at Qg Kg Vg ok]
  refine congrArg _ ?_
  have hh := h.isLt
  have hd := d.isLt
  have hq := q.isLt
  funext a
  refine Fin.ext ?_
  match a with
  | ⟨0, _⟩ => show (q.val * 512 + col.val) / 64 % 8 = h.val; omega
  | ⟨1, _⟩ => show (q.val * 512 + col.val) % 64 = d.val; omega
  | ⟨2, _⟩ => show (q.val * 512 + col.val) / 512 = q.val; omega

end Cert.ReferenceIdeal.Read
-- ==== Proof.Algebraic.lean ====
/- The value claim: the ideal call and the ideal reference end with equal results. -/
module

public import proofs.«01_k».proof.Defs
public import proofs.«01_k».proof.Proof.Value
public import proofs.«01_k».proof.Proof.RefRead
public import proofs.«01_k».proof.Proof.PreRead
public import proofs.«01_k».proof.Proof.Gen.ReferenceIdeal.Run

@[expose] public section

set_option maxRecDepth 16384

noncomputable section

namespace Cert.Proof

open Idealize.ShloMosaic Idealize.ShloMosaic.TcCoe Idealize.SL.Sem

/-- What the reference leaves, of the operands. -/
theorem reference_value (m : (ℓ : Loc Cert.ReferenceIdeal.nD Cert.ReferenceIdeal.τ Cert.ReferenceIdeal.sig) → Buf (Elt Ideal) ℓ)
    (c : Dev Cert.ReferenceIdeal.nD) {Qg : FVec Ideal Cert.KernelIdeal.S8x128x16384 .bf16} {Kg : FVec Ideal Cert.KernelIdeal.S8x16384x128 .bf16}
    {Vg : FVec Ideal Cert.KernelIdeal.S8x80x16384 .bf16}
    (hq : m ((c.tc : Thread Cert.ReferenceIdeal.nD Cert.ReferenceIdeal.τ).loc Cert.ReferenceIdeal.main_arg0) = Qg)
    (hk : m ((c.tc : Thread Cert.ReferenceIdeal.nD Cert.ReferenceIdeal.τ).loc Cert.ReferenceIdeal.main_arg1) = Kg)
    (hv : m ((c.tc : Thread Cert.ReferenceIdeal.nD Cert.ReferenceIdeal.τ).loc Cert.ReferenceIdeal.main_arg2) = Vg)
    (ok : Cert.Spec.Ok Qg Kg Vg) (q : Fin 16384) (col : Fin 512) :
    (Cert.ReferenceIdeal.Value.res_main_v26 (F := Ideal) m c : FVec Ideal Cert.ReferenceIdeal.S16384x512 .f32) (ix2 q col)
      = Cert.Spec.att Qg Kg Vg ⟨col.val / 64 % 8, by omega⟩ ⟨q.val % 16384, by omega⟩ ⟨col.val % 64, by omega⟩ := by
  subst hq; subst hk; subst hv
  refine (congrFun (Cert.ReferenceIdeal.Read.val_main_v26_eq m c) _).trans ?_
  refine (Cert.ReferenceIdeal.Read.v26_at _ _ _ ok q ⟨col.val / 64 % 8, by omega⟩ ⟨col.val % 64, by omega⟩ col
    (show col.val = 64 * (col.val / 64 % 8) + col.val % 64 by omega)).trans ?_
  exact Cert.KernelIdeal.Fox.att_congr _ _ _ rfl (Fin.ext (show q.val = q.val % 16384 by omega)) rfl

theorem algebraic : Cert.algebraic_KernelIdeal_ReferenceIdeal_pre_operands := by
  intro m g m' g' pre agree
  have ok : ∀ c, Cert.Spec.Ok (Cert.KernelIdeal.Fox.QG m c) (Cert.KernelIdeal.Fox.KG m c) (Cert.KernelIdeal.Fox.VG m c) :=
    fun c => Cert.Pre_operands.ok_of (pre c)
  refine ⟨fun c => Cert.KernelIdeal.Fox.result m c, Cert.KernelIdeal.Fox.value_run m ok g, ?_⟩
  refine (θ_run Cert.ReferenceIdeal.defs _ _).mono (fun r h c => ⟨(h c).1.trans ?_, (h c).2⟩) (Cert.ReferenceIdeal.Value.run (F := Ideal) m' g')
  obtain ⟨h0, h1, h2⟩ := agree c
  funext j
  refine (congrArg (Cert.ReferenceIdeal.Value.res_main_v26 (F := Ideal) m' c) (eq_ix2 (j : Cert.ReferenceIdeal.S16384x512.Idx))).trans ?_
  exact reference_value m' c h0 h1 h2 (ok c) _ _

end Cert.Proof
-- ==== Proof.Out.Row.lean ====
/- One row of the layer's output: the three mixers are gated, joined and projected, the product is normalised and added to the input row. -/
module

public import Idealize.ShloMosaic.Lib.Pipeline.ValueKit
public import Idealize.ShloMosaic.Lib.Pointwise
public import Idealize.ShloMosaic.Lib.WordCmp

@[expose] public section

set_option maxRecDepth 16384

noncomputable section

namespace Cert.Out

open Idealize.ShloMosaic Finset

/-- The gate's activation: `z` times the logistic of `z`. -/
def silu (z : EReal) : EReal := z * Ideal.div 1 (1 + Ideal.exp (-z))

/-- A head's column of the 256 memory columns. -/
def lane (h : Fin 4) (d : Fin 64) : Fin 256 := ⟨64 * h.val + d.val, by omega⟩

/-- A head's product of the row's query with a memory key. -/
def score (q : Fin 256 → EReal) (k : Fin 256 → Fin 256 → EReal) (h : Fin 4) (n : Fin 256) : EReal :=
  ∑ d : Fin 64, q (lane h d) * k n (lane h d)

/-- The weights of 256 scores, each an exponential over their sum. -/
def soft (s : Fin 256 → EReal) (n : Fin 256) : EReal :=
  Ideal.div (Ideal.exp (s n - univ.sup s)) (∑ n' : Fin 256, Ideal.exp (s n' - univ.sup s))

/-- The memory mixer at a column. -/
def mem (q : Fin 256 → EReal) (k v : Fin 256 → Fin 256 → EReal) (c : Fin 256) : EReal :=
  ∑ n : Fin 256, soft (score q k ⟨c.val / 64, by omega⟩) n * v n c

/-- The projection of the three gated mixers at a column. -/
def proj (fox fz : Fin 512 → EReal) (ret rz : Fin 256 → EReal) (mm mz : Fin 256 → EReal) (w : Fin 1024 → Fin 1024 → EReal) (c : Fin 1024) : EReal :=
  (∑ e : Fin 512, fox e * silu (fz e) * w ⟨e.val, by omega⟩ c) + (∑ e : Fin 256, ret e * silu (rz e) * w ⟨512 + e.val, by omega⟩ c)
    + ∑ e : Fin 256, mm e * silu (mz e) * w ⟨768 + e.val, by omega⟩ c

/-- The row's result: the input plus the projection over its root mean square, scaled. -/
def norm (x o g : Fin 1024 → EReal) (c : Fin 1024) : EReal :=
  x c + o c * Ideal.rsqrt (Ideal.div (∑ c' : Fin 1024, o c' * o c') (Ideal.ofBits .f32 0x44800000#32) + Ideal.ofBits .f32 0x358637BD#32) * g c

/-- The row's result from its ten operands. -/
def row (x : Fin 1024 → EReal) (fox fz : Fin 512 → EReal) (ret rz q mz : Fin 256 → EReal) (k v : Fin 256 → Fin 256 → EReal)
    (w : Fin 1024 → Fin 1024 → EReal) (g : Fin 1024 → EReal) (c : Fin 1024) : EReal :=
  norm x (proj fox fz ret rz (mem q k v) mz w) g c

theorem fold_max_eq {n : ℕ} (f : Fin n → EReal) : (univ : Finset (Fin n)).fold max (Ideal.ofBits .f32 0xFF800000#32) f = univ.sup f := by
  have e : Ideal.ofBits .f32 0xFF800000#32 = (⊥ : EReal) := by simp [Ideal.ofBits, Ideal.ieee]
  rw [e]; rfl

theorem ofBits_one : Ideal.ofBits .f32 0x3F800000#32 = (1 : EReal) := by
  simp [Ideal.ofBits, Ideal.ieee, -EReal.coe_mul]; norm_num

/-- The lane mask as a word, below lane 64. -/
theorem lane_lt {d : ℕ} (h : d < 64) : IntOp.cmpi .slt (BitVec.ofNat 32 d) 64#32 = 1#1 := by
  interval_cases d <;> decide

/-- The lane mask as a word, from lane 64 on. -/
theorem lane_ge {d : ℕ} (h : d < 64) : IntOp.cmpi .slt (BitVec.ofNat 32 (64 + d)) 64#32 = 0#1 := by
  interval_cases d <;> decide

/-- A sum over 128 lanes with the upper ones masked off is one over the lower 64. -/
theorem sum_low (f : Fin 128 → EReal) :
    ∑ d : Fin 128, Scalar.select (IntOp.cmpi .slt (BitVec.ofNat 32 d.val) 64#32) (f d) 0 = ∑ d : Fin 64, f ⟨d.val, by omega⟩ := by
  rw [Fin.sum_univ_two_halves 64 64 rfl]
  have h1 : ∑ d : Fin 64, Scalar.select (IntOp.cmpi .slt (BitVec.ofNat 32 (64 + d.val)) 64#32) (f ⟨64 + d.val, by omega⟩) 0 = 0 :=
    sum_eq_zero fun d _ => by rw [lane_ge d.isLt]; rfl
  refine (congrArg₂ (· + ·) (sum_congr rfl fun d _ => ?_) h1).trans (add_zero _)
  show Scalar.select (IntOp.cmpi .slt (BitVec.ofNat 32 d.val) 64#32) _ 0 = _
  rw [lane_lt d.isLt]; rfl

/-- A sum over 128 lanes with the lower ones masked off is one over the upper 64. -/
theorem sum_high (f : Fin 128 → EReal) :
    ∑ d : Fin 128, Scalar.select (IntOp.xori (IntOp.cmpi .slt (BitVec.ofNat 32 d.val) 64#32) 1#1) (f d) 0 = ∑ d : Fin 64, f ⟨64 + d.val, by omega⟩ := by
  rw [Fin.sum_univ_two_halves 64 64 rfl]
  have h0 : ∑ d : Fin 64, Scalar.select (IntOp.xori (IntOp.cmpi .slt (BitVec.ofNat 32 d.val) 64#32) 1#1) (f ⟨d.val, by omega⟩) 0 = 0 :=
    sum_eq_zero fun d _ => by rw [lane_lt d.isLt]; exact if_neg (by decide)
  refine (congrArg₂ (· + ·) h0 (sum_congr rfl fun d _ => ?_)).trans (zero_add _)
  show Scalar.select (IntOp.xori (IntOp.cmpi .slt (BitVec.ofNat 32 (64 + d.val)) 64#32) 1#1) _ 0 = _
  rw [lane_ge d.isLt]; exact if_pos (by decide)

end Cert.Out
-- ==== Proof.Out.Block.lean ====
/- The out call's body on one block: each row of the block it writes is the row function of the rows it reads. -/
module

public import proofs.«01_k».proof.Proof.Out.Row
public import proofs.«01_k».proof.Proof.Gen.Kernel2Ideal.Value

@[expose] public section

set_option maxRecDepth 16384

noncomputable section

namespace Cert.Out

open Idealize.ShloMosaic Finset
open Cert.Kernel2Ideal Cert.Kernel2Ideal.Gen

/-! ## Scores of the four heads -/

theorem pay3_at (q : FVec Ideal S1024x128 .bf16) (k : FVec Ideal S1x256x128 .bf16) (r : Fin 1024) (n : Fin 256) :
    k0_pay3 (F := Ideal) q k (ix2 r n) = ∑ d : Fin 64, q (ix2 r ⟨d.val, by omega⟩) * k (ix3 0 n ⟨d.val, by omega⟩) := by
  pointwise [k0_pay3, k0_pay2]
  exact sum_low fun d => q (ix2 r d) * k (ix3 0 n d)

theorem pay4_at (q : FVec Ideal S1024x128 .bf16) (k : FVec Ideal S1x256x128 .bf16) (r : Fin 1024) (n : Fin 256) :
    k0_pay4 (F := Ideal) q k (ix2 r n) = ∑ d : Fin 64, q (ix2 r ⟨64 + d.val, by omega⟩) * k (ix3 0 n ⟨64 + d.val, by omega⟩) := by
  pointwise [k0_pay4, k0_pay2]
  exact sum_high fun d => q (ix2 r d) * k (ix3 0 n d)

theorem pay5_eq : k0_pay5 (F := Ideal) = k0_pay3 (F := Ideal) := rfl
theorem pay6_eq : k0_pay6 (F := Ideal) = k0_pay4 (F := Ideal) := rfl

/-! ## The memory mixer -/

theorem pay8_at (s : FVec Ideal S1024x256 .f32) (v : FVec Ideal S1x256x128 .bf16) (r : Fin 1024) (c : Fin 128) :
    k0_pay8 (F := Ideal) s v (ix2 r c) = ∑ n : Fin 256, soft (fun n => s (ix2 r n)) n * v (ix3 0 n c) := by
  pointwise [k0_pay8]
  unfold soft
  simp only [fold_max_eq]

/-- The four heads' outputs side by side: a pair of heads shares 128 lanes, each head its half. -/
theorem pay9_eq (s1 s2 s3 : FVec Ideal S1024x256 .f32) (o : FVec Ideal S1024x128 .f32) (v1 v2 v3 : FVec Ideal S1x256x128 .bf16) :
    k0_pay9 (F := Ideal) k0_pay2 s1 s2 s3 o v1 v2 v3
      = concatenate S1024x256 1 [⟨S1024x128, select k0_pay2 o (k0_pay8 (F := Ideal) s1 v1)⟩,
          ⟨S1024x128, select k0_pay2 (k0_pay8 (F := Ideal) s2 v2) (k0_pay8 (F := Ideal) s3 v3)⟩] concatenates_S1024x128_S1024x128_S1024x256_d1 := rfl

theorem pay9_at (s1 s2 s3 : FVec Ideal S1024x256 .f32) (o : FVec Ideal S1024x128 .f32) (v1 v2 v3 : FVec Ideal S1x256x128 .bf16) (r : Fin 1024) (c : Fin 256) :
    k0_pay9 (F := Ideal) k0_pay2 s1 s2 s3 o v1 v2 v3 (ix2 r c)
      = if h : c.val < 128 then Scalar.select (IntOp.cmpi .slt (BitVec.ofNat 32 c.val) 64#32) (o (ix2 r ⟨c.val, h⟩)) (k0_pay8 (F := Ideal) s1 v1 (ix2 r ⟨c.val, h⟩))
        else Scalar.select (IntOp.cmpi .slt (BitVec.ofNat 32 (c.val - 128)) 64#32) (k0_pay8 (F := Ideal) s2 v2 (ix2 r ⟨c.val - 128, by omega⟩)) (k0_pay8 (F := Ideal) s3 v3 (ix2 r ⟨c.val - 128, by omega⟩)) := by
  rw [pay9_eq]
  generalize k0_pay8 (F := Ideal) s1 v1 = a1
  generalize k0_pay8 (F := Ideal) s2 v2 = a2
  generalize k0_pay8 (F := Ideal) s3 v3 = a3
  pointwise [k0_pay2]

/-! ## The two products with the output weights -/

theorem pay7_at (fox fz : FVec Ideal S1024x512 .f32) (ret rz : FVec Ideal S1024x256 .f32) (w : FVec Ideal S1x768x1024 .bf16) (r c : Fin 1024) :
    k0_pay7 (F := Ideal) fox fz ret rz w (ix2 r c)
      = (∑ e : Fin 512, fox (ix2 r e) * silu (fz (ix2 r e)) * w (ix3 0 ⟨e.val, by omega⟩ c))
        + ∑ e : Fin 256, ret (ix2 r e) * silu (rz (ix2 r e)) * w (ix3 0 ⟨512 + e.val, by omega⟩ c) := by
  pointwise [k0_pay7]
  simp only [silu, zero_sub]

theorem pay1_at (p : FVec Ideal S1024x1024 .f32) (mm mz : FVec Ideal S1024x256 .f32) (w : FVec Ideal S1x256x1024 .bf16) (x : FVec Ideal S1024x1024 .f32)
    (g : FVec Ideal S1x1024 .f32) (r c : Fin 1024) :
    k0_pay1 (F := Ideal) p mm mz w x g (ix2 r c)
      = norm (fun c => x (ix2 r c)) (fun c => p (ix2 r c) + ∑ e : Fin 256, mm (ix2 r e) * silu (mz (ix2 r e)) * w (ix3 0 e c)) (fun c => g (ix2 0 c)) c := by
  pointwise [k0_pay1]
  simp only [norm, silu, zero_sub]

/-! ## A row of the block -/

theorem soft_congr {s s' : Fin 256 → EReal} {v v' : Fin 256 → EReal} (hs : ∀ n, s n = s' n) (hv : ∀ n, v n = v' n) :
    ∑ n : Fin 256, soft s n * v n = ∑ n : Fin 256, soft s' n * v' n := by
  rw [funext hs, funext hv]

section Block

variable {q : FVec Ideal S1024x256 .bf16} {k v : FVec Ideal S1x256x256 .bf16}
variable {qA qB : FVec Ideal S1024x128 .bf16} {kA kB vA vB : FVec Ideal S1x256x128 .bf16}

/-- The memory mixer's columns, from the two pairs of heads. -/
theorem mem_at (hqA : ∀ r (c : Fin 128), qA (ix2 r c) = q (ix2 r ⟨c.val, by omega⟩)) (hqB : ∀ r (c : Fin 128), qB (ix2 r c) = q (ix2 r ⟨128 + c.val, by omega⟩))
    (hkA : ∀ n (c : Fin 128), kA (ix3 0 n c) = k (ix3 0 n ⟨c.val, by omega⟩)) (hkB : ∀ n (c : Fin 128), kB (ix3 0 n c) = k (ix3 0 n ⟨128 + c.val, by omega⟩))
    (hvA : ∀ n (c : Fin 128), vA (ix3 0 n c) = v (ix3 0 n ⟨c.val, by omega⟩)) (hvB : ∀ n (c : Fin 128), vB (ix3 0 n c) = v (ix3 0 n ⟨128 + c.val, by omega⟩))
    (r : Fin 1024) (c : Fin 256) :
    k0_pay9 (F := Ideal) k0_pay2 (k0_pay4 (F := Ideal) qA kA) (k0_pay5 (F := Ideal) qB kB) (k0_pay6 (F := Ideal) qB kB)
        (k0_pay8 (F := Ideal) (k0_pay3 (F := Ideal) qA kA) vA) vA vB vB (ix2 r c)
      = mem (fun e => q (ix2 r e)) (fun n e => k (ix3 0 n e)) (fun n e => v (ix3 0 n e)) c := by
  rw [pay9_at, pay5_eq, pay6_eq]
  unfold mem
  by_cases h : c.val < 128
  · rw [dif_pos h]
    by_cases h' : c.val < 64
    · rw [lane_lt h']
      refine (pay8_at _ _ _ _).trans (soft_congr (fun n => ?_) fun n => ?_)
      · rw [pay3_at]
        refine sum_congr rfl fun d _ => ?_
        rw [hqA, hkA]
        have e : (⟨d.val, by omega⟩ : Fin 256) = lane ⟨c.val / 64, by omega⟩ d := Fin.ext (show d.val = 64 * (c.val / 64) + d.val by omega)
        exact congrArg₂ (· * ·) (congrArg (fun e => q (ix2 r e)) e) (congrArg (fun e => k (ix3 0 n e)) e)
      · exact hvA _ _
    · have e0 : c.val = 64 + (c.val - 64) := by omega
      have e1 : IntOp.cmpi .slt (BitVec.ofNat 32 c.val) 64#32 = 0#1 := by
        rw [e0]; exact lane_ge (show c.val - 64 < 64 by omega)
      rw [e1]
      refine (pay8_at _ _ _ _).trans (soft_congr (fun n => ?_) fun n => ?_)
      · rw [pay4_at]
        refine sum_congr rfl fun d _ => ?_
        rw [hqA, hkA]
        have e : (⟨64 + d.val, by omega⟩ : Fin 256) = lane ⟨c.val / 64, by omega⟩ d := Fin.ext (show 64 + d.val = 64 * (c.val / 64) + d.val by omega)
        exact congrArg₂ (· * ·) (congrArg (fun e => q (ix2 r e)) e) (congrArg (fun e => k (ix3 0 n e)) e)
      · exact hvA _ _
  · have hc : (⟨128 + (c.val - 128), by omega⟩ : Fin 256) = c := Fin.ext (show 128 + (c.val - 128) = c.val by omega)
    rw [dif_neg h]
    by_cases h' : c.val - 128 < 64
    · rw [lane_lt h']
      refine (pay8_at _ _ _ _).trans (soft_congr (fun n => ?_) fun n => ?_)
      · rw [pay3_at]
        refine sum_congr rfl fun d _ => ?_
        rw [hqB, hkB]
        have e : (⟨128 + d.val, by omega⟩ : Fin 256) = lane ⟨c.val / 64, by omega⟩ d := Fin.ext (show 128 + d.val = 64 * (c.val / 64) + d.val by omega)
        exact congrArg₂ (· * ·) (congrArg (fun e => q (ix2 r e)) e) (congrArg (fun e => k (ix3 0 n e)) e)
      · exact (hvB _ _).trans (congrArg (fun e => v (ix3 0 n e)) hc)
    · have e0 : c.val - 128 = 64 + (c.val - 128 - 64) := by omega
      have e1 : IntOp.cmpi .slt (BitVec.ofNat 32 (c.val - 128)) 64#32 = 0#1 := by
        rw [e0]; exact lane_ge (show c.val - 128 - 64 < 64 by omega)
      rw [e1]
      refine (pay8_at _ _ _ _).trans (soft_congr (fun n => ?_) fun n => ?_)
      · rw [pay4_at]
        refine sum_congr rfl fun d _ => ?_
        rw [hqB, hkB]
        have e : (⟨128 + (64 + d.val), by omega⟩ : Fin 256) = lane ⟨c.val / 64, by omega⟩ d := Fin.ext (show 128 + (64 + d.val) = 64 * (c.val / 64) + d.val by omega)
        exact congrArg₂ (· * ·) (congrArg (fun e => q (ix2 r e)) e) (congrArg (fun e => k (ix3 0 n e)) e)
      · exact (hvB _ _).trans (congrArg (fun e => v (ix3 0 n e)) hc)

end Block

theorem norm_congr {x x' o o' g g' : Fin 1024 → EReal} (hx : ∀ c, x c = x' c) (ho : ∀ c, o c = o' c) (hg : ∀ c, g c = g' c) (c : Fin 1024) :
    norm x o g c = norm x' o' g' c := by
  rw [funext hx, funext ho, funext hg]

theorem gate_congr {n : ℕ} {a a' z z' w w' : Fin n → EReal} (ha : ∀ e, a e = a' e) (hz : ∀ e, z e = z' e) (hw : ∀ e, w e = w' e) :
    ∑ e : Fin n, a e * silu (z e) * w e = ∑ e : Fin n, a' e * silu (z' e) * w' e := by
  rw [funext ha, funext hz, funext hw]

/-- The block the call writes, a row of it at a time. -/
theorem out_at (x0 : FVec Ideal S1024x1024 .f32) (x1 x2 : FVec Ideal S1024x512 .f32) (x3 x4 : FVec Ideal S1024x256 .f32) (x5 : FVec Ideal S1024x256 .bf16)
    (x6 : FVec Ideal S1024x256 .f32) (x7 x8 : FVec Ideal S1x256x256 .bf16) (x9 : FVec Ideal S1x1024x1024 .bf16) (x10 : FVec Ideal S1x1024 .f32) (r c : Fin 1024) :
    (out0_11 (F := Ideal) x0 x1 x2 x3 x4 x5 x6 x7 x8 x9 x10 : FVec Ideal S1024x1024 .f32) (ix2 r c)
      = row (fun c => x0 (ix2 r c)) (fun e => x1 (ix2 r e)) (fun e => x2 (ix2 r e)) (fun e => x3 (ix2 r e)) (fun e => x4 (ix2 r e)) (fun e => x5 (ix2 r e))
          (fun e => x6 (ix2 r e)) (fun n e => x7 (ix3 0 n e)) (fun n e => x8 (ix3 0 n e)) (fun e c => x9 (ix3 0 e c)) (fun c => x10 (ix2 0 c)) c := by
  unfold out0_11
  have z2 : (![0, 0] : Fin 2 → ℕ) = fun _ => 0 := by funext a; fin_cases a <;> rfl
  refine (congrFun (View.canon_unit_zero (S := S1024x1024) (off := ![0, 0]) z2 inb_S1024x1024_S1024x1024_0_0 _) (ix2 r c)).trans ?_
  refine (pay1_at _ _ _ _ _ _ _ _).trans ?_
  refine norm_congr (fun c => congrArg x0 (by idx_ext)) (fun c => ?_) (fun c => congrArg x10 (by idx_ext)) c
  refine congrArg₂ (· + ·) ((pay7_at _ _ _ _ _ _ _).trans (congrArg₂ (· + ·) ?_ ?_)) ?_
  · exact gate_congr (fun e => congrArg x1 (by idx_ext)) (fun e => congrArg x2 (by idx_ext)) fun e => congrArg x9 (by idx_ext)
  · exact gate_congr (fun e => congrArg x3 (by idx_ext)) (fun e => congrArg x4 (by idx_ext)) fun e => congrArg x9 (by idx_ext)
  · refine gate_congr (fun e => ?_) (fun e => congrArg x6 (by idx_ext)) fun e => congrArg x9 (by idx_ext)
    exact mem_at (q := x5) (k := x7) (v := x8) (fun r c => congrArg x5 (by idx_ext)) (fun r c => congrArg x5 (by idx_ext)) (fun n c => congrArg x7 (by idx_ext))
      (fun n c => congrArg x7 (by idx_ext)) (fun n c => congrArg x8 (by idx_ext)) (fun n c => congrArg x8 (by idx_ext)) r e

end Cert.Out
-- ==== Proof.Out.Value.lean ====
/- The out call's result: every grid point writes its 1024 rows, each by the row function. -/
module

public import proofs.«01_k».proof.Proof.Out.Block

@[expose] public section

set_option maxRecDepth 16384

noncomputable section

namespace Cert.Kernel2Ideal.Out

open Idealize.ShloMosaic Idealize.ShloMosaic.TcCoe Idealize.SL.Sem Finset
open Idealize.ShloMosaic.Pipeline (Dat)
open Cert.Kernel2Ideal Cert.Kernel2Ideal.Gen
open Cert.Out

variable (m : (ℓ : Loc nD τ sig) → Buf (Elt Ideal) ℓ)

/-- The operands as the call is given them. -/
def A0 (c : Dev nD) : FVec Ideal S16384x1024 .f32 := m ((c.tc : Thread nD τ).loc main_arg0)
def A1 (c : Dev nD) : FVec Ideal S16384x512 .f32 := m ((c.tc : Thread nD τ).loc main_arg1)
def A2 (c : Dev nD) : FVec Ideal S16384x512 .f32 := m ((c.tc : Thread nD τ).loc main_arg2)
def A3 (c : Dev nD) : FVec Ideal S16384x256 .f32 := m ((c.tc : Thread nD τ).loc main_arg3)
def A4 (c : Dev nD) : FVec Ideal S16384x256 .f32 := m ((c.tc : Thread nD τ).loc main_arg4)
def A5 (c : Dev nD) : FVec Ideal S16384x256 .bf16 := m ((c.tc : Thread nD τ).loc main_arg5)
def A6 (c : Dev nD) : FVec Ideal S16384x256 .f32 := m ((c.tc : Thread nD τ).loc main_arg6)
def A7 (c : Dev nD) : FVec Ideal S4x256x256 .bf16 := m ((c.tc : Thread nD τ).loc main_arg7)
def A8 (c : Dev nD) : FVec Ideal S4x256x256 .bf16 := m ((c.tc : Thread nD τ).loc main_arg8)
def A9 (c : Dev nD) : FVec Ideal S4x1024x1024 .f32 := m ((c.tc : Thread nD τ).loc main_arg9)
def A10 (c : Dev nD) : FVec Ideal S4x1024 .f32 := m ((c.tc : Thread nD τ).loc main_arg10)

/-- The result array. -/
def result (c : Dev nD) : FVec Ideal S16384x1024 .f32 := fun j =>
  row (fun e => A0 m c (ix2 (j 0) e)) (fun e => A1 m c (ix2 (j 0) e)) (fun e => A2 m c (ix2 (j 0) e)) (fun e => A3 m c (ix2 (j 0) e)) (fun e => A4 m c (ix2 (j 0) e))
    (fun e => A5 m c (ix2 (j 0) e)) (fun e => A6 m c (ix2 (j 0) e)) (fun n e => A7 m c (ix3 3 n e)) (fun n e => A8 m c (ix3 3 n e)) (fun e d => A9 m c (ix3 3 e d))
    (fun d => A10 m c (ix2 3 d)) (j 1)

/-- The weights reach the call narrowed, which changes no value. -/
theorem V_v0 (c : Dev nD) : V m c main_v0 = A9 m c := by
  entry_read
  rfl

/-- The scale row reaches the call cut out of its table. -/
theorem V_v3 (c : Dev nD) (d : Fin 1024) : (V m c main_v3 : FVec Ideal S1x1024 .f32) (ix2 0 d) = A10 m c (ix2 3 d) := by
  unfold A10
  entry_read
  pointwise

theorem row_congr {x x' : Fin 1024 → EReal} {fox fox' fz fz' : Fin 512 → EReal} {ret ret' rz rz' q q' mz mz' : Fin 256 → EReal}
    {k k' v v' : Fin 256 → Fin 256 → EReal} {w w' : Fin 1024 → Fin 1024 → EReal} {g g' : Fin 1024 → EReal} {c c' : Fin 1024}
    (h0 : ∀ e, x e = x' e) (h1 : ∀ e, fox e = fox' e) (h2 : ∀ e, fz e = fz' e) (h3 : ∀ e, ret e = ret' e) (h4 : ∀ e, rz e = rz' e) (h5 : ∀ e, q e = q' e)
    (h6 : ∀ e, mz e = mz' e) (h7 : ∀ n e, k n e = k' n e) (h8 : ∀ n e, v n e = v' n e) (h9 : ∀ e d, w e d = w' e d) (h10 : ∀ d, g d = g' d) (hc : c = c') :
    row x fox fz ret rz q mz k v w g c = row x' fox' fz' ret' rz' q' mz' k' v' w' g' c' := by
  rw [funext h0, funext h1, funext h2, funext h3, funext h4, funext h5, funext h6, funext fun n => funext (h7 n), funext fun n => funext (h8 n),
    funext fun e => funext (h9 e), funext h10, hc]

/-- Where the blocks lie: the rows move with the grid, the tables stay at the last layer. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![3, 0, 0] ∧ win0_8.index t = ![3, 0, 0] ∧ win0_9.index t = ![3, 0, 0] ∧ win0_10.index t = ![0, 0] ∧ win0_11.index t = ![t.val, 0] :=
  (by decide +kernel : ∀ t : Fin grid0.N, _)

section Reads

variable (c : Dev nD) (t : Fin cfg0.N) (r : Fin 1024)

/-- The array row a block row is. -/
def pos (t : Fin cfg0.N) (r : Fin 1024) : Fin 16384 := ⟨t.val * 1024 + r.val, by have : t.val < 16 := t.isLt; omega⟩

theorem read0 (e : Fin 1024) : (iblk m c 0 t : FVec Ideal S1024x1024 .f32) (ix2 r e) = A0 m c (ix2 (pos t r) e) := by
  unfold A0 pos; blk_ext [iblk, V, idx t]
theorem read1 (e : Fin 512) : (iblk m c 1 t : FVec Ideal S1024x512 .f32) (ix2 r e) = A1 m c (ix2 (pos t r) e) := by
  unfold A1 pos; blk_ext [iblk, V, idx t]
theorem read2 (e : Fin 512) : (iblk m c 2 t : FVec Ideal S1024x512 .f32) (ix2 r e) = A2 m c (ix2 (pos t r) e) := by
  unfold A2 pos; blk_ext [iblk, V, idx t]
theorem read3 (e : Fin 256) : (iblk m c 3 t : FVec Ideal S1024x256 .f32) (ix2 r e) = A3 m c (ix2 (pos t r) e) := by
  unfold A3 pos; blk_ext [iblk, V, idx t]
theorem read4 (e : Fin 256) : (iblk m c 4 t : FVec Ideal S1024x256 .f32) (ix2 r e) = A4 m c (ix2 (pos t r) e) := by
  unfold A4 pos; blk_ext [iblk, V, idx t]
theorem read5 (e : Fin 256) : (iblk m c 5 t : FVec Ideal S1024x256 .bf16) (ix2 r e) = A5 m c (ix2 (pos t r) e) := by
  unfold A5 pos; blk_ext [iblk, V, idx t]
theorem read6 (e : Fin 256) : (iblk m c 6 t : FVec Ideal S1024x256 .f32) (ix2 r e) = A6 m c (ix2 (pos t r) e) := by
  unfold A6 pos; blk_ext [iblk, V, idx t]
theorem read7 (n e : Fin 256) : (iblk m c 7 t : FVec Ideal S1x256x256 .bf16) (ix3 0 n e) = A7 m c (ix3 3 n e) := by
  unfold A7; blk_ext [iblk, V, idx t]
theorem read8 (n e : Fin 256) : (iblk m c 8 t : FVec Ideal S1x256x256 .bf16) (ix3 0 n e) = A8 m c (ix3 3 n e) := by
  unfold A8; blk_ext [iblk, V, idx t]
theorem read9 (e d : Fin 1024) : (iblk m c 9 t : FVec Ideal S1x1024x1024 .bf16) (ix3 0 e d) = A9 m c (ix3 3 e d) := by
  refine Eq.trans ?_ (congrFun (V_v0 m c) _)
  generalize hX : V m c main_v0 = X
  have e : (iblk m c 9 t : FVec Ideal S1x1024x1024 .bf16) (ix3 0 e d) = X (((cfg0.win 9).blk t).view.emb (ix3 0 e d)) := by rw [← hX]; rfl
  refine e.trans ?_
  blk_ext [idx t]
theorem read10 (d : Fin 1024) : (iblk m c 10 t : FVec Ideal S1x1024 .f32) (ix2 0 d) = A10 m c (ix2 3 d) := by
  refine Eq.trans ?_ (V_v3 m c d)
  generalize hX : V m c main_v3 = X
  have e : (iblk m c 10 t : FVec Ideal S1x1024 .f32) (ix2 0 d) = X (((cfg0.win 10).blk t).view.emb (ix2 0 d)) := by rw [← hX]; rfl
  refine e.trans ?_
  blk_ext [idx t]

end Reads

theorem final (c : Dev nD) : (dats m 0 c).arrAt 11 cfg0.N = result m c := by
  refine Dat.arrAt_eq_of_covers (dats m 0 c) 11 (result m c) (by decide +kernel : (cfg0.win 11).Covers) fun t hf y => ?_
  blk_simp
  rw [after0_11]
  refine (congrArg (out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t)) (eq_ix2 (y : S1024x1024.Idx))).trans ((out_at _ _ _ _ _ _ _ _ _ _ _ _ _).trans ?_)
  unfold result
  have hp : (win0_11.blk t).view.emb y 0 = pos t (y 0) := by refine Fin.ext ?_; unfold pos; blk_simp [idx t]
  have hd : (win0_11.blk t).view.emb y 1 = y 1 := by refine Fin.ext ?_; blk_simp [idx t]
  rw [hp]
  exact row_congr (read0 m c t _) (read1 m c t _) (read2 m c t _) (read3 m c t _) (read4 m c t _) (read5 m c t _) (read6 m c t _) (read7 m c t) (read8 m c t)
    (read9 m c t) (read10 m c t) hd.symm

end Cert.Kernel2Ideal.Out
-- ==== Proof.Out.Reference.lean ====
/- The out call's reference, read: a row of its result is the row function of the operands' rows, with the last layer's tables. -/
module

public import proofs.«01_k».proof.Proof.Out.Row
public import proofs.«01_k».proof.Proof.Gen.Reference2Ideal.Read

@[expose] public section

set_option maxRecDepth 16384

noncomputable section

namespace Cert.Reference2Ideal.Read

open Idealize.ShloMosaic Finset
open Cert.Out

variable (x0 : FVec Ideal S16384x1024 .f32) (x1 x2 : FVec Ideal S16384x512 .f32) (x3 x4 : FVec Ideal S16384x256 .f32) (x5 : FVec Ideal S16384x256 .bf16)
  (x6 : FVec Ideal S16384x256 .f32) (x7 x8 : FVec Ideal S4x256x256 .bf16) (x9 : FVec Ideal S4x1024x1024 .f32) (x10 : FVec Ideal S4x1024 .f32)

theorem v1_at (q : Fin 16384) (h : Fin 4) (d : Fin 64) : val_main_v1 (F := Ideal) x5 (ix3 q h d) = x5 (ix2 q (lane h d)) := by
  rw [val_main_v1_apply]
  exact congrArg x5 (by unfold lane; idx_ext)

theorem v5_at (n : Fin 256) (h : Fin 4) (d : Fin 64) : val_main_v5 (F := Ideal) x7 (ix3 n h d) = x7 (ix3 3 n (lane h d)) := by
  rw [val_main_v5_apply, val_main_v4_apply, val_main_v3_apply]
  exact congrArg x7 (by unfold lane; idx_ext)

theorem v9_at (n : Fin 256) (h : Fin 4) (d : Fin 64) : val_main_v9 (F := Ideal) x8 (ix3 n h d) = x8 (ix3 3 n (lane h d)) := by
  rw [val_main_v9_apply, val_main_v8_apply, val_main_v7_apply]
  exact congrArg x8 (by unfold lane; idx_ext)

/-- The scores of a row against the memory. -/
theorem v10_at (h : Fin 4) (q : Fin 16384) (n : Fin 256) :
    val_main_v10 (F := Ideal) x5 x7 (ix3 h q n) = score (fun e => x5 (ix2 q e)) (fun n e => x7 (ix3 3 n e)) h n := by
  rw [val_main_v10_apply]
  refine sum_congr rfl fun d _ => congrArg₂ (· * ·) ?_ ?_
  · exact (congrArg _ (show lidx_main_v10 (ix3 h q n) d = ix3 q h d by idx_ext)).trans (v1_at x5 q h d)
  · exact (congrArg _ (show ridx_main_v10 (ix3 h q n) d = ix3 n h d by idx_ext)).trans (v5_at x7 n h d)

theorem v11_at (h : Fin 4) (q : Fin 16384) :
    val_main_v11 (F := Ideal) x5 x7 (ix2 h q) = univ.sup fun n : Fin 256 => val_main_v10 (F := Ideal) x5 x7 (ix3 h q n) := by
  unfold val_main_v11
  generalize val_main_v10 (F := Ideal) x5 x7 = y
  pointwise [val_main_cst]
  exact fold_max_eq _

theorem v15_at (h : Fin 4) (q : Fin 16384) (n : Fin 256) :
    val_main_v15 (F := Ideal) x5 x7 (ix3 h q n)
      = Ideal.exp (val_main_v10 (F := Ideal) x5 x7 (ix3 h q n) - univ.sup fun n : Fin 256 => val_main_v10 (F := Ideal) x5 x7 (ix3 h q n)) := by
  rw [val_main_v15_apply, val_main_v14_apply, val_main_v13_apply, val_main_v12_apply, ← v11_at]
  exact congrArg (fun j => Ideal.exp (val_main_v10 (F := Ideal) x5 x7 (ix3 h q n) - val_main_v11 (F := Ideal) x5 x7 j)) (by idx_ext)

/-- The memory's weights for a row. -/
theorem v19_at (h : Fin 4) (q : Fin 16384) (n : Fin 256) :
    val_main_v19 (F := Ideal) x5 x7 (ix3 h q n) = soft (fun n => val_main_v10 (F := Ideal) x5 x7 (ix3 h q n)) n := by
  rw [val_main_v19_apply, val_main_v18_apply, val_main_v17_apply, val_main_v16_apply, v15_at]
  refine congrArg (Ideal.div _) ((congrArg₂ (· + ·) (show val_main_cst_0 (F := Ideal) _ = (0 : EReal) by unfold val_main_cst_0; exact Ideal.ofBits_zero .f32) (sum_congr rfl fun n' _ => ?_)).trans (zero_add _))
  refine (congrArg _ (show _ = ix3 h q n' by idx_ext)).trans (v15_at x5 x7 h q n')

/-- The memory mixer. -/
theorem v22_at (q : Fin 16384) (c : Fin 256) :
    val_main_v22 (F := Ideal) x5 x7 x8 (ix2 q c) = mem (fun e => x5 (ix2 q e)) (fun n e => x7 (ix3 3 n e)) (fun n e => x8 (ix3 3 n e)) c := by
  have hc := c.isLt
  rw [val_main_v22_apply, val_main_v21_apply]
  refine (congrArg _ (show _ = (ix3 (⟨c.val / 64, by omega⟩ : Fin 4) (⟨c.val % 64, by omega⟩ : Fin 64) q) by idx_ext)).trans ?_
  rw [val_main_v20_apply]
  refine sum_congr rfl fun n _ => (mul_comm (_ : EReal) _).trans (congrArg₂ (· * ·) ?_ ?_)
  · refine (congrArg _ (show ridx_main_v20 _ n = ix3 _ q n by idx_ext)).trans ((v19_at x5 x7 _ q n).trans ?_)
    exact congrArg (fun s => soft s n) (funext fun n => v10_at x5 x7 _ q n)
  · refine (congrArg _ (show lidx_main_v20 _ n = ix3 n _ _ by idx_ext)).trans ((v9_at x8 n _ _).trans ?_)
    exact congrArg (fun e => x8 (ix3 3 n e)) (Fin.ext (show 64 * (c.val / 64) + c.val % 64 = c.val by omega))

theorem gate_fox (q : Fin 16384) (e : Fin 512) : val_main_v24 (F := Ideal) x1 x2 (ix2 q e) = x1 (ix2 q e) * silu (x2 (ix2 q e)) := by
  pointwise [val_main_v24, val_main_v23, val_main_call0_v5, val_main_call0_v4, val_main_call0_v3, val_main_call0_v2, val_main_call0_v1, val_main_call0_v0, val_main_call0_cst, val_main_call0_cst_0]
  rfl

theorem gate_ret (q : Fin 16384) (e : Fin 256) : val_main_v26 (F := Ideal) x3 x4 (ix2 q e) = x3 (ix2 q e) * silu (x4 (ix2 q e)) := by
  pointwise [val_main_v26, val_main_v25, val_main_call1_v5, val_main_call1_v4, val_main_call1_v3, val_main_call1_v2, val_main_call1_v1, val_main_call1_v0, val_main_call1_cst, val_main_call1_cst_0]
  rfl

theorem gate_mem (q : Fin 16384) (e : Fin 256) :
    val_main_v28 (F := Ideal) x5 x6 x7 x8 (ix2 q e)
      = mem (fun e => x5 (ix2 q e)) (fun n e => x7 (ix3 3 n e)) (fun n e => x8 (ix3 3 n e)) e * silu (x6 (ix2 q e)) := by
  rw [← v22_at]
  unfold val_main_v28
  generalize val_main_v22 (F := Ideal) x5 x7 x8 = y
  pointwise [val_main_v27, val_main_call2_v5, val_main_call2_v4, val_main_call2_v3, val_main_call2_v2, val_main_call2_v1, val_main_call2_v0, val_main_call2_cst, val_main_call2_cst_0]
  rfl

/-- The projection. -/
theorem v32_at (q : Fin 16384) (c : Fin 1024) :
    val_main_v32 (F := Ideal) x1 x2 x3 x4 x5 x6 x7 x8 x9 (ix2 q c)
      = proj (fun e => x1 (ix2 q e)) (fun e => x2 (ix2 q e)) (fun e => x3 (ix2 q e)) (fun e => x4 (ix2 q e))
          (mem (fun e => x5 (ix2 q e)) (fun n e => x7 (ix3 3 n e)) (fun n e => x8 (ix3 3 n e))) (fun e => x6 (ix2 q e)) (fun e c => x9 (ix3 3 e c)) c := by
  unfold proj
  simp only [← gate_fox, ← gate_ret, ← gate_mem x5 x6 x7 x8]
  unfold val_main_v32 val_main_v29
  generalize val_main_v24 (F := Ideal) x1 x2 = y0
  generalize val_main_v26 (F := Ideal) x3 x4 = y1
  generalize val_main_v28 (F := Ideal) x5 x6 x7 x8 = y2
  pointwise [val_main_v31, val_main_v30]
  rw [Fin.sum_univ_two_halves 768 256 rfl, Fin.sum_univ_two_halves 512 256 rfl]
  refine congrArg₂ (· + ·) (congrArg₂ (· + ·) (sum_congr rfl fun e _ => ?_) (sum_congr rfl fun e _ => ?_)) (sum_congr rfl fun e _ => ?_)
  · have he := e.isLt
    exact congrArg (· * _) (dif_pos he)
  · have he := e.isLt
    refine congrArg (· * _) ((dif_neg (show ¬ 512 + e.val < 512 by omega)).trans ((dif_pos (show 512 + e.val - 512 < 256 by omega)).trans ?_))
    exact congrArg (fun e => y1 (ix2 q e)) (Fin.ext (show 512 + e.val - 512 = e.val by omega))
  · have he := e.isLt
    refine congrArg (· * _) ((dif_neg (show ¬ 768 + e.val < 512 by omega)).trans ((dif_neg (show ¬ 768 + e.val - 512 < 256 by omega)).trans ?_))
    exact congrArg (fun e => y2 (ix2 q e)) (Fin.ext (show 768 + e.val - 512 - 256 = e.val by omega))

/-- The result. -/
theorem v48_at (q : Fin 16384) (c : Fin 1024) :
    val_main_v48 (F := Ideal) x0 x1 x2 x3 x4 x5 x6 x7 x8 x9 x10 (ix2 q c)
      = row (fun c => x0 (ix2 q c)) (fun e => x1 (ix2 q e)) (fun e => x2 (ix2 q e)) (fun e => x3 (ix2 q e)) (fun e => x4 (ix2 q e)) (fun e => x5 (ix2 q e))
          (fun e => x6 (ix2 q e)) (fun n e => x7 (ix3 3 n e)) (fun n e => x8 (ix3 3 n e)) (fun e c => x9 (ix3 3 e c)) (fun c => x10 (ix2 3 c)) c := by
  have ho : proj (fun e => x1 (ix2 q e)) (fun e => x2 (ix2 q e)) (fun e => x3 (ix2 q e)) (fun e => x4 (ix2 q e))
          (mem (fun e => x5 (ix2 q e)) (fun n e => x7 (ix3 3 n e)) (fun n e => x8 (ix3 3 n e))) (fun e => x6 (ix2 q e)) (fun e c => x9 (ix3 3 e c))
      = fun c => val_main_v32 (F := Ideal) x1 x2 x3 x4 x5 x6 x7 x8 x9 (ix2 q c) := funext fun c => (v32_at x1 x2 x3 x4 x5 x6 x7 x8 x9 q c).symm
  unfold row
  rw [ho]
  unfold val_main_v48 val_main_v47 val_main_v42 val_main_v41 val_main_v40 val_main_v39 val_main_v37 val_main_v35 val_main_v34 val_main_v33
  generalize val_main_v32 (F := Ideal) x1 x2 x3 x4 x5 x6 x7 x8 x9 = y
  pointwise [val_main_v46, val_main_v45, val_main_v44, val_main_v43, val_main_v38, val_main_v36, val_main_cst_1, val_main_cst_2, val_main_cst_3]
  rfl

end Cert.Reference2Ideal.Read
-- ==== Proof.Out.Algebraic.lean ====
/- The out call's value claim: the ideal call and its ideal reference end with equal results. -/
module

public import proofs.«01_k».proof.Defs
public import proofs.«01_k».proof.Proof.Out.Value
public import proofs.«01_k».proof.Proof.Out.Reference
public import proofs.«01_k».proof.Proof.Gen.Reference2Ideal.Run

@[expose] public section

set_option maxRecDepth 16384

noncomputable section

namespace Cert.Proof.Out

open Idealize.ShloMosaic Idealize.ShloMosaic.TcCoe Idealize.SL.Sem
open Cert.Kernel2Ideal.Out

theorem algebraic : Cert.algebraic_Kernel2Ideal_Reference2Ideal := by
  intro m g m' g' _ agree
  refine ⟨fun c => result m c,
    (θ_run Cert.Kernel2Ideal.defs _ _).mono (fun _ h c => ⟨(h c).1.trans (final m c), (h c).2⟩) (Cert.Kernel2Ideal.Value.run_blocks (F := Ideal) m g), ?_⟩
  refine (θ_run Cert.Reference2Ideal.defs _ _).mono (fun r h c => ⟨(h c).1.trans ?_, (h c).2⟩) (Cert.Reference2Ideal.Value.run (F := Ideal) m' g')
  obtain ⟨h0, h1, h2, h3, h4, h5, h6, h7, h8, h9, h10⟩ := agree c
  refine (Cert.Reference2Ideal.Read.val_main_v48_eq m' c).trans ?_
  rw [h0, h1, h2, h3, h4, h5, h6, h7, h8, h9, h10]
  funext j
  refine (congrArg (Cert.Reference2Ideal.Read.val_main_v48 (F := Ideal) (A0 m c) (A1 m c) (A2 m c) (A3 m c) (A4 m c) (A5 m c) (A6 m c) (A7 m c) (A8 m c) (A9 m c) (A10 m c))
    (eq_ix2 (j : Cert.Reference2Ideal.S16384x1024.Idx))).trans ?_
  exact Cert.Reference2Ideal.Read.v48_at _ _ _ _ _ _ _ _ _ _ _ _ _

end Cert.Proof.Out
-- ==== Proof.Proj.Row.lean ====
/- One row of the projection call, over the extended reals: the norm, the projection, the packed value. -/
module

public import Idealize.ShloMosaic.Lib.Pipeline.ValueKit
public import Idealize.ShloMosaic.Lib.Pointwise
public import Idealize.ShloMosaic.Lib.WordCmp

@[expose] public section

noncomputable section

namespace Cert.Proj

open Idealize.ShloMosaic Finset

/-- The normed row: divided by the root of its mean square, scaled lane by lane. -/
def nrm (x g : Fin 1024 → EReal) (e : Fin 1024) : EReal :=
  x e * Ideal.rsqrt (Ideal.div (∑ c : Fin 1024, x c * x c) (Ideal.ofBits .f32 0x44800000#32) + Ideal.ofBits .f32 0x358637BD#32) * g e

/-- The row's projection, all columns. -/
def proj (x g : Fin 1024 → EReal) (w : Fin 1024 → Fin 3592 → EReal) (e : Fin 3592) : EReal :=
  ∑ c : Fin 1024, nrm x g c * w c e

/-- A head's packed value: its 64 lanes, a lane of ones, lanes of zeros. -/
def packV (u : Fin 64 → EReal) (l : Fin 80) : EReal :=
  if h : l.val < 64 then u ⟨l.val, h⟩ else if l.val = 64 then 1 else 0

theorem nrm_congr {x x' g g' : Fin 1024 → EReal} (h0 : ∀ e, x e = x' e) (h1 : ∀ e, g e = g' e) (e : Fin 1024) : nrm x g e = nrm x' g' e := by
  rw [funext h0, funext h1]

theorem packV_congr {u u' : Fin 64 → EReal} (h : ∀ d, u d = u' d) (l : Fin 80) : packV u l = packV u' l := by
  rw [funext h]

/-- The word of one names one. -/
theorem ofBits_one : Ideal.ofBits .f32 0x3F800000#32 = (1 : EReal) := by
  simp [Ideal.ofBits, Ideal.ieee, -EReal.coe_mul]; norm_num

end Cert.Proj
-- ==== Proof.Proj.Block.lean ====
/- What one grid point of the projection call computes: the normed rows, the projected columns, the packed values. -/
module

public import proofs.«01_k».proof.Proof.Proj.Row
public import proofs.«01_k».proof.Proof.Gen.Kernel3Ideal.Value

@[expose] public section

set_option maxRecDepth 16384

noncomputable section

namespace Cert.Kernel3Ideal.Proj

open Idealize.ShloMosaic Idealize.ShloMosaic.TcCoe Idealize.SL.Sem Finset
open Cert.Kernel3Ideal Cert.Kernel3Ideal.Gen
open Cert.Proj

variable (x : FVec Ideal S512x1024 .f32) (g : FVec Ideal S1x1024 .f32) (r : Fin 512)

theorem norm_at (e : Fin 1024) : k0_pay3 (F := Ideal) x g (ix2 r e) = nrm (fun e => x (ix2 r e)) (fun e => g (ix2 0 e)) e := by
  pointwise [k0_pay3]
  exact nrm_congr (fun e => congrArg x (by idx_ext)) (fun e => congrArg g (by idx_ext)) e

section Products

variable (a : FVec Ideal S512x1024 .bf16)

/-- A block row's product with a block of columns. -/
theorem fv_at (w : FVec Ideal S1x1024x512 .bf16) (e : Fin 512) : k0_pay7 (F := Ideal) a w (ix2 r e) = ∑ c : Fin 1024, a (ix2 r c) * w (ix3 0 c e) := by
  pointwise [k0_pay7]
theorem fz_at (w : FVec Ideal S1x1024x512 .bf16) (e : Fin 512) : k0_pay110 (F := Ideal) a w (ix2 r e) = ∑ c : Fin 1024, a (ix2 r c) * w (ix3 0 c e) := by
  pointwise [k0_pay110]
theorem rq_at (w : FVec Ideal S1x1024x256 .bf16) (e : Fin 256) : k0_pay111 (F := Ideal) a w (ix2 r e) = ∑ c : Fin 1024, a (ix2 r c) * w (ix3 0 c e) := by
  pointwise [k0_pay111]
theorem rk_at (w : FVec Ideal S1x1024x256 .bf16) (e : Fin 256) : k0_pay112 (F := Ideal) a w (ix2 r e) = ∑ c : Fin 1024, a (ix2 r c) * w (ix3 0 c e) := by
  pointwise [k0_pay112]
theorem rv_at (w : FVec Ideal S1x1024x256 .bf16) (e : Fin 256) : k0_pay113 (F := Ideal) a w (ix2 r e) = ∑ c : Fin 1024, a (ix2 r c) * w (ix3 0 c e) := by
  pointwise [k0_pay113]
theorem rz_at (w : FVec Ideal S1x1024x256 .bf16) (e : Fin 256) : k0_pay114 (F := Ideal) a w (ix2 r e) = ∑ c : Fin 1024, a (ix2 r c) * w (ix3 0 c e) := by
  pointwise [k0_pay114]
theorem mq_at (w : FVec Ideal S1x1024x256 .bf16) (e : Fin 256) :
    k0_pay115 (F := Ideal) a w (ix2 r e) = (∑ c : Fin 1024, a (ix2 r c) * w (ix3 0 c e)) * Ideal.ofBits .f32 0x3E000000#32 := by
  pointwise [k0_pay115]
theorem mz_at (w : FVec Ideal S1x1024x256 .bf16) (e : Fin 256) : k0_pay1 (F := Ideal) a w (ix2 r e) = ∑ c : Fin 1024, a (ix2 r c) * w (ix3 0 c e) := by
  pointwise [k0_pay1]

end Products

end Cert.Kernel3Ideal.Proj
-- ==== Proof.Proj.Value.lean ====
/- The projection call's results: every grid point writes its 512 rows, each column by the row function. -/
module

public import proofs.«01_k».proof.Proof.Proj.Block

@[expose] public section

set_option maxRecDepth 16384

noncomputable section

namespace Cert.Kernel3Ideal.Proj

open Idealize.ShloMosaic Idealize.ShloMosaic.TcCoe Idealize.SL.Sem Finset
open Idealize.ShloMosaic.Pipeline (Dat)
open Cert.Kernel3Ideal Cert.Kernel3Ideal.Gen
open Cert.Proj

variable (m : (ℓ : Loc nD τ sig) → Buf (Elt Ideal) ℓ)

/-- The operands as the call is given them. -/
def A0 (c : Dev nD) : FVec Ideal S16384x1024 .f32 := m ((c.tc : Thread nD τ).loc main_arg0)
def A1 (c : Dev nD) : FVec Ideal S4x1024 .f32 := m ((c.tc : Thread nD τ).loc main_arg1)
def A2 (c : Dev nD) : FVec Ideal S4x1024x3592 .f32 := m ((c.tc : Thread nD τ).loc main_arg2)

/-- A token's projection onto one column. -/
def col (c : Dev nD) (s : Fin 16384) (e : Fin 3592) : EReal :=
  proj (fun e => A0 m c (ix2 s e)) (fun e => A1 m c (ix2 3 e)) (fun d e => A2 m c (ix3 3 d e)) e

/-- The scale row reaches the call cut out of its table. -/
theorem V_v6 (c : Dev nD) (d : Fin 1024) : (V m c main_v6 : FVec Ideal S1x1024 .f32) (ix2 0 d) = A1 m c (ix2 3 d) := by
  have e : V m c main_v6 = broadcastInDim S1x1024 ![1] bcast_S1024_S1x1024_1
      (shapeCast S1024 (extractStridedSlice S1x1024 ![3, 0] (A1 m c) slices_S4x1024_S1x1024_3_0) shapeCasts_S1x1024_S1024) := rfl
  rw [e]
  generalize A1 m c = X
  pointwise

/-- The weights reach the call narrowed, which changes no value, and once more without their first columns. -/
theorem V_v7 (c : Dev nD) : V m c main_v7 = A2 m c := by
  entry_read
  rfl
theorem V_v10 (c : Dev nD) (e : Fin 1024) (d : Fin 1536) :
    (V m c main_v10 : FVec Ideal S4x1024x1536 .bf16) (ix3 3 e d) = A2 m c (ix3 3 e ⟨2056 + d.val, by omega⟩) := by
  have h : V m c main_v10 = extractStridedSlice S4x1024x1536 ![0, 0, 2056] (A2 m c) slices_S4x1024x3592_S4x1024x1536_0_0_2056 := rfl
  rw [h]
  generalize A2 m c = X
  pointwise

/-- Where the blocks lie: the rows move with the grid, the tables stay at the last layer. -/
theorem idx : ∀ t : Fin cfg0.N, win0_0.index t = ![t.val, 0] ∧ win0_1.index t = ![0, 0] ∧ win0_2.index t = ![3, 0, 0] ∧ win0_3.index t = ![3, 0, 0]
    ∧ win0_9.index t = ![0, 0, t.val] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0] :=
  (by decide +kernel : ∀ t : Fin grid0.N, _)

section Reads

variable (c : Dev nD) (t : Fin cfg0.N) (r : Fin 512)

/-- The array row a block row is. -/
def pos (t : Fin cfg0.N) (r : Fin 512) : Fin 16384 := ⟨t.val * 512 + r.val, by have : t.val < 32 := lt_of_lt_of_eq t.isLt N_0; omega⟩

theorem read0 (e : Fin 1024) : (iblk m c 0 t : FVec Ideal S512x1024 .f32) (ix2 r e) = A0 m c (ix2 (pos t r) e) := by
  unfold A0 pos; blk_ext [iblk, V, idx t]
theorem read1 (d : Fin 1024) : (iblk m c 1 t : FVec Ideal S1x1024 .f32) (ix2 0 d) = A1 m c (ix2 3 d) := by
  refine Eq.trans ?_ (V_v6 m c d)
  generalize hX : V m c main_v6 = X
  have e : (iblk m c 1 t : FVec Ideal S1x1024 .f32) (ix2 0 d) = X (((cfg0.win 1).blk t).view.emb (ix2 0 d)) := by rw [← hX]; rfl
  refine e.trans ?_
  blk_ext [idx t]
theorem read2 (e : Fin 1024) (d : Fin 2048) : (X0_2 m c t : FVec Ideal S1x1024x2048 .bf16) (ix3 0 e d) = A2 m c (ix3 3 e ⟨d.val, by omega⟩) := by
  refine Eq.trans ?_ (congrFun (V_v7 m c) _)
  generalize hX : V m c main_v7 = X
  have h : X0_2 m c t (ix3 0 e d) = X (((cfg0.win 2).blk t).view.emb
      fun a => ⟨((ix3 0 e d : S1x1024x2048.Idx) a).val, lt_of_lt_of_eq ((ix3 0 e d : S1x1024x2048.Idx) a).isLt (xsize0_2 t a).symm⟩) := by
    unfold X0_2 Pipeline.Window.fill
    rw [dif_pos (moved0_2 t _), ← hX]
    rfl
  refine h.trans (congrArg X (funext fun a => Fin.ext ?_))
  match a with
  | ⟨0, _⟩ => show win0_2.index t 0 * 1 + 1 * 0 = 3; rw [(idx t).2.2.1]; rfl
  | ⟨1, _⟩ => show win0_2.index t 1 * 1024 + 1 * e.val = e.val; rw [(idx t).2.2.1]; show 0 * 1024 + 1 * e.val = e.val; omega
  | ⟨2, _⟩ => show win0_2.index t 2 * 2048 + 1 * d.val = d.val; rw [(idx t).2.2.1]; show 0 * 2048 + 1 * d.val = d.val; omega
theorem read3 (e : Fin 1024) (d : Fin 1536) : (iblk m c 3 t : FVec Ideal S1x1024x1536 .bf16) (ix3 0 e d) = A2 m c (ix3 3 e ⟨2056 + d.val, by omega⟩) := by
  refine Eq.trans ?_ (V_v10 m c e d)
  generalize hX : V m c main_v10 = X
  have e : (iblk m c 3 t : FVec Ideal S1x1024x1536 .bf16) (ix3 0 e d) = X (((cfg0.win 3).blk t).view.emb (ix3 0 e d)) := by rw [← hX]; rfl
  refine e.trans ?_
  blk_ext [idx t]

/-- The block's normed rows are the array's. -/
theorem norm_read (e : Fin 1024) : k0_pay3 (F := Ideal) (iblk m c 0 t) (iblk m c 1 t) (ix2 r e)
    = nrm (fun e => A0 m c (ix2 (pos t r) e)) (fun e => A1 m c (ix2 3 e)) e :=
  (norm_at _ _ r e).trans (nrm_congr (read0 m c t r) (read1 m c t) e)

/-- A block row's product with the columns from `o` on is the token's projection onto those columns. -/
theorem col_wh {n : ℕ} (o : ℕ) (w : Fin 1024 → Fin n → EReal) (e : Fin n) (he : o + e.val < 2048)
    (hw : ∀ d, w d e = (X0_2 m c t : FVec Ideal S1x1024x2048 .bf16) (ix3 0 d ⟨o + e.val, he⟩)) :
    ∑ d : Fin 1024, k0_pay3 (F := Ideal) (iblk m c 0 t) (iblk m c 1 t) (ix2 r d) * w d e = col m c (pos t r) ⟨o + e.val, by omega⟩ :=
  sum_congr rfl fun d _ => congrArg₂ (· * ·) (norm_read m c t r d) ((hw d).trans (read2 m c t d _))
theorem col_wt {n : ℕ} (o : ℕ) (w : Fin 1024 → Fin n → EReal) (e : Fin n) (he : o + e.val < 1536)
    (hw : ∀ d, w d e = (iblk m c 3 t : FVec Ideal S1x1024x1536 .bf16) (ix3 0 d ⟨o + e.val, he⟩)) :
    ∑ d : Fin 1024, k0_pay3 (F := Ideal) (iblk m c 0 t) (iblk m c 1 t) (ix2 r d) * w d e = col m c (pos t r) ⟨2056 + (o + e.val), by omega⟩ :=
  sum_congr rfl fun d _ => congrArg₂ (· * ·) (norm_read m c t r d) ((hw d).trans (read3 m c t d _))

end Reads

end Cert.Kernel3Ideal.Proj
-- ==== Proof.Proj.Plain.lean ====
/- The projection call's plain results: every grid point writes its 512 rows of each, a run of the projection's columns. -/
module

public import proofs.«01_k».proof.Proof.Proj.Value

@[expose] public section

set_option maxRecDepth 16384

noncomputable section

namespace Cert.Kernel3Ideal.Proj

open Idealize.ShloMosaic Idealize.ShloMosaic.TcCoe Idealize.SL.Sem Finset
open Idealize.ShloMosaic.Pipeline (Dat)
open Cert.Kernel3Ideal Cert.Kernel3Ideal.Gen
open Cert.Proj

variable (m : (ℓ : Loc nD τ sig) → Buf (Elt Ideal) ℓ)

/-- A plain result: `n` columns of the projection from `o` on. -/
def cols (n o : ℕ) (ho : o + n ≤ 3592) (c : Dev nD) : FVec Ideal ⟨2, ![16384, n]⟩ .f32 :=
  fun j => col m c (j 0) ⟨o + (j 1).val, by have h : (j 1).val < n := (j 1).isLt; omega⟩

/-- A run of 256 columns read from the second table. -/
theorem tail_ld (X : Vec Ideal S1x1024x1536 .bf16) (o : ℕ) (hi : ∀ a, (![0, 0, o] : Fin 3 → Nat) a + S1x1024x256.size a ≤ S1x1024x1536.size a)
    (d : Fin 1024) (e : Fin 256) (he : o + e.val < 1536) :
    View.ld X (Rect.unit ![0, 0, o] ![1, 1024, 256] hi) (ix3 0 d e) = X (ix3 0 d ⟨o + e.val, he⟩) := by
  refine congrArg X (funext fun a => Fin.ext ?_)
  match a with
  | ⟨0, _⟩ => rfl
  | ⟨1, _⟩ => show 0 + 1 * d.val = d.val; omega
  | ⟨2, _⟩ => show o + 1 * e.val = o + e.val; omega

/-- A product with such a run is the token's projection onto those columns. -/
theorem tail_at (c : Dev nD) (t : Fin cfg0.N) (r : Fin 512) (o : ℕ) (hi : ∀ a, (![0, 0, o] : Fin 3 → Nat) a + S1x1024x256.size a ≤ S1x1024x1536.size a)
    (e : Fin 256) (he : o + e.val < 1536) :
    ∑ d : Fin 1024, k0_pay3 (F := Ideal) (iblk m c 0 t) (iblk m c 1 t) (ix2 r d)
        * (View.ld (iblk m c 3 t) (Rect.unit ![0, 0, o] ![1, 1024, 256] hi) : FVec Ideal S1x1024x256 .bf16) (ix3 0 d e)
      = col m c (pos t r) ⟨2056 + (o + e.val), by omega⟩ :=
  col_wt m c t r o (fun d e => (View.ld (iblk m c 3 t) (Rect.unit ![0, 0, o] ![1, 1024, 256] hi) : FVec Ideal S1x1024x256 .bf16) (ix3 0 d e)) e he
    fun d => tail_ld (iblk m c 3 t) o hi d e he

theorem fz_block (c : Dev nD) (t : Fin cfg0.N) (r : Fin 512) (e : Fin 512) :
    (outsAt0 m c t.val t.isLt).2.2.2.1 (ix2 r e) = col m c (pos t r) ⟨1536 + e.val, by omega⟩ := by
  have h : (outsAt0 m c t.val t.isLt).2.2.2.1 (ix2 r e) = k0_pay110 (F := Ideal) (k0_pay3 (iblk m c 0 t) (iblk m c 1 t))
      (View.ld (X0_2 m c t) (Rect.unit ![0, 0, 1536] ![1, 1024, 512] inb_S1x1024x2048_S1x1024x512_0_0_1536)) (ix2 r e) := by
    by_cases h : t.val % 32 = 0
    · rw [outsAt0_A m c t h]; frame_out; rfl
    · rw [outsAt0_B m c t h]; frame_out; rfl
  exact h.trans ((fz_at r _ _ e).trans (col_wh m c t r 1536 (fun d e => (View.ld (X0_2 m c t) (Rect.unit ![0, 0, 1536] ![1, 1024, 512] inb_S1x1024x2048_S1x1024x512_0_0_1536) : FVec Ideal S1x1024x512 .bf16) (ix3 0 d e)) e (by omega) fun d => congrArg (X0_2 m c t) (by idx_ext)))
theorem final_fz (c : Dev nD) : (dats m 0 c).arrAt 10 cfg0.N = cols m 512 1536 (by decide) c := by
  refine Dat.arrAt_eq_of_covers (dats m 0 c) 10 (cols m 512 1536 (by decide) c) (by decide +kernel : (cfg0.win 10).Covers) fun t hf y => ?_
  blk_simp
  rw [after0_10]
  refine (congrArg (outsAt0 m c t.val t.isLt).2.2.2.1 (eq_ix2 (y : S512x512.Idx))).trans ((fz_block m c t _ _).trans ?_)
  unfold cols
  refine (congrArg₂ (col m c) (Fin.ext ?_) (Fin.ext ?_))
  · unfold pos; blk_simp [idx t]
  · blk_simp [idx t]

theorem rq_block (c : Dev nD) (t : Fin cfg0.N) (r : Fin 512) (e : Fin 256) :
    (outsAt0 m c t.val t.isLt).2.2.2.2.1 (ix2 r e) = col m c (pos t r) ⟨2056 + e.val, by omega⟩ := by
  have h : (outsAt0 m c t.val t.isLt).2.2.2.2.1 (ix2 r e) = k0_pay111 (F := Ideal) (k0_pay3 (iblk m c 0 t) (iblk m c 1 t))
      (View.ld (iblk m c 3 t) (Rect.unit ![0, 0, 0] ![1, 1024, 256] inb_S1x1024x1536_S1x1024x256_0_0_0)) (ix2 r e) := by
    by_cases h : t.val % 32 = 0
    · rw [outsAt0_A m c t h]; frame_out; rfl
    · rw [outsAt0_B m c t h]; frame_out; rfl
  exact h.trans ((rq_at r _ _ e).trans ((tail_at m c t r 0 inb_S1x1024x1536_S1x1024x256_0_0_0 e (by omega)).trans (congrArg (col m c _) (Fin.ext (by show 2056 + (0 + e.val) = 2056 + e.val; omega)))))
theorem final_rq (c : Dev nD) : (dats m 0 c).arrAt 11 cfg0.N = cols m 256 2056 (by decide) c := by
  refine Dat.arrAt_eq_of_covers (dats m 0 c) 11 (cols m 256 2056 (by decide) c) (by decide +kernel : (cfg0.win 11).Covers) fun t hf y => ?_
  blk_simp
  rw [after0_11]
  refine (congrArg (outsAt0 m c t.val t.isLt).2.2.2.2.1 (eq_ix2 (y : S512x256.Idx))).trans ((rq_block m c t _ _).trans ?_)
  unfold cols
  refine (congrArg₂ (col m c) (Fin.ext ?_) (Fin.ext ?_))
  · unfold pos; blk_simp [idx t]
  · blk_simp [idx t]

theorem rk_block (c : Dev nD) (t : Fin cfg0.N) (r : Fin 512) (e : Fin 256) :
    (outsAt0 m c t.val t.isLt).2.2.2.2.2.1 (ix2 r e) = col m c (pos t r) ⟨2312 + e.val, by omega⟩ := by
  have h : (outsAt0 m c t.val t.isLt).2.2.2.2.2.1 (ix2 r e) = k0_pay112 (F := Ideal) (k0_pay3 (iblk m c 0 t) (iblk m c 1 t))
      (View.ld (iblk m c 3 t) (Rect.unit ![0, 0, 256] ![1, 1024, 256] inb_S1x1024x1536_S1x1024x256_0_0_256)) (ix2 r e) := by
    by_cases h : t.val % 32 = 0
    · rw [outsAt0_A m c t h]; frame_out; rfl
    · rw [outsAt0_B m c t h]; frame_out; rfl
  exact h.trans ((rk_at r _ _ e).trans ((tail_at m c t r 256 inb_S1x1024x1536_S1x1024x256_0_0_256 e (by omega)).trans (congrArg (col m c _) (Fin.ext (by show 2056 + (256 + e.val) = 2312 + e.val; omega)))))
theorem final_rk (c : Dev nD) : (dats m 0 c).arrAt 12 cfg0.N = cols m 256 2312 (by decide) c := by
  refine Dat.arrAt_eq_of_covers (dats m 0 c) 12 (cols m 256 2312 (by decide) c) (by decide +kernel : (cfg0.win 12).Covers) fun t hf y => ?_
  blk_simp
  rw [after0_12]
  refine (congrArg (outsAt0 m c t.val t.isLt).2.2.2.2.2.1 (eq_ix2 (y : S512x256.Idx))).trans ((rk_block m c t _ _).trans ?_)
  unfold cols
  refine (congrArg₂ (col m c) (Fin.ext ?_) (Fin.ext ?_))
  · unfold pos; blk_simp [idx t]
  · blk_simp [idx t]

theorem rv_block (c : Dev nD) (t : Fin cfg0.N) (r : Fin 512) (e : Fin 256) :
    (outsAt0 m c t.val t.isLt).2.2.2.2.2.2.1 (ix2 r e) = col m c (pos t r) ⟨2568 + e.val, by omega⟩ := by
  have h : (outsAt0 m c t.val t.isLt).2.2.2.2.2.2.1 (ix2 r e) = k0_pay113 (F := Ideal) (k0_pay3 (iblk m c 0 t) (iblk m c 1 t))
      (View.ld (iblk m c 3 t) (Rect.unit ![0, 0, 512] ![1, 1024, 256] inb_S1x1024x1536_S1x1024x256_0_0_512)) (ix2 r e) := by
    by_cases h : t.val % 32 = 0
    · rw [outsAt0_A m c t h]; frame_out; rfl
    · rw [outsAt0_B m c t h]; frame_out; rfl
  exact h.trans ((rv_at r _ _ e).trans ((tail_at m c t r 512 inb_S1x1024x1536_S1x1024x256_0_0_512 e (by omega)).trans (congrArg (col m c _) (Fin.ext (by show 2056 + (512 + e.val) = 2568 + e.val; omega)))))
theorem final_rv (c : Dev nD) : (dats m 0 c).arrAt 13 cfg0.N = cols m 256 2568 (by decide) c := by
  refine Dat.arrAt_eq_of_covers (dats m 0 c) 13 (cols m 256 2568 (by decide) c) (by decide +kernel : (cfg0.win 13).Covers) fun t hf y => ?_
  blk_simp
  rw [after0_13]
  refine (congrArg (outsAt0 m c t.val t.isLt).2.2.2.2.2.2.1 (eq_ix2 (y : S512x256.Idx))).trans ((rv_block m c t _ _).trans ?_)
  unfold cols
  refine (congrArg₂ (col m c) (Fin.ext ?_) (Fin.ext ?_))
  · unfold pos; blk_simp [idx t]
  · blk_simp [idx t]

theorem rz_block (c : Dev nD) (t : Fin cfg0.N) (r : Fin 512) (e : Fin 256) :
    (outsAt0 m c t.val t.isLt).2.2.2.2.2.2.2.1 (ix2 r e) = col m c (pos t r) ⟨2824 + e.val, by omega⟩ := by
  have h : (outsAt0 m c t.val t.isLt).2.2.2.2.2.2.2.1 (ix2 r e) = k0_pay114 (F := Ideal) (k0_pay3 (iblk m c 0 t) (iblk m c 1 t))
      (View.ld (iblk m c 3 t) (Rect.unit ![0, 0, 768] ![1, 1024, 256] inb_S1x1024x1536_S1x1024x256_0_0_768)) (ix2 r e) := by
    by_cases h : t.val % 32 = 0
    · rw [outsAt0_A m c t h]; frame_out; rfl
    · rw [outsAt0_B m c t h]; frame_out; rfl
  exact h.trans ((rz_at r _ _ e).trans ((tail_at m c t r 768 inb_S1x1024x1536_S1x1024x256_0_0_768 e (by omega)).trans (congrArg (col m c _) (Fin.ext (by show 2056 + (768 + e.val) = 2824 + e.val; omega)))))
theorem final_rz (c : Dev nD) : (dats m 0 c).arrAt 14 cfg0.N = cols m 256 2824 (by decide) c := by
  refine Dat.arrAt_eq_of_covers (dats m 0 c) 14 (cols m 256 2824 (by decide) c) (by decide +kernel : (cfg0.win 14).Covers) fun t hf y => ?_
  blk_simp
  rw [after0_14]
  refine (congrArg (outsAt0 m c t.val t.isLt).2.2.2.2.2.2.2.1 (eq_ix2 (y : S512x256.Idx))).trans ((rz_block m c t _ _).trans ?_)
  unfold cols
  refine (congrArg₂ (col m c) (Fin.ext ?_) (Fin.ext ?_))
  · unfold pos; blk_simp [idx t]
  · blk_simp [idx t]

theorem mq_block (c : Dev nD) (t : Fin cfg0.N) (r : Fin 512) (e : Fin 256) :
    (outsAt0 m c t.val t.isLt).2.2.2.2.2.2.2.2.1 (ix2 r e) = col m c (pos t r) ⟨3080 + e.val, by omega⟩ * Ideal.ofBits .f32 0x3E000000#32 := by
  have h : (outsAt0 m c t.val t.isLt).2.2.2.2.2.2.2.2.1 (ix2 r e) = k0_pay115 (F := Ideal) (k0_pay3 (iblk m c 0 t) (iblk m c 1 t))
      (View.ld (iblk m c 3 t) (Rect.unit ![0, 0, 1024] ![1, 1024, 256] inb_S1x1024x1536_S1x1024x256_0_0_1024)) (ix2 r e) := by
    by_cases h : t.val % 32 = 0
    · rw [outsAt0_A m c t h]; frame_out; rfl
    · rw [outsAt0_B m c t h]; frame_out; rfl
  exact h.trans ((mq_at r _ _ e).trans (congrArg (· * Ideal.ofBits .f32 0x3E000000#32) ((tail_at m c t r 1024 inb_S1x1024x1536_S1x1024x256_0_0_1024 e (by omega)).trans (congrArg (col m c _) (Fin.ext (by show 2056 + (1024 + e.val) = 3080 + e.val; omega))))))
theorem final_mq (c : Dev nD) : (dats m 0 c).arrAt 15 cfg0.N = fun j => cols m 256 3080 (by decide) c j * Ideal.ofBits .f32 0x3E000000#32 := by
  refine Dat.arrAt_eq_of_covers (dats m 0 c) 15 (fun j => cols m 256 3080 (by decide) c j * Ideal.ofBits .f32 0x3E000000#32) (by decide +kernel : (cfg0.win 15).Covers) fun t hf y => ?_
  blk_simp
  rw [after0_15]
  refine (congrArg (outsAt0 m c t.val t.isLt).2.2.2.2.2.2.2.2.1 (eq_ix2 (y : S512x256.Idx))).trans ((mq_block m c t _ _).trans ?_)
  unfold cols
  refine congrArg (· * _) (congrArg₂ (col m c) (Fin.ext ?_) (Fin.ext ?_))
  · unfold pos; blk_simp [idx t]
  · blk_simp [idx t]

theorem mz_block (c : Dev nD) (t : Fin cfg0.N) (r : Fin 512) (e : Fin 256) :
    (outsAt0 m c t.val t.isLt).2.2.2.2.2.2.2.2.2.1 (ix2 r e) = col m c (pos t r) ⟨3336 + e.val, by omega⟩ := by
  have h : (outsAt0 m c t.val t.isLt).2.2.2.2.2.2.2.2.2.1 (ix2 r e) = k0_pay1 (F := Ideal) (k0_pay3 (iblk m c 0 t) (iblk m c 1 t))
      (View.ld (iblk m c 3 t) (Rect.unit ![0, 0, 1280] ![1, 1024, 256] inb_S1x1024x1536_S1x1024x256_0_0_1280)) (ix2 r e) := by
    by_cases h : t.val % 32 = 0
    · rw [outsAt0_A m c t h]; frame_out; rfl
    · rw [outsAt0_B m c t h]; frame_out; rfl
  exact h.trans ((mz_at r _ _ e).trans ((tail_at m c t r 1280 inb_S1x1024x1536_S1x1024x256_0_0_1280 e (by omega)).trans (congrArg (col m c _) (Fin.ext (by show 2056 + (1280 + e.val) = 3336 + e.val; omega)))))
theorem final_mz (c : Dev nD) : (dats m 0 c).arrAt 16 cfg0.N = cols m 256 3336 (by decide) c := by
  refine Dat.arrAt_eq_of_covers (dats m 0 c) 16 (cols m 256 3336 (by decide) c) (by decide +kernel : (cfg0.win 16).Covers) fun t hf y => ?_
  blk_simp
  rw [after0_16]
  refine (congrArg (outsAt0 m c t.val t.isLt).2.2.2.2.2.2.2.2.2.1 (eq_ix2 (y : S512x256.Idx))).trans ((mz_block m c t _ _).trans ?_)
  unfold cols
  refine (congrArg₂ (col m c) (Fin.ext ?_) (Fin.ext ?_))
  · unfold pos; blk_simp [idx t]
  · blk_simp [idx t]

end Cert.Kernel3Ideal.Proj
-- ==== Proof.Proj.Packed.lean ====
/- The packed values of the projection call: each head's 64 columns, a lane of ones and lanes of zeros, one store per head. -/
module

public import proofs.«01_k».proof.Proof.Proj.Value

@[expose] public section

set_option maxRecDepth 16384

noncomputable section

namespace Cert.Kernel3Ideal.Proj

open Idealize.ShloMosaic Idealize.ShloMosaic.TcCoe Idealize.SL.Sem Finset
open Idealize.ShloMosaic.Pipeline (Dat)
open Cert.Kernel3Ideal Cert.Kernel3Ideal.Gen
open Cert.Proj

/-- A head's lane by its number: below 64 the value, at 64 one, zero past it. -/
theorem lane (l : Fin 80) (y : EReal) (u : Fin 64 → EReal) (h : ∀ h : l.val < 64, y = u ⟨l.val, h⟩) :
    Scalar.select (IntOp.cmpi .eq (BitVec.ofNat 32 l.val) 64#32) 1 (Scalar.select (IntOp.cmpi .slt (BitVec.ofNat 32 l.val) 64#32) y 0) = packV u l := by
  have e : ∀ l : Fin 80, IntOp.cmpi .eq (BitVec.ofNat 32 l.val) 64#32 = if l.val = 64 then 1#1 else 0#1 := by decide +kernel
  have f : ∀ l : Fin 80, IntOp.cmpi .slt (BitVec.ofNat 32 l.val) 64#32 = if l.val < 64 then 1#1 else 0#1 := by decide +kernel
  rw [e l, f l]
  unfold packV
  by_cases h1 : l.val < 64
  · rw [dif_pos h1, if_pos h1, if_neg (by omega)]
    exact h h1
  · rw [dif_neg h1, if_neg h1]
    by_cases h2 : l.val = 64
    · rw [if_pos h2, if_pos h2]; rfl
    · rw [if_neg h2, if_neg h2]; rfl

variable (m : (ℓ : Loc nD τ sig) → Buf (Elt Ideal) ℓ)

/-- The product of the block's rows with the value columns. -/
theorem v_col (c : Dev nD) (t : Fin cfg0.N) (r e : Fin 512) : k0_pay7 (F := Ideal) (k0_pay3 (iblk m c 0 t) (iblk m c 1 t))
      (View.ld (X0_2 m c t) (Rect.unit ![0, 0, 1024] ![1, 1024, 512] inb_S1x1024x2048_S1x1024x512_0_0_1024)) (ix2 r e)
    = col m c (pos t r) ⟨1024 + e.val, by omega⟩ :=
  (fv_at r _ _ e).trans (col_wh m c t r 1024 (fun d e => (View.ld (X0_2 m c t) (Rect.unit ![0, 0, 1024] ![1, 1024, 512]
    inb_S1x1024x2048_S1x1024x512_0_0_1024) : FVec Ideal S1x1024x512 .bf16) (ix3 0 d e)) e (by omega) fun d => congrArg (X0_2 m c t) (by idx_ext))

/-- What a point leaves in the block of the packed values: eight stores, one per head. An even head's lanes lie first in their 128 columns, an odd
    head's last, and are turned to the front. -/
theorem v_block (c : Dev nD) (t : Fin cfg0.N) (q : Fin 8) (l : Fin 80) (r : Fin 512) :
    (outsAt0 m c t.val t.isLt).2.2.1 (ix3 q l r) = packV (fun d => col m c (pos t r) ⟨1024 + (64 * q.val + d.val), by omega⟩) l := by
  refine Eq.trans ?_ (packV_congr (fun d => v_col m c t r ⟨64 * q.val + d.val, by omega⟩) l)
  by_cases hc : t.val % 32 = 0
  case' pos => rw [outsAt0_A m c t hc]; frame_out; clear hc
  case' neg => rw [outsAt0_B m c t hc]; frame_out; clear hc
  all_goals
    generalize k0_pay7 (F := Ideal) _ _ = T
    canon_tiles x h'
  all_goals
    open_payloads
    pointwise
    have hq : q.val = _ := h'0
    have hl : l.val = (x 1).val := h'1
    have hr : r.val = (x 2).val := h'2
    refine (lane ⟨(x 1).val, x1_lt⟩ _ (fun d => T (ix2 r ⟨64 * q.val + d.val, by omega⟩)) fun hlt => ?_).trans (congrArg _ (Fin.ext hl.symm))
    have hlt' : (x 1).val < 64 := hlt
    exact congrArg T (congrArg₂ ix2 (Fin.ext hr.symm) (Fin.ext (by show _ = 64 * q.val + (x 1).val; dsimp only; omega)))

/-- The packed values. -/
def packed (c : Dev nD) : FVec Ideal S8x80x16384 .f32 :=
  fun j => packV (fun d => col m c (j 2) ⟨1024 + (64 * (j 0).val + d.val), by have h : (j 0).val < 8 := (j 0).isLt; omega⟩) (j 1)
theorem final_v (c : Dev nD) : (dats m 0 c).arrAt 9 cfg0.N = packed m c := by
  refine Dat.arrAt_eq_of_covers (dats m 0 c) 9 (packed m c) (by decide +kernel : (cfg0.win 9).Covers) fun t hf y => ?_
  blk_simp
  rw [after0_9]
  refine (congrArg (outsAt0 m c t.val t.isLt).2.2.1 (eq_ix3 (y : S8x80x512.Idx))).trans ((v_block m c t _ _ _).trans ?_)
  unfold packed
  refine congrArg₂ packV (funext fun d => congrArg₂ (col m c) (Fin.ext ?_) (Fin.ext ?_)) (Fin.ext ?_)
  · unfold pos; blk_simp [idx t]
  · blk_simp [idx t]
  · blk_simp [idx t]

end Cert.Kernel3Ideal.Proj
-- ==== Proof.Proj.Reference.lean ====
/- The reference of the projection call, read at an index. -/
module

public import proofs.«01_k».proof.Proof.Proj.Row
public import proofs.«01_k».proof.Proof.Gen.Reference3Ideal.Read

@[expose] public section

set_option maxRecDepth 16384

noncomputable section

namespace Cert.Reference3Ideal.Read

open Idealize.ShloMosaic Finset
open Cert.Proj

variable (x0 : FVec Ideal S16384x1024 .f32) (x1 : FVec Ideal S4x1024 .f32) (x2 : FVec Ideal S4x1024x3592 .f32) (q : Fin 16384)

theorem v14_at (e : Fin 1024) : val_main_v14 (F := Ideal) x0 x1 (ix2 q e) = nrm (fun e => x0 (ix2 q e)) (fun e => x1 (ix2 3 e)) e := by
  pointwise [val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  exact nrm_congr (fun e => congrArg x0 (by idx_ext)) (fun e => congrArg x1 (by idx_ext)) e

theorem v16_at (c : Fin 1024) (e : Fin 3592) : val_main_v16 (F := Ideal) x2 (ix2 c e) = x2 (ix3 3 c e) := by
  rw [val_main_v16_apply, val_main_v15_apply]
  exact congrArg x2 (by idx_ext)

/-- The projection of a row. -/
theorem v17_at (e : Fin 3592) :
    val_main_v17 (F := Ideal) x0 x1 x2 (ix2 q e) = proj (fun e => x0 (ix2 q e)) (fun e => x1 (ix2 3 e)) (fun c e => x2 (ix3 3 c e)) e := by
  rw [val_main_v17_apply]
  refine sum_congr rfl fun c _ => congrArg₂ (· * ·) ?_ ?_
  · exact (congrArg _ (show lidx_main_v17 (ix2 q e) c = ix2 q c by idx_ext)).trans (v14_at x0 x1 q c)
  · exact (congrArg _ (show ridx_main_v17 (ix2 q e) c = ix2 c e by idx_ext)).trans (v16_at x2 c e)

/-- The plain results are columns of the projection. -/
theorem v18_at (e : Fin 512) : val_main_v18 (F := Ideal) x0 x1 x2 (ix2 q e)
    = proj (fun e => x0 (ix2 q e)) (fun e => x1 (ix2 3 e)) (fun c e => x2 (ix3 3 c e)) ⟨1536 + e.val, by omega⟩ := by
  rw [val_main_v18_apply, ← v17_at]
  exact congrArg _ (by idx_ext)
theorem v19_at (e : Fin 256) : val_main_v19 (F := Ideal) x0 x1 x2 (ix2 q e)
    = proj (fun e => x0 (ix2 q e)) (fun e => x1 (ix2 3 e)) (fun c e => x2 (ix3 3 c e)) ⟨2056 + e.val, by omega⟩ := by
  rw [val_main_v19_apply, ← v17_at]
  exact congrArg _ (by idx_ext)
theorem v20_at (e : Fin 256) : val_main_v20 (F := Ideal) x0 x1 x2 (ix2 q e)
    = proj (fun e => x0 (ix2 q e)) (fun e => x1 (ix2 3 e)) (fun c e => x2 (ix3 3 c e)) ⟨2312 + e.val, by omega⟩ := by
  rw [val_main_v20_apply, ← v17_at]
  exact congrArg _ (by idx_ext)
theorem v35_at (e : Fin 256) : val_main_v35 (F := Ideal) x0 x1 x2 (ix2 q e)
    = proj (fun e => x0 (ix2 q e)) (fun e => x1 (ix2 3 e)) (fun c e => x2 (ix3 3 c e)) ⟨2568 + e.val, by omega⟩ := by
  refine (show _ = val_main_v21 (F := Ideal) x0 x1 x2 (ix2 q e) from rfl).trans ?_
  rw [val_main_v21_apply, ← v17_at]
  exact congrArg _ (by idx_ext)
theorem v22_at (e : Fin 256) : val_main_v22 (F := Ideal) x0 x1 x2 (ix2 q e)
    = proj (fun e => x0 (ix2 q e)) (fun e => x1 (ix2 3 e)) (fun c e => x2 (ix3 3 c e)) ⟨2824 + e.val, by omega⟩ := by
  rw [val_main_v22_apply, ← v17_at]
  exact congrArg _ (by idx_ext)
theorem v23_at (e : Fin 256) : val_main_v23 (F := Ideal) x0 x1 x2 (ix2 q e)
    = proj (fun e => x0 (ix2 q e)) (fun e => x1 (ix2 3 e)) (fun c e => x2 (ix3 3 c e)) ⟨3080 + e.val, by omega⟩ := by
  rw [val_main_v23_apply, ← v17_at]
  exact congrArg _ (by idx_ext)
theorem v36_at (e : Fin 256) : val_main_v36 (F := Ideal) x0 x1 x2 (ix2 q e)
    = proj (fun e => x0 (ix2 q e)) (fun e => x1 (ix2 3 e)) (fun c e => x2 (ix3 3 c e)) ⟨3080 + e.val, by omega⟩ * Ideal.ofBits .f32 0x3E000000#32 :=
  congrArg (· * Ideal.ofBits .f32 0x3E000000#32) (v23_at x0 x1 x2 q e)
theorem v26_at (e : Fin 256) : val_main_v26 (F := Ideal) x0 x1 x2 (ix2 q e)
    = proj (fun e => x0 (ix2 q e)) (fun e => x1 (ix2 3 e)) (fun c e => x2 (ix3 3 c e)) ⟨3336 + e.val, by omega⟩ := by
  rw [val_main_v26_apply, ← v17_at]
  exact congrArg _ (by idx_ext)

/-- The packed values of a head. -/
theorem v34_at (h : Fin 8) (l : Fin 80) : val_main_v34 (F := Ideal) x0 x1 x2 (ix3 h l q)
    = packV (fun d => proj (fun e => x0 (ix2 q e)) (fun e => x1 (ix2 3 e)) (fun c e => x2 (ix3 3 c e)) ⟨1024 + (64 * h.val + d.val), by omega⟩) l := by
  refine Eq.trans (b := packV (fun d => val_main_v17 (F := Ideal) x0 x1 x2 (ix2 q ⟨1024 + (64 * h.val + d.val), by omega⟩)) l) ?_ (packV_congr (fun d => v17_at _ _ _ _ _) l)
  generalize hy : val_main_v17 (F := Ideal) x0 x1 x2 = y
  unfold packV
  pointwise [val_main_v34, val_main_v33, val_main_v32, val_main_v31, val_main_v30, val_main_v29, val_main_v28, val_main_v27, val_main_cst_3, val_main_cst_4, hy]
  by_cases h1 : l.val < 64
  · rw [dif_pos h1, dif_pos h1]
    exact congrArg y (by idx_ext)
  · rw [dif_neg h1, dif_neg h1]
    by_cases h2 : l.val = 64
    · rw [if_pos h2]; exact dif_pos (by omega)
    · rw [if_neg h2]; exact dif_neg (by omega)

end Cert.Reference3Ideal.Read
-- ==== Proof.Proj.Algebraic.lean ====
/- The projection call's value claim: the ideal call and its ideal reference end with equal packed values and plain results. -/
module

public import proofs.«01_k».proof.Defs
public import proofs.«01_k».proof.Proof.Proj.Plain
public import proofs.«01_k».proof.Proof.Proj.Packed
public import proofs.«01_k».proof.Proof.Proj.Reference
public import proofs.«01_k».proof.Proof.Gen.Reference3Ideal.Run

@[expose] public section

set_option maxRecDepth 16384

noncomputable section

namespace Cert.Proof.Proj

open Idealize.ShloMosaic Idealize.ShloMosaic.TcCoe Idealize.SL.Sem
open Cert.Kernel3Ideal.Proj
open Cert.Reference3Ideal.Read

/-- A reference result given entry by entry is the call's, entry by entry. -/
theorem ext2 {a b : ℕ} {X Y : (⟨2, ![a, b]⟩ : Shape).Idx → EReal} (h : ∀ (q : Fin a) (e : Fin b), X (ix2 q e) = Y (ix2 q e)) : X = Y := by
  funext j
  rw [eq_ix2 j]
  exact h _ _
theorem ext3 {a b c : ℕ} {X Y : (⟨3, ![a, b, c]⟩ : Shape).Idx → EReal} (h : ∀ (q : Fin a) (e : Fin b) (d : Fin c), X (ix3 q e d) = Y (ix3 q e d)) : X = Y := by
  funext j
  rw [eq_ix3 j]
  exact h _ _ _

theorem algebraic : Cert.algebraic_Kernel3Ideal_Reference3Ideal := by
  intro m g m' g' _ agree
  refine ⟨fun c => packed m c, fun c => cols m 512 1536 (by decide) c, fun c => cols m 256 2056 (by decide) c, fun c => cols m 256 2312 (by decide) c,
    fun c => cols m 256 2568 (by decide) c, fun c => cols m 256 2824 (by decide) c,
    fun c j => cols m 256 3080 (by decide) c j * Ideal.ofBits .f32 0x3E000000#32, fun c => cols m 256 3336 (by decide) c,
    (θ_run Cert.Kernel3Ideal.defs _ _).mono (fun _ h c => ?_) (Cert.Kernel3Ideal.Value.run_blocks (F := Ideal) m g), ?_⟩
  · obtain ⟨_, _, h0, h1, h2, h3, h4, h5, h6, h7, hr⟩ := h c
    exact ⟨h0.trans (final_v m c), h1.trans (final_fz m c), h2.trans (final_rq m c), h3.trans (final_rk m c), h4.trans (final_rv m c),
      h5.trans (final_rz m c), h6.trans (final_mq m c), h7.trans (final_mz m c), hr⟩
  · refine (θ_run Cert.Reference3Ideal.defs _ _).mono (fun r h c => ?_) (Cert.Reference3Ideal.Value.run (F := Ideal) m' g')
    obtain ⟨h0, h1, h2, h3, h4, h5, h6, h7, hr⟩ := h c
    obtain ⟨e0, e1, e2, e3⟩ := agree c
    refine ⟨h0.trans ?_, h1.trans ?_, h2.trans ?_, h3.trans ?_, h4.trans ?_, h5.trans ?_, h6.trans ?_, h7.trans ?_, hr⟩ <;> clear h0 h1 h2 h3 h4 h5 h6 h7 hr
    · refine (val_main_v34_eq _ _ _).trans ?_
      rw [e0, e1, e2]
      exact ext3 fun h l q => v34_at _ _ _ q h l
    · refine (val_main_v18_eq _ _ _).trans ?_
      rw [e0, e1, e2]
      exact ext2 fun q e => v18_at _ _ _ q e
    · refine (val_main_v19_eq _ _ _).trans ?_
      rw [e0, e1, e2]
      exact ext2 fun q e => v19_at _ _ _ q e
    · refine (val_main_v20_eq _ _ _).trans ?_
      rw [e0, e1, e2]
      exact ext2 fun q e => v20_at _ _ _ q e
    · refine (val_main_v35_eq _ _ _).trans ?_
      rw [e0, e1, e2]
      exact ext2 fun q e => v35_at _ _ _ q e
    · refine (val_main_v22_eq _ _ _).trans ?_
      rw [e0, e1, e2]
      exact ext2 fun q e => v22_at _ _ _ q e
    · refine (val_main_v36_eq _ _ _).trans ?_
      rw [e0, e1, e2]
      exact ext2 fun q e => v36_at _ _ _ q e
    · refine (val_main_v26_eq _ _ _).trans ?_
      rw [e0, e1, e2]
      exact ext2 fun q e => v26_at _ _ _ q e

end Cert.Proof.Proj
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Bits.Run
public import proofs.«01_k».proof.Proof.PreRead
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Out.Algebraic
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Proj.Algebraic
public import Idealize.ShloMosaic.Adequacy
public import Idealize.ShloMosaic.Init

@[expose] public section

noncomputable section

namespace Cert.Proof

open Idealize.ShloMosaic Idealize.ShloMosaic.TcCoe Idealize.SL.Sem

/-- The call terminates from every memory and leaves its operands and every counter as they were. -/
theorem frame_kernel : Cert.quiescent_Kernel := fun m g _ => Cert.Kernel.Fox.frame_all (F := Bits) (m := m) g

/-- Its ideal reading likewise. -/
theorem frame_ideal : Cert.quiescent_KernelIdeal := fun m g _ => Cert.KernelIdeal.Fox.frame_all (F := Ideal) (m := m) g

/-- The reference likewise: host operations alone, and no counter. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The mask is the named constant. -/
theorem mask : Cert.preserves_Kernel_KernelIdeal := IdealRules.named_const.statement _ _ _ _ _ rfl

/-- The out call terminates from every memory and leaves its operands and every counter as they were. -/
theorem frame_kernel2 : Cert.quiescent_Kernel2 := fun m g _ => Cert.Kernel2.Gen.frame (F := Bits) m g

/-- Its ideal reading likewise. -/
theorem frame_ideal2 : Cert.quiescent_Kernel2Ideal := fun m g _ => Cert.Kernel2Ideal.Gen.frame (F := Ideal) m g

/-- Its reference likewise. -/
theorem frame_reference2 : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The projection call terminates from every memory and leaves its operands and every counter as they were. -/
theorem frame_kernel3 : Cert.quiescent_Kernel3 := fun m g _ => Cert.Kernel3.Gen.frame (F := Bits) m g

/-- Its ideal reading likewise. -/
theorem frame_ideal3 : Cert.quiescent_Kernel3Ideal := fun m g _ => Cert.Kernel3Ideal.Gen.frame (F := Ideal) m g

/-- Its reference likewise. -/
theorem frame_reference3 : Cert.quiescent_Reference3Ideal := fun m g _ =>
  (θ_run Cert.Reference3Ideal.defs _ _).mono
    (fun r h => ⟨fun c => (h c).2.2.2.2.2.2.2.2, Idealize.ShloMosaic.sem_eq_zero_of_no_sems (by decide) r.2⟩)
    (Cert.Reference3Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_operands.facts,
    frame_kernel, frame_ideal, fun m g _ => frame_ideal m g trivial, frame_reference, fun m g _ => frame_reference m g trivial,
    frame_kernel2, frame_ideal2, frame_reference2, frame_kernel3, frame_ideal3, frame_reference3,
    mask, Cert.Proof.algebraic, trivial, Cert.Proof.Out.algebraic, trivial, Cert.Proof.Proj.algebraic⟩

end Cert.Proof

end
